-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite10 [hPre_finite10 : Cert.Pre_finite10.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite10.fn (F := Ideal) (m ((c.tc : Thread Cert.Kernel10Ideal.nD Cert.Kernel10Ideal.τ).loc Cert.Kernel10Ideal.main_arg0))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite10 [hPre_finite10 : Cert.Pre_finite10.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite10.fn (F := Ideal) (m ((c.tc : Thread Cert.Reference10Ideal.nD Cert.Reference10Ideal.τ).loc Cert.Reference10Ideal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0))
      ∧ r.2.sem = fun _ => 0)

def quiescent_Kernel10Ideal_pre_finite10 [hKernel10Ideal : Cert.Kernel10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite10 m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0))
      ∧ r.2.sem = fun _ => 0)

def quiescent_Reference10Ideal_pre_finite10 [hReference10Ideal : Cert.Reference10Ideal.Facts] [hPre_finite10 : Cert.Pre_finite10.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite10 m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_v8) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_v8) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_v8) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v55) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v2_0)) (v1 : (c : Dev Cert.Kernel8Ideal.nD) → Buf (Elt Ideal) ((c.tc : Thread Cert.Kernel8Ideal.nD Cert.Kernel8Ideal.τ).loc Cert.Kernel8Ideal.main_v2_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2_0) = v0 c
          ∧ r.2.mem ((c.tc : Thread Cert.Kernel8Ideal.nD Cert.Kernel8Ideal.τ).loc Cert.Kernel8Ideal.main_v2_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v38) = v0 c
          ∧ r.2.mem ((c.tc : Thread Cert.Reference8Ideal.nD Cert.Reference8Ideal.τ).loc Cert.Reference8Ideal.main_v40) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v19) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal_pre_finite10 [hKernel10Ideal : Cert.Kernel10Ideal.Facts] [hReference10Ideal : Cert.Reference10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite10 m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)) →
    ∃ (v0 : (c : Dev Cert.Kernel10Ideal.nD) → Buf (Elt Ideal) ((c.tc : Thread Cert.Kernel10Ideal.nD Cert.Kernel10Ideal.τ).loc Cert.Kernel10Ideal.main_v91)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v91) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v122) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts) (hPre_finite10 : Cert.Pre_finite10.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_finite10 (hKernel10Ideal := hKernel10Ideal) (hPre_finite10 := hPre_finite10)
    ∧ quiescent_Reference10Ideal (hReference10Ideal := hReference10Ideal)
    ∧ quiescent_Reference10Ideal_pre_finite10 (hReference10Ideal := hReference10Ideal) (hPre_finite10 := hPre_finite10)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_finite10 (hKernel10Ideal := hKernel10Ideal) (hReference10Ideal := hReference10Ideal) (hPre_finite10 := hPre_finite10)
-- ==== Pre_finite.lean ====
abbrev S2x8192x5120 : Shape := ⟨3, ![2, 8192, 5120]⟩
abbrev S2x8192x128 : Shape := ⟨3, ![2, 8192, 128]⟩
abbrev S_ : Shape := ⟨0, ![]⟩

class Facts : Prop where
  bitsLt_bf16_f32 : FTy.bits .bf16 < FTy.bits .f32
  bcast_S_S2x8192x5120 : S_.BroadcastsInDim S2x8192x5120 (![] : Fin 0 → Fin S2x8192x5120.rank)
  bcast_S_S2x8192x128 : S_.BroadcastsInDim S2x8192x128 (![] : Fin 0 → Fin S2x8192x128.rank)

variable [Facts]

def fn {F : FTy → Type} [FloatOps F] (main_arg0 : FVec F S2x8192x5120 .bf16) (main_arg1 : FVec F S2x8192x128 .bf16) : IVec S2x8192x5120 1 × IVec S2x8192x128 1 :=
  let main_v0 : FVec F S2x8192x5120 .f32 := (extf .f32 · bitsLt_bf16_f32) main_arg0
  let main_v1 : FVec F S2x8192x5120 .f32 := Host.absf main_v0
  let main_cst : FVec F S_ .f32 := constant S_ .f32 0x7F800000#32
  let main_v2 : FVec F S2x8192x5120 .f32 := broadcastInDim S2x8192x5120 ![] bcast_S_S2x8192x5120 main_cst
  let main_v3 : IVec S2x8192x5120 1 := cmpf .olt main_v1 main_v2
  let main_v4 : FVec F S2x8192x128 .f32 := (extf .f32 · bitsLt_bf16_f32) main_arg1
  let main_v5 : FVec F S2x8192x128 .f32 := Host.absf main_v4
  let main_cst_0 : FVec F S_ .f32 := constant S_ .f32 0x7F800000#32
  let main_v6 : FVec F S2x8192x128 .f32 := broadcastInDim S2x8192x128 ![] bcast_S_S2x8192x128 main_cst_0
  let main_v7 : IVec S2x8192x128 1 := cmpf .olt main_v5 main_v6
  (main_v3, main_v7)
-- ==== Pre_finite10.lean ====
abbrev S2x8192x5120 : Shape := ⟨3, ![2, 8192, 5120]⟩
abbrev S_ : Shape := ⟨0, ![]⟩

class Facts : Prop where
  bitsLt_bf16_f32 : FTy.bits .bf16 < FTy.bits .f32
  bcast_S_S2x8192x5120 : S_.BroadcastsInDim S2x8192x5120 (![] : Fin 0 → Fin S2x8192x5120.rank)

variable [Facts]

def fn {F : FTy → Type} [FloatOps F] (main_arg0 : FVec F S2x8192x5120 .bf16) : IVec S2x8192x5120 1 :=
  let main_v0 : FVec F S2x8192x5120 .f32 := (extf .f32 · bitsLt_bf16_f32) main_arg0
  let main_v1 : FVec F S2x8192x5120 .f32 := Host.absf main_v0
  let main_cst : FVec F S_ .f32 := constant S_ .f32 0x7F800000#32
  let main_v2 : FVec F S2x8192x5120 .f32 := broadcastInDim S2x8192x5120 ![] bcast_S_S2x8192x5120 main_cst
  let main_v3 : IVec S2x8192x5120 1 := cmpf .olt main_v1 main_v2
  main_v3
-- ==== Kernel.lean ====
abbrev S2x8192x5120 : Shape := ⟨3, ![2, 8192, 5120]⟩
abbrev S2x8192x128 : Shape := ⟨3, ![2, 8192, 128]⟩
abbrev S2x8192x1024 : Shape := ⟨3, ![2, 8192, 1024]⟩
abbrev S1x2048x128 : Shape := ⟨3, ![1, 2048, 128]⟩
abbrev S1x8192x128 : Shape := ⟨3, ![1, 8192, 128]⟩
abbrev S8192x256 : Shape := ⟨2, ![8192, 256]⟩
abbrev S2048x1024 : Shape := ⟨2, ![2048, 1024]⟩
abbrev S2048x128 : Shape := ⟨2, ![2048, 128]⟩
abbrev S2048x256 : Shape := ⟨2, ![2048, 256]⟩
abbrev S8192x128 : Shape := ⟨2, ![8192, 128]⟩
abbrev S1024x256 : Shape := ⟨2, ![1024, 256]⟩
abbrev S128x1024 : Shape := ⟨2, ![128, 1024]⟩
abbrev S128x128 : Shape := ⟨2, ![128, 128]⟩
abbrev S128 : Shape := ⟨1, ![128]⟩
abbrev S128x1 : Shape := ⟨2, ![128, 1]⟩
abbrev S1024x1024 : Shape := ⟨2, ![1024, 1024]⟩
abbrev S2048x1 : Shape := ⟨2, ![2048, 1]⟩

abbrev nBuf : Space → Nat
  | .hbm => 3
  | .vmem => 17
  | .smem => 0
  | _ => 0

abbrev bufTy : (tb : Table) → Fin (tcTables nBuf tb) → BufTy
  | .hbm, ⟨0, _⟩ => ⟨S2x8192x5120, .bf16⟩
  | .hbm, ⟨1, _⟩ => ⟨S2x8192x128, .bf16⟩
  | .hbm, ⟨2, _⟩ => ⟨S2x8192x1024, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x8192x128, .bf16⟩
  | .local _ .vmem, ⟨7, _⟩ => ⟨S1x8192x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S8192x256, .bf16⟩
  | .local _ .vmem, ⟨11, _⟩ => ⟨S8192x256, .bf16⟩
  | .local _ .vmem, ⟨12, _⟩ => ⟨S2048x1024, .f32⟩
  | .local _ .vmem, ⟨13, _⟩ => ⟨S2048x1024, .f32⟩
  | .local _ .vmem, ⟨14, _⟩ => ⟨S2048x1024, .bf16⟩
  | .local _ .vmem, ⟨15, _⟩ => ⟨S2048x128, .f32⟩
  | .local _ .vmem, ⟨16, _⟩ => ⟨S2048x256, .f32⟩
  | _, _ => ⟨S2x8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 8, 4], ![false, false, false]⟩

def k0_mult1 : BitVec 32 :=
  let c0_i32_8 : BitVec 32 := 0#32
  c0_i32_8
@[reducible] def k0_t1_loop (i : grid0.Coords) : Scf.Loop 32 :=
  let c0_i32_14 : BitVec 32 := 0#32
  let arg2 : BitVec 32 := BitVec.ofNat 32 (i 2).val
  let v35 : BitVec 32 := Scalar.subi arg2 c0_i32_14
  let c1_i32 : BitVec 32 := 1#32
  let v37 : BitVec 32 := Scalar.divsi v35 c1_i32
  let v38 : BitVec 32 := Scalar.muli v37 c1_i32
  let v39 : BitVec 32 := Scalar.addi c0_i32_14 v38
  let c1_i32_15 : BitVec 32 := 1#32
  ⟨c0_i32_14, v39, c1_i32_15⟩
def k0_mult2 (i : grid0.Coords) (k0_t1 : Fin (k0_t1_loop i).trips) : BitVec 32 :=
  let c2_i32_812 : BitVec 32 := 2#32
  let c0_i32_14 : BitVec 32 := 0#32
  let c1_i32_15 : BitVec 32 := 1#32
  let arg15 : BitVec 32 := Scf.iv c0_i32_14 c1_i32_15 k0_t1
  let v2079 : BitVec 32 := Scalar.muli c2_i32_812 arg15
  let c1_i32_813 : BitVec 32 := 1#32
  let v2080 : BitVec 32 := Scalar.addi v2079 c1_i32_813
  let c1024_i32_814 : BitVec 32 := 1024#32
  let v2081 : BitVec 32 := Scalar.muli v2080 c1024_i32_814
  v2081
def k0_off1 (i : grid0.Coords) (k0_t1 : Fin (k0_t1_loop i).trips) (c1_i32_813 : BitVec 32) : Fin 2 → Nat :=
  let c2_i32_812 : BitVec 32 := 2#32
  let c0_i32_14 : BitVec 32 := 0#32
  let c1_i32_15 : BitVec 32 := 1#32
  let arg15 : BitVec 32 := Scf.iv c0_i32_14 c1_i32_15 k0_t1
  let v2079 : BitVec 32 := Scalar.muli c2_i32_812 arg15
  let v2080 : BitVec 32 := Scalar.addi v2079 c1_i32_813
  let c1024_i32_814 : BitVec 32 := 1024#32
  let v2081 : BitVec 32 := Scalar.muli v2080 c1024_i32_814
  let v2082 : BitVec 32 := v2081
  let v2083 : Index := Scalar.indexCast v2082
  let c0_815 : Index := 0#32
  ![v2083.toNat, 0]
def k0_mult3 (i : grid0.Coords) (k0_t1 : Fin (k0_t1_loop i).trips) : BitVec 32 :=
  let c2_i32_819 : BitVec 32 := 2#32
  let c0_i32_14 : BitVec 32 := 0#32
  let c1_i32_15 : BitVec 32 := 1#32
  let arg15 : BitVec 32 := Scf.iv c0_i32_14 c1_i32_15 k0_t1
  let v2089 : BitVec 32 := Scalar.muli c2_i32_819 arg15
  let c1024_i32_1316 : BitVec 32 := 1024#32
  let v3322 : BitVec 32 := Scalar.muli v2089 c1024_i32_1316
  v3322
def k0_off2 (i : grid0.Coords) (k0_t1 : Fin (k0_t1_loop i).trips) : Fin 2 → Nat :=
  let c2_i32_819 : BitVec 32 := 2#32
  let c0_i32_14 : BitVec 32 := 0#32
  let c1_i32_15 : BitVec 32 := 1#32
  let arg15 : BitVec 32 := Scf.iv c0_i32_14 c1_i32_15 k0_t1
  let v2089 : BitVec 32 := Scalar.muli c2_i32_819 arg15
  let c1024_i32_1316 : BitVec 32 := 1024#32
  let v3322 : BitVec 32 := Scalar.muli v2089 c1024_i32_1316
  let v3323 : BitVec 32 := v3322
  let v3326 : Index := Scalar.indexCast v3323
  let c0_1321 : Index := 0#32
  ![v3326.toNat, 0]
def k0_mult4 (i : grid0.Coords) (k0_t1 : Fin (k0_t1_loop i).trips) : BitVec 32 :=
  let c2_i32_1325 : BitVec 32 := 2#32
  let c0_i32_14 : BitVec 32 := 0#32
  let c1_i32_15 : BitVec 32 := 1#32
  let arg15 : BitVec 32 := Scf.iv c0_i32_14 c1_i32_15 k0_t1
  let v3333 : BitVec 32 := Scalar.muli c2_i32_1325 arg15
  let c2_i32_1326 : BitVec 32 := 2#32
  let v3334 : BitVec 32 := Scalar.addi v3333 c2_i32_1326
  let c1024_i32_1327 : BitVec 32 := 1024#32
  let v3335 : BitVec 32 := Scalar.muli v3334 c1024_i32_1327
  v3335
def k0_mult5 (i : grid0.Coords) (k0_t1 : Fin (k0_t1_loop i).trips) : BitVec 32 :=
  let c2_i32_1332 : BitVec 32 := 2#32
  let c0_i32_14 : BitVec 32 := 0#32
  let c1_i32_15 : BitVec 32 := 1#32
  let arg15 : BitVec 32 := Scf.iv c0_i32_14 c1_i32_15 k0_t1
  let v3343 : BitVec 32 := Scalar.muli c2_i32_1332 arg15
  let c1_i32_1333 : BitVec 32 := 1#32
  let v3344 : BitVec 32 := Scalar.addi v3343 c1_i32_1333
  let c1024_i32_1830 : BitVec 32 := 1024#32
  let v4577 : BitVec 32 := Scalar.muli v3344 c1024_i32_1830
  v4577
@[reducible] def k0_t2_loop (i : grid0.Coords) : Scf.Loop 32 :=
  let c0_i32_14 : BitVec 32 := 0#32
  let arg2 : BitVec 32 := BitVec.ofNat 32 (i 2).val
  let v35 : BitVec 32 := Scalar.subi arg2 c0_i32_14
  let c1_i32 : BitVec 32 := 1#32
  let v37 : BitVec 32 := Scalar.divsi v35 c1_i32
  let v38 : BitVec 32 := Scalar.muli v37 c1_i32
  let v39 : BitVec 32 := Scalar.addi c0_i32_14 v38
  let v36 : BitVec 32 := Scalar.addi c0_i32_14 v35
  let c1_i32_16 : BitVec 32 := 1#32
  ⟨v39, v36, c1_i32_16⟩
def k0_mult6 (i : grid0.Coords) (k0_t2 : Fin (k0_t2_loop i).trips) : BitVec 32 :=
  let c2_i32_812 : BitVec 32 := 2#32
  let c0_i32_14 : BitVec 32 := 0#32
  let arg2 : BitVec 32 := BitVec.ofNat 32 (i 2).val
  let v35 : BitVec 32 := Scalar.subi arg2 c0_i32_14
  let c1_i32 : BitVec 32 := 1#32
  let v37 : BitVec 32 := Scalar.divsi v35 c1_i32
  let v38 : BitVec 32 := Scalar.muli v37 c1_i32
  let v39 : BitVec 32 := Scalar.addi c0_i32_14 v38
  let c1_i32_16 : BitVec 32 := 1#32
  let arg15 : BitVec 32 := Scf.iv v39 c1_i32_16 k0_t2
  let v2079 : BitVec 32 := Scalar.muli c2_i32_812 arg15
  let c1_i32_813 : BitVec 32 := 1#32
  let v2080 : BitVec 32 := Scalar.addi v2079 c1_i32_813
  let c1024_i32_814 : BitVec 32 := 1024#32
  let v2081 : BitVec 32 := Scalar.muli v2080 c1024_i32_814
  v2081
def k0_off3 (i : grid0.Coords) (k0_t2 : Fin (k0_t2_loop i).trips) (c1_i32_813 : BitVec 32) : Fin 2 → Nat :=
  let c2_i32_812 : BitVec 32 := 2#32
  let c0_i32_14 : BitVec 32 := 0#32
  let arg2 : BitVec 32 := BitVec.ofNat 32 (i 2).val
  let v35 : BitVec 32 := Scalar.subi arg2 c0_i32_14
  let c1_i32 : BitVec 32 := 1#32
  let v37 : BitVec 32 := Scalar.divsi v35 c1_i32
  let v38 : BitVec 32 := Scalar.muli v37 c1_i32
  let v39 : BitVec 32 := Scalar.addi c0_i32_14 v38
  let c1_i32_16 : BitVec 32 := 1#32
  let arg15 : BitVec 32 := Scf.iv v39 c1_i32_16 k0_t2
  let v2079 : BitVec 32 := Scalar.muli c2_i32_812 arg15
  let v2080 : BitVec 32 := Scalar.addi v2079 c1_i32_813
  let c1024_i32_814 : BitVec 32 := 1024#32
  let v2081 : BitVec 32 := Scalar.muli v2080 c1024_i32_814
  let v2082 : BitVec 32 := v2081
  let v2083 : Index := Scalar.indexCast v2082
  let c0_815 : Index := 0#32
  ![v2083.toNat, 0]
def k0_mult7 (i : grid0.Coords) (k0_t2 : Fin (k0_t2_loop i).trips) : BitVec 32 :=
  let c2_i32_819 : BitVec 32 := 2#32
  let c0_i32_14 : BitVec 32 := 0#32
  let arg2 : BitVec 32 := BitVec.ofNat 32 (i 2).val
  let v35 : BitVec 32 := Scalar.subi arg2 c0_i32_14
  let c1_i32 : BitVec 32 := 1#32
  let v37 : BitVec 32 := Scalar.divsi v35 c1_i32
  let v38 : BitVec 32 := Scalar.muli v37 c1_i32
  let v39 : BitVec 32 := Scalar.addi c0_i32_14 v38
  let c1_i32_16 : BitVec 32 := 1#32
  let arg15 : BitVec 32 := Scf.iv v39 c1_i32_16 k0_t2
  let v2089 : BitVec 32 := Scalar.muli c2_i32_819 arg15
  let c1024_i32_1316 : BitVec 32 := 1024#32
  let v3322 : BitVec 32 := Scalar.muli v2089 c1024_i32_1316
  v3322
def k0_off4 (i : grid0.Coords) (k0_t2 : Fin (k0_t2_loop i).trips) : Fin 2 → Nat :=
  let c2_i32_819 : BitVec 32 := 2#32
  let c0_i32_14 : BitVec 32 := 0#32
  let arg2 : BitVec 32 := BitVec.ofNat 32 (i 2).val
  let v35 : BitVec 32 := Scalar.subi arg2 c0_i32_14
  let c1_i32 : BitVec 32 := 1#32
  let v37 : BitVec 32 := Scalar.divsi v35 c1_i32
  let v38 : BitVec 32 := Scalar.muli v37 c1_i32
  let v39 : BitVec 32 := Scalar.addi c0_i32_14 v38
  let c1_i32_16 : BitVec 32 := 1#32
  let arg15 : BitVec 32 := Scf.iv v39 c1_i32_16 k0_t2
  let v2089 : BitVec 32 := Scalar.muli c2_i32_819 arg15
  let c1024_i32_1316 : BitVec 32 := 1024#32
  let v3322 : BitVec 32 := Scalar.muli v2089 c1024_i32_1316
  let v3323 : BitVec 32 := v3322
  let v3326 : Index := Scalar.indexCast v3323
  let c0_1321 : Index := 0#32
  ![v3326.toNat, 0]
def k0_mult8 (i : grid0.Coords) (k0_t2 : Fin (k0_t2_loop i).trips) : BitVec 32 :=
  let c2_i32_1325 : BitVec 32 := 2#32
  let c0_i32_14 : BitVec 32 := 0#32
  let arg2 : BitVec 32 := BitVec.ofNat 32 (i 2).val
  let v35 : BitVec 32 := Scalar.subi arg2 c0_i32_14
  let c1_i32 : BitVec 32 := 1#32
  let v37 : BitVec 32 := Scalar.divsi v35 c1_i32
  let v38 : BitVec 32 := Scalar.muli v37 c1_i32
  let v39 : BitVec 32 := Scalar.addi c0_i32_14 v38
  let c1_i32_16 : BitVec 32 := 1#32
  let arg15 : BitVec 32 := Scf.iv v39 c1_i32_16 k0_t2
  let v3333 : BitVec 32 := Scalar.muli c2_i32_1325 arg15
  let c2_i32_1326 : BitVec 32 := 2#32
  let v3334 : BitVec 32 := Scalar.addi v3333 c2_i32_1326
  let c1024_i32_1327 : BitVec 32 := 1024#32
  let v3335 : BitVec 32 := Scalar.muli v3334 c1024_i32_1327
  v3335
def k0_mult9 (i : grid0.Coords) (k0_t2 : Fin (k0_t2_loop i).trips) : BitVec 32 :=
  let c2_i32_1332 : BitVec 32 := 2#32
  let c0_i32_14 : BitVec 32 := 0#32
  let arg2 : BitVec 32 := BitVec.ofNat 32 (i 2).val
  let v35 : BitVec 32 := Scalar.subi arg2 c0_i32_14
  let c1_i32 : BitVec 32 := 1#32
  let v37 : BitVec 32 := Scalar.divsi v35 c1_i32
  let v38 : BitVec 32 := Scalar.muli v37 c1_i32
  let v39 : BitVec 32 := Scalar.addi c0_i32_14 v38
  let c1_i32_16 : BitVec 32 := 1#32
  let arg15 : BitVec 32 := Scf.iv v39 c1_i32_16 k0_t2
  let v3343 : BitVec 32 := Scalar.muli c2_i32_1332 arg15
  let c1_i32_1333 : BitVec 32 := 1#32
  let v3344 : BitVec 32 := Scalar.addi v3343 c1_i32_1333
  let c1024_i32_1830 : BitVec 32 := 1024#32
  let v4577 : BitVec 32 := Scalar.muli v3344 c1024_i32_1830
  v4577
def k0_mult10 (i : grid0.Coords) : BitVec 32 :=
  let c2_i32 : BitVec 32 := 2#32
  let arg2 : BitVec 32 := BitVec.ofNat 32 (i 2).val
  let v40 : BitVec 32 := Scalar.muli c2_i32 arg2
  let c1_i32_17 : BitVec 32 := 1#32
  let v41 : BitVec 32 := Scalar.addi v40 c1_i32_17
  let c1024_i32 : BitVec 32 := 1024#32
  let v42 : BitVec 32 := Scalar.muli v41 c1024_i32
  v42
def k0_off5 (i : grid0.Coords) : Fin 2 → Nat :=
  let c2_i32 : BitVec 32 := 2#32
  let arg2 : BitVec 32 := BitVec.ofNat 32 (i 2).val
  let v40 : BitVec 32 := Scalar.muli c2_i32 arg2
  let c1_i32_17 : BitVec 32 := 1#32
  let v41 : BitVec 32 := Scalar.addi v40 c1_i32_17
  let c1024_i32 : BitVec 32 := 1024#32
  let v42 : BitVec 32 := Scalar.muli v41 c1024_i32
  let v43 : BitVec 32 := v42
  let v45 : Index := Scalar.indexCast v43
  let c0_18 : Index := 0#32
  ![v45.toNat, 0]
def k0_mult11 (i : grid0.Coords) : BitVec 32 :=
  let c2_i32_21 : BitVec 32 := 2#32
  let arg2 : BitVec 32 := BitVec.ofNat 32 (i 2).val
  let v51 : BitVec 32 := Scalar.muli c2_i32_21 arg2
  let c1024_i32_521 : BitVec 32 := 1024#32
  let v1356 : BitVec 32 := Scalar.muli v51 c1024_i32_521
  v1356
def k0_off6 (i : grid0.Coords) : Fin 2 → Nat :=
  let c2_i32_21 : BitVec 32 := 2#32
  let arg2 : BitVec 32 := BitVec.ofNat 32 (i 2).val
  let v51 : BitVec 32 := Scalar.muli c2_i32_21 arg2
  let c1024_i32_521 : BitVec 32 := 1024#32
  let v1356 : BitVec 32 := Scalar.muli v51 c1024_i32_521
  let v1357 : BitVec 32 := v1356
  let v1360 : Index := Scalar.indexCast v1357
  let c0_526 : Index := 0#32
  ![v1360.toNat, 0]
def k0_mult12 (i : grid0.Coords) : BitVec 32 :=
  let c2_i32_530 : BitVec 32 := 2#32
  let arg2 : BitVec 32 := BitVec.ofNat 32 (i 2).val
  let v1367 : BitVec 32 := Scalar.muli c2_i32_530 arg2
  let c1_i32_531 : BitVec 32 := 1#32
  let v1368 : BitVec 32 := Scalar.addi v1367 c1_i32_531
  let c1024_i32_797 : BitVec 32 := 1024#32
  let v2057 : BitVec 32 := Scalar.muli v1368 c1024_i32_797
  v2057
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S2x8192x5120 : Shape := ⟨3, ![2, 8192, 5120]⟩
abbrev S2x8192x128 : Shape := ⟨3, ![2, 8192, 128]⟩
abbrev S_ : Shape := ⟨0, ![]⟩
abbrev S2x8192x1024 : Shape := ⟨3, ![2, 8192, 1024]⟩
abbrev S2x8192x8x128 : Shape := ⟨4, ![2, 8192, 8, 128]⟩
abbrev S2x8x8192x128 : Shape := ⟨4, ![2, 8, 8192, 128]⟩
abbrev S2x8192x8 : Shape := ⟨3, ![2, 8192, 8]⟩
abbrev S2x8x8192 : Shape := ⟨3, ![2, 8, 8192]⟩
abbrev S2x8x8192x8192 : Shape := ⟨4, ![2, 8, 8192, 8192]⟩
abbrev S2x8x8192x1 : Shape := ⟨4, ![2, 8, 8192, 1]⟩
abbrev S2x8x1x8192 : Shape := ⟨4, ![2, 8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩

abbrev nBuf : Space → Nat
  | .hbm => 64
  | .vmem => 0
  | .smem => 0
  | _ => 0

abbrev bufTy : (tb : Table) → Fin (tcTables nBuf tb) → BufTy
  | .hbm, ⟨0, _⟩ => ⟨S2x8192x5120, .bf16⟩
  | .hbm, ⟨1, _⟩ => ⟨S2x8192x128, .bf16⟩
  | .hbm, ⟨2, _⟩ => ⟨S_, .f32⟩
  | .hbm, ⟨3, _⟩ => ⟨S_, .f32⟩
  | .hbm, ⟨4, _⟩ => ⟨S2x8192x1024, .bf16⟩
  | .hbm, ⟨5, _⟩ => ⟨S2x8192x1024, .f32⟩
  | .hbm, ⟨6, _⟩ => ⟨S2x8192x8x128, .f32⟩
  | .hbm, ⟨7, _⟩ => ⟨S2x8x8192x128, .f32⟩
  | .hbm, ⟨8, _⟩ => ⟨S2x8192x1024, .bf16⟩
  | .hbm, ⟨9, _⟩ => ⟨S2x8192x1024, .f32⟩
  | .hbm, ⟨10, _⟩ => ⟨S2x8192x8x128, .f32⟩
  | .hbm, ⟨11, _⟩ => ⟨S2x8x8192x128, .f32⟩
  | .hbm, ⟨12, _⟩ => ⟨S2x8192x1024, .bf16⟩
  | .hbm, ⟨13, _⟩ => ⟨S2x8192x1024, .f32⟩
  | .hbm, ⟨14, _⟩ => ⟨S2x8192x8x128, .f32⟩
  | .hbm, ⟨15, _⟩ => ⟨S2x8x8192x128, .f32⟩
  | .hbm, ⟨16, _⟩ => ⟨S2x8192x128, .f32⟩
  | .hbm, ⟨17, _⟩ => ⟨S2x8192x8, .f32⟩
  | .hbm, ⟨18, _⟩ => ⟨S2x8192x8, .f32⟩
  | .hbm, ⟨19, _⟩ => ⟨S2x8192x8, .f32⟩
  | .hbm, ⟨20, _⟩ => ⟨S2x8192x8, .f32⟩
  | .hbm, ⟨21, _⟩ => ⟨S2x8192x8, .f32⟩
  | .hbm, ⟨22, _⟩ => ⟨S2x8192x8, .f32⟩
  | .hbm, ⟨23, _⟩ => ⟨S2x8192x8, .f32⟩
  | .hbm, ⟨24, _⟩ => ⟨S2x8192x8, .f32⟩
  | .hbm, ⟨25, _⟩ => ⟨S2x8x8192, .f32⟩
  | .hbm, ⟨26, _⟩ => ⟨S2x8x8192x8192, .f32⟩
  | .hbm, ⟨27, _⟩ => ⟨S2x8x8192x8192, .f32⟩
  | .hbm, ⟨28, _⟩ => ⟨S2x8x8192x8192, .f32⟩
  | .hbm, ⟨29, _⟩ => ⟨S2x8x8192x1, .f32⟩
  | .hbm, ⟨30, _⟩ => ⟨S2x8x8192x8192, .f32⟩
  | .hbm, ⟨31, _⟩ => ⟨S2x8x8192x8192, .f32⟩
  | .hbm, ⟨32, _⟩ => ⟨S2x8x1x8192, .f32⟩
  | .hbm, ⟨33, _⟩ => ⟨S2x8x8192x8192, .f32⟩
  | .hbm, ⟨34, _⟩ => ⟨S2x8x8192x8192, .f32⟩
  | .hbm, ⟨35, _⟩ => ⟨S8192, .i32⟩
  | .hbm, ⟨36, _⟩ => ⟨S1x8192, .i32⟩
  | .hbm, ⟨37, _⟩ => ⟨S8192x1, .i32⟩
  | .hbm, ⟨38, _⟩ => ⟨S8192x8192, .i32⟩
  | .hbm, ⟨39, _⟩ => ⟨S8192x8192, .i32⟩
  | .hbm, ⟨40, _⟩ => ⟨S8192x8192, .i1⟩
  | .hbm, ⟨41, _⟩ => ⟨S_, .f32⟩
  | .hbm, ⟨42, _⟩ => ⟨S_, .f32⟩
  | .hbm, ⟨43, _⟩ => ⟨S2x8x8192x8192, .i1⟩
  | .hbm, ⟨44, _⟩ => ⟨S2x8x8192x8192, .f32⟩
  | .hbm, ⟨45, _⟩ => ⟨S2x8x8192x8192, .f32⟩
  | .hbm, ⟨46, _⟩ => ⟨S_, .f32⟩
  | .hbm, ⟨47, _⟩ => ⟨S2x8x8192, .f32⟩
  | .hbm, ⟨48, _⟩ => ⟨S_, .f32⟩
  | .hbm, ⟨49, _⟩ => ⟨S2x8x8192, .f32⟩
  | .hbm, ⟨50, _⟩ => ⟨S2x8x8192, .f32⟩
  | .hbm, ⟨51, _⟩ => ⟨S2x8x8192x1, .f32⟩
  | .hbm, ⟨52, _⟩ => ⟨S2x8x8192x8192, .f32⟩
  | .hbm, ⟨53, _⟩ => ⟨S2x8x8192x8192, .f32⟩
  | .hbm, ⟨54, _⟩ => ⟨S2x8x8192x8192, .f32⟩
  | .hbm, ⟨55, _⟩ => ⟨S_, .f32⟩
  | .hbm, ⟨56, _⟩ => ⟨S2x8x8192, .f32⟩
  | .hbm, ⟨57, _⟩ => ⟨S2x8x8192x1, .f32⟩
  | .hbm, ⟨58, _⟩ => ⟨S2x8x8192x8192, .f32⟩
  | .hbm, ⟨59, _⟩ => ⟨S2x8x8192x8192, .f32⟩
  | .hbm, ⟨60, _⟩ => ⟨S2x8x8192x128, .f32⟩
  | .hbm, ⟨61, _⟩ => ⟨S2x8192x8x128, .f32⟩
  | .hbm, ⟨62, _⟩ => ⟨S2x8192x1024, .f32⟩
  | .hbm, ⟨63, _⟩ => ⟨S2x8192x1024, .bf16⟩
  | _, _ => ⟨S2x8192x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_cst_0 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v38 : Ref sig .tc := ⟨.hbm, 45, rfl⟩
abbrev main_cst_1 : Ref sig .tc := ⟨.hbm, 46, rfl⟩
abbrev main_v39 : Ref sig .tc := ⟨.hbm, 47, rfl⟩
abbrev main_cst_2 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_cst_3 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩

abbrev nD : Nat := 1
abbrev τ : Topo := Topo.v7x

variable {F : FTy → Type} [FloatOps F]
-- ==== Kernel2.lean ====
abbrev S16384x4096 : Shape := ⟨2, ![16384, 4096]⟩
abbrev S1x4096x16384 : Shape := ⟨3, ![1, 4096, 16384]⟩
abbrev S2x16384x4096 : Shape := ⟨3, ![2, 16384, 4096]⟩
abbrev S16384x16384 : Shape := ⟨2, ![16384, 16384]⟩
abbrev S1x16384x4096 : Shape := ⟨3, ![1, 16384, 4096]⟩
abbrev S1024x4096 : Shape := ⟨2, ![1024, 4096]⟩
abbrev S1x4096x1024 : Shape := ⟨3, ![1, 4096, 1024]⟩
abbrev S1x64x4096 : Shape := ⟨3, ![1, 64, 4096]⟩
abbrev S1024x1024 : Shape := ⟨2, ![1024, 1024]⟩
abbrev S4096x1024 : Shape := ⟨2, ![4096, 1024]⟩

abbrev nBuf : Space → Nat
  | .hbm => 5
  | .vmem => 10
  | .smem => 0
  | _ => 0

abbrev bufTy : (tb : Table) → Fin (tcTables nBuf tb) → BufTy
  | .hbm, ⟨0, _⟩ => ⟨S16384x4096, .bf16⟩
  | .hbm, ⟨1, _⟩ => ⟨S1x4096x16384, .bf16⟩
  | .hbm, ⟨2, _⟩ => ⟨S2x16384x4096, .f32⟩
  | .hbm, ⟨3, _⟩ => ⟨S16384x16384, .bf16⟩
  | .hbm, ⟨4, _⟩ => ⟨S1x16384x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x64x4096, .f32⟩
  | .local _ .vmem, ⟨5, _⟩ => ⟨S1x64x4096, .f32⟩
  | .local _ .vmem, ⟨6, _⟩ => ⟨S1024x1024, .bf16⟩
  | .local _ .vmem, ⟨7, _⟩ => ⟨S1024x1024, .bf16⟩
  | .local _ .vmem, ⟨8, _⟩ => ⟨S1x64x4096, .bf16⟩
  | .local _ .vmem, ⟨9, _⟩ => ⟨S1x64x4096, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  let c0_i32_1 : BitVec 32 := 0#32
  ![c0_i32.toNat, v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  let c0_i32_1 : BitVec 32 := 0#32
  ![c0_i32.toNat, v2.toNat, c0_i32_0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S16384x4096 : Shape := ⟨2, ![16384, 4096]⟩
abbrev S1x4096x16384 : Shape := ⟨3, ![1, 4096, 16384]⟩
abbrev S2x16384x4096 : Shape := ⟨3, ![2, 16384, 4096]⟩
abbrev S4096x16384 : Shape := ⟨2, ![4096, 16384]⟩
abbrev S16384x16384 : Shape := ⟨2, ![16384, 16384]⟩
abbrev S_ : Shape := ⟨0, ![]⟩
abbrev S1x16384x4096 : Shape := ⟨3, ![1, 16384, 4096]⟩

abbrev nBuf : Space → Nat
  | .hbm => 14
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x16384, .bf16⟩
  | .hbm, ⟨2, _⟩ => ⟨S2x16384x4096, .f32⟩
  | .hbm, ⟨3, _⟩ => ⟨S16384x4096, .f32⟩
  | .hbm, ⟨4, _⟩ => ⟨S4096x16384, .bf16⟩
  | .hbm, ⟨5, _⟩ => ⟨S4096x16384, .f32⟩
  | .hbm, ⟨6, _⟩ => ⟨S16384x16384, .f32⟩
  | .hbm, ⟨7, _⟩ => ⟨S_, .f32⟩
  | .hbm, ⟨8, _⟩ => ⟨S16384x16384, .f32⟩
  | .hbm, ⟨9, _⟩ => ⟨S16384x16384, .f32⟩
  | .hbm, ⟨10, _⟩ => ⟨S16384x16384, .f32⟩
  | .hbm, ⟨11, _⟩ => ⟨S16384x16384, .bf16⟩
  | .hbm, ⟨12, _⟩ => ⟨S1x16384x4096, .f32⟩
  | .hbm, ⟨13, _⟩ => ⟨S1x16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_cst : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel3.lean ====
abbrev S16384x16384 : Shape := ⟨2, ![16384, 16384]⟩
abbrev S1x16384x4096 : Shape := ⟨3, ![1, 16384, 4096]⟩
abbrev S16384x4096 : Shape := ⟨2, ![16384, 4096]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x16384, .bf16⟩
  | .hbm, ⟨1, _⟩ => ⟨S1x16384x4096, .bf16⟩
  | .hbm, ⟨2, _⟩ => ⟨S16384x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S16384x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S16384x16384 : Shape := ⟨2, ![16384, 16384]⟩
abbrev S1x16384x4096 : Shape := ⟨3, ![1, 16384, 4096]⟩
abbrev S16384x4096 : Shape := ⟨2, ![16384, 4096]⟩

abbrev nBuf : Space → Nat
  | .hbm => 7
  | .vmem => 0
  | .smem => 0
  | _ => 0

abbrev bufTy : (tb : Table) → Fin (tcTables nBuf tb) → BufTy
  | .hbm, ⟨0, _⟩ => ⟨S16384x16384, .bf16⟩
  | .hbm, ⟨1, _⟩ => ⟨S1x16384x4096, .bf16⟩
  | .hbm, ⟨2, _⟩ => ⟨S16384x16384, .f32⟩
  | .hbm, ⟨3, _⟩ => ⟨S16384x4096, .bf16⟩
  | .hbm, ⟨4, _⟩ => ⟨S16384x4096, .f32⟩
  | .hbm, ⟨5, _⟩ => ⟨S16384x4096, .f32⟩
  | .hbm, ⟨6, _⟩ => ⟨S16384x4096, .bf16⟩
  | _, _ => ⟨S16384x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel4.lean ====
abbrev S16384x4096 : Shape := ⟨2, ![16384, 4096]⟩
abbrev S2x5120x4096 : Shape := ⟨3, ![2, 5120, 4096]⟩
abbrev S2x4096x4096 : Shape := ⟨3, ![2, 4096, 4096]⟩
abbrev S16384x5120 : Shape := ⟨2, ![16384, 5120]⟩
abbrev S1x4096x4096 : Shape := ⟨3, ![1, 4096, 4096]⟩
abbrev S1024x4096 : Shape := ⟨2, ![1024, 4096]⟩
abbrev S1x1024x4096 : Shape := ⟨3, ![1, 1024, 4096]⟩
abbrev S1x64x4096 : Shape := ⟨3, ![1, 64, 4096]⟩
abbrev S1024x1024 : Shape := ⟨2, ![1024, 1024]⟩

abbrev nBuf : Space → Nat
  | .hbm => 5
  | .vmem => 10
  | .smem => 0
  | _ => 0

abbrev bufTy : (tb : Table) → Fin (tcTables nBuf tb) → BufTy
  | .hbm, ⟨0, _⟩ => ⟨S16384x4096, .bf16⟩
  | .hbm, ⟨1, _⟩ => ⟨S2x5120x4096, .bf16⟩
  | .hbm, ⟨2, _⟩ => ⟨S2x4096x4096, .f32⟩
  | .hbm, ⟨3, _⟩ => ⟨S16384x5120, .bf16⟩
  | .hbm, ⟨4, _⟩ => ⟨S1x4096x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x1024x4096, .bf16⟩
  | .local _ .vmem, ⟨3, _⟩ => ⟨S1x1024x4096, .bf16⟩
  | .local _ .vmem, ⟨4, _⟩ => ⟨S1x64x4096, .f32⟩
  | .local _ .vmem, ⟨5, _⟩ => ⟨S1x64x4096, .f32⟩
  | .local _ .vmem, ⟨6, _⟩ => ⟨S1024x1024, .bf16⟩
  | .local _ .vmem, ⟨7, _⟩ => ⟨S1024x1024, .bf16⟩
  | .local _ .vmem, ⟨8, _⟩ => ⟨S1x64x4096, .bf16⟩
  | .local _ .vmem, ⟨9, _⟩ => ⟨S1x64x4096, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  let c0_i32_1 : BitVec 32 := 0#32
  ![c0_i32.toNat, v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  let c0_i32_1 : BitVec 32 := 0#32
  ![c0_i32.toNat, v2.toNat, c0_i32_0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S16384x4096 : Shape := ⟨2, ![16384, 4096]⟩
abbrev S2x5120x4096 : Shape := ⟨3, ![2, 5120, 4096]⟩
abbrev S2x4096x4096 : Shape := ⟨3, ![2, 4096, 4096]⟩
abbrev S1x5120x4096 : Shape := ⟨3, ![1, 5120, 4096]⟩
abbrev S5120x4096 : Shape := ⟨2, ![5120, 4096]⟩
abbrev S4096x5120 : Shape := ⟨2, ![4096, 5120]⟩
abbrev S16384x5120 : Shape := ⟨2, ![16384, 5120]⟩
abbrev S1x4096x4096 : Shape := ⟨3, ![1, 4096, 4096]⟩

abbrev nBuf : Space → Nat
  | .hbm => 12
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x5120x4096, .bf16⟩
  | .hbm, ⟨2, _⟩ => ⟨S2x4096x4096, .f32⟩
  | .hbm, ⟨3, _⟩ => ⟨S16384x4096, .f32⟩
  | .hbm, ⟨4, _⟩ => ⟨S1x5120x4096, .bf16⟩
  | .hbm, ⟨5, _⟩ => ⟨S5120x4096, .bf16⟩
  | .hbm, ⟨6, _⟩ => ⟨S5120x4096, .f32⟩
  | .hbm, ⟨7, _⟩ => ⟨S4096x5120, .f32⟩
  | .hbm, ⟨8, _⟩ => ⟨S16384x5120, .f32⟩
  | .hbm, ⟨9, _⟩ => ⟨S16384x5120, .bf16⟩
  | .hbm, ⟨10, _⟩ => ⟨S1x4096x4096, .f32⟩
  | .hbm, ⟨11, _⟩ => ⟨S1x4096x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S16384x4096 : Shape := ⟨2, ![16384, 4096]⟩
abbrev S2x5120x4096 : Shape := ⟨3, ![2, 5120, 4096]⟩
abbrev S2x4096x16384 : Shape := ⟨3, ![2, 4096, 16384]⟩
abbrev S16384x5120 : Shape := ⟨2, ![16384, 5120]⟩
abbrev S1x4096x16384 : Shape := ⟨3, ![1, 4096, 16384]⟩
abbrev S1024x4096 : Shape := ⟨2, ![1024, 4096]⟩
abbrev S1x1024x4096 : Shape := ⟨3, ![1, 1024, 4096]⟩
abbrev S1x64x16384 : Shape := ⟨3, ![1, 64, 16384]⟩
abbrev S1024x1024 : Shape := ⟨2, ![1024, 1024]⟩

abbrev nBuf : Space → Nat
  | .hbm => 5
  | .vmem => 10
  | .smem => 0
  | _ => 0

abbrev bufTy : (tb : Table) → Fin (tcTables nBuf tb) → BufTy
  | .hbm, ⟨0, _⟩ => ⟨S16384x4096, .bf16⟩
  | .hbm, ⟨1, _⟩ => ⟨S2x5120x4096, .bf16⟩
  | .hbm, ⟨2, _⟩ => ⟨S2x4096x16384, .f32⟩
  | .hbm, ⟨3, _⟩ => ⟨S16384x5120, .bf16⟩
  | .hbm, ⟨4, _⟩ => ⟨S1x4096x16384, .bf16⟩
  | .local _ .vmem, ⟨0, _⟩ => ⟨S1024x4096, .bf16⟩
  | .local _ .vmem, ⟨1, _⟩ => ⟨S1024x4096, .bf16⟩
  | .local _ .vmem, ⟨2, _⟩ => ⟨S1x1024x4096, .bf16⟩
  | .local _ .vmem, ⟨3, _⟩ => ⟨S1x1024x4096, .bf16⟩
  | .local _ .vmem, ⟨4, _⟩ => ⟨S1x64x16384, .f32⟩
  | .local _ .vmem, ⟨5, _⟩ => ⟨S1x64x16384, .f32⟩
  | .local _ .vmem, ⟨6, _⟩ => ⟨S1024x1024, .bf16⟩
  | .local _ .vmem, ⟨7, _⟩ => ⟨S1024x1024, .bf16⟩
  | .local _ .vmem, ⟨8, _⟩ => ⟨S1x64x16384, .bf16⟩
  | .local _ .vmem, ⟨9, _⟩ => ⟨S1x64x16384, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  let c0_i32_1 : BitVec 32 := 0#32
  ![c0_i32.toNat, v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  let c0_i32_1 : BitVec 32 := 0#32
  ![c0_i32.toNat, v2.toNat, c0_i32_0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x64x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x16384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S16384x4096 : Shape := ⟨2, ![16384, 4096]⟩
abbrev S2x5120x4096 : Shape := ⟨3, ![2, 5120, 4096]⟩
abbrev S2x4096x16384 : Shape := ⟨3, ![2, 4096, 16384]⟩
abbrev S1x5120x4096 : Shape := ⟨3, ![1, 5120, 4096]⟩
abbrev S5120x4096 : Shape := ⟨2, ![5120, 4096]⟩
abbrev S4096x5120 : Shape := ⟨2, ![4096, 5120]⟩
abbrev S16384x5120 : Shape := ⟨2, ![16384, 5120]⟩
abbrev S1x4096x16384 : Shape := ⟨3, ![1, 4096, 16384]⟩

abbrev nBuf : Space → Nat
  | .hbm => 12
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x5120x4096, .bf16⟩
  | .hbm, ⟨2, _⟩ => ⟨S2x4096x16384, .f32⟩
  | .hbm, ⟨3, _⟩ => ⟨S16384x4096, .f32⟩
  | .hbm, ⟨4, _⟩ => ⟨S1x5120x4096, .bf16⟩
  | .hbm, ⟨5, _⟩ => ⟨S5120x4096, .bf16⟩
  | .hbm, ⟨6, _⟩ => ⟨S5120x4096, .f32⟩
  | .hbm, ⟨7, _⟩ => ⟨S4096x5120, .f32⟩
  | .hbm, ⟨8, _⟩ => ⟨S16384x5120, .f32⟩
  | .hbm, ⟨9, _⟩ => ⟨S16384x5120, .bf16⟩
  | .hbm, ⟨10, _⟩ => ⟨S1x4096x16384, .f32⟩
  | .hbm, ⟨11, _⟩ => ⟨S1x4096x16384, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel6.lean ====
abbrev S16384x1024 : Shape := ⟨2, ![16384, 1024]⟩
abbrev S1x4096x4096 : Shape := ⟨3, ![1, 4096, 4096]⟩
abbrev S16384x4096 : Shape := ⟨2, ![16384, 4096]⟩
abbrev S1024x1024 : Shape := ⟨2, ![1024, 1024]⟩
abbrev S1x4096x1024 : Shape := ⟨3, ![1, 4096, 1024]⟩
abbrev S1x1024x1024 : Shape := ⟨3, ![1, 1024, 1024]⟩

abbrev nBuf : Space → Nat
  | .hbm => 6
  | .vmem => 12
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S1x4096x4096, .bf16⟩
  | .hbm, ⟨5, _⟩ => ⟨S16384x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x4096x1024, .bf16⟩
  | .local _ .vmem, ⟨9, _⟩ => ⟨S1x4096x1024, .bf16⟩
  | .local _ .vmem, ⟨10, _⟩ => ⟨S1024x1024, .bf16⟩
  | .local _ .vmem, ⟨11, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S16384x1024 : Shape := ⟨2, ![16384, 1024]⟩
abbrev S1x4096x4096 : Shape := ⟨3, ![1, 4096, 4096]⟩
abbrev S16384x4096 : Shape := ⟨2, ![16384, 4096]⟩
abbrev S4096x4096 : Shape := ⟨2, ![4096, 4096]⟩

abbrev nBuf : Space → Nat
  | .hbm => 11
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S1x4096x4096, .bf16⟩
  | .hbm, ⟨5, _⟩ => ⟨S16384x4096, .bf16⟩
  | .hbm, ⟨6, _⟩ => ⟨S16384x4096, .f32⟩
  | .hbm, ⟨7, _⟩ => ⟨S4096x4096, .bf16⟩
  | .hbm, ⟨8, _⟩ => ⟨S4096x4096, .f32⟩
  | .hbm, ⟨9, _⟩ => ⟨S16384x4096, .f32⟩
  | .hbm, ⟨10, _⟩ => ⟨S16384x4096, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel7.lean ====
abbrev S2x8192x5120 : Shape := ⟨3, ![2, 8192, 5120]⟩
abbrev S8x128x128 : Shape := ⟨3, ![8, 128, 128]⟩
abbrev S8x128 : Shape := ⟨2, ![8, 128]⟩
abbrev S1024 : Shape := ⟨1, ![1024]⟩
abbrev S128x8 : Shape := ⟨2, ![128, 8]⟩
abbrev S1x1024 : Shape := ⟨2, ![1, 1024]⟩
abbrev S2x8192x1024 : Shape := ⟨3, ![2, 8192, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩
abbrev S128x1 : Shape := ⟨2, ![128, 1]⟩

abbrev nBuf : Space → Nat
  | .hbm => 9
  | .vmem => 10
  | .smem => 0
  | _ => 0

abbrev bufTy : (tb : Table) → Fin (tcTables nBuf tb) → BufTy
  | .hbm, ⟨0, _⟩ => ⟨S2x8192x5120, .bf16⟩
  | .hbm, ⟨1, _⟩ => ⟨S8x128x128, .f32⟩
  | .hbm, ⟨2, _⟩ => ⟨S8x128, .f32⟩
  | .hbm, ⟨3, _⟩ => ⟨S1024, .f32⟩
  | .hbm, ⟨4, _⟩ => ⟨S1024, .f32⟩
  | .hbm, ⟨5, _⟩ => ⟨S128x8, .f32⟩
  | .hbm, ⟨6, _⟩ => ⟨S1x1024, .f32⟩
  | .hbm, ⟨7, _⟩ => ⟨S1x1024, .f32⟩
  | .hbm, ⟨8, _⟩ => ⟨S2x8192x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S8x128x128, .f32⟩
  | .local _ .vmem, ⟨5, _⟩ => ⟨S128x8, .f32⟩
  | .local _ .vmem, ⟨6, _⟩ => ⟨S1x1024, .f32⟩
  | .local _ .vmem, ⟨7, _⟩ => ⟨S1x1024, .f32⟩
  | .local _ .vmem, ⟨8, _⟩ => ⟨S1x512x1024, .bf16⟩
  | .local _ .vmem, ⟨9, _⟩ => ⟨S1x512x1024, .bf16⟩
  | _, _ => ⟨S2x8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference7Ideal.lean ====
abbrev S2x8192x5120 : Shape := ⟨3, ![2, 8192, 5120]⟩
abbrev S8x128x128 : Shape := ⟨3, ![8, 128, 128]⟩
abbrev S8x128 : Shape := ⟨2, ![8, 128]⟩
abbrev S1024 : Shape := ⟨1, ![1024]⟩
abbrev S2x8192x2048 : Shape := ⟨3, ![2, 8192, 2048]⟩
abbrev S_ : Shape := ⟨0, ![]⟩
abbrev S2x8192x1024 : Shape := ⟨3, ![2, 8192, 1024]⟩
abbrev S2x8192 : Shape := ⟨2, ![2, 8192]⟩
abbrev S2x8192x1 : Shape := ⟨3, ![2, 8192, 1]⟩
abbrev S1x1x1024 : Shape := ⟨3, ![1, 1, 1024]⟩
abbrev S2x64x128x8x128 : Shape := ⟨5, ![2, 64, 128, 8, 128]⟩
abbrev S128x128 : Shape := ⟨2, ![128, 128]⟩
abbrev S1x128x128 : Shape := ⟨3, ![1, 128, 128]⟩
abbrev S8x2x64x128x128 : Shape := ⟨5, ![8, 2, 64, 128, 128]⟩
abbrev S128x8 : Shape := ⟨2, ![128, 8]⟩
abbrev S1x1x128x8x1 : Shape := ⟨5, ![1, 1, 128, 8, 1]⟩

abbrev nBuf : Space → Nat
  | .hbm => 79
  | .vmem => 0
  | .smem => 0
  | _ => 0

abbrev bufTy : (tb : Table) → Fin (tcTables nBuf tb) → BufTy
  | .hbm, ⟨0, _⟩ => ⟨S2x8192x5120, .bf16⟩
  | .hbm, ⟨1, _⟩ => ⟨S8x128x128, .f32⟩
  | .hbm, ⟨2, _⟩ => ⟨S8x128, .f32⟩
  | .hbm, ⟨3, _⟩ => ⟨S1024, .f32⟩
  | .hbm, ⟨4, _⟩ => ⟨S1024, .f32⟩
  | .hbm, ⟨5, _⟩ => ⟨S2x8192x2048, .bf16⟩
  | .hbm, ⟨6, _⟩ => ⟨S2x8192x2048, .f32⟩
  | .hbm, ⟨7, _⟩ => ⟨S2x8192x2048, .f32⟩
  | .hbm, ⟨8, _⟩ => ⟨S2x8192x2048, .f32⟩
  | .hbm, ⟨9, _⟩ => ⟨S_, .f32⟩
  | .hbm, ⟨10, _⟩ => ⟨S2x8192x2048, .f32⟩
  | .hbm, ⟨11, _⟩ => ⟨S2x8192x2048, .f32⟩
  | .hbm, ⟨12, _⟩ => ⟨S2x8192x2048, .f32⟩
  | .hbm, ⟨13, _⟩ => ⟨S_, .f32⟩
  | .hbm, ⟨14, _⟩ => ⟨S2x8192x2048, .f32⟩
  | .hbm, ⟨15, _⟩ => ⟨S2x8192x2048, .f32⟩
  | .hbm, ⟨16, _⟩ => ⟨S2x8192x2048, .f32⟩
  | .hbm, ⟨17, _⟩ => ⟨S_, .f32⟩
  | .hbm, ⟨18, _⟩ => ⟨S2x8192x2048, .f32⟩
  | .hbm, ⟨19, _⟩ => ⟨S2x8192x2048, .f32⟩
  | .hbm, ⟨20, _⟩ => ⟨S_, .f32⟩
  | .hbm, ⟨21, _⟩ => ⟨S2x8192x2048, .f32⟩
  | .hbm, ⟨22, _⟩ => ⟨S2x8192x2048, .f32⟩
  | .hbm, ⟨23, _⟩ => ⟨S2x8192x2048, .f32⟩
  | .hbm, ⟨24, _⟩ => ⟨S2x8192x1024, .f32⟩
  | .hbm, ⟨25, _⟩ => ⟨S2x8192x1024, .f32⟩
  | .hbm, ⟨26, _⟩ => ⟨S_, .f32⟩
  | .hbm, ⟨27, _⟩ => ⟨S2x8192, .f32⟩
  | .hbm, ⟨28, _⟩ => ⟨S2x8192x1, .f32⟩
  | .hbm, ⟨29, _⟩ => ⟨S_, .f32⟩
  | .hbm, ⟨30, _⟩ => ⟨S2x8192x1, .f32⟩
  | .hbm, ⟨31, _⟩ => ⟨S2x8192x1, .f32⟩
  | .hbm, ⟨32, _⟩ => ⟨S2x8192x1024, .f32⟩
  | .hbm, ⟨33, _⟩ => ⟨S2x8192x1024, .f32⟩
  | .hbm, ⟨34, _⟩ => ⟨S2x8192x1024, .f32⟩
  | .hbm, ⟨35, _⟩ => ⟨S_, .f32⟩
  | .hbm, ⟨36, _⟩ => ⟨S2x8192, .f32⟩
  | .hbm, ⟨37, _⟩ => ⟨S2x8192x1, .f32⟩
  | .hbm, ⟨38, _⟩ => ⟨S_, .f32⟩
  | .hbm, ⟨39, _⟩ => ⟨S2x8192x1, .f32⟩
  | .hbm, ⟨40, _⟩ => ⟨S2x8192x1, .f32⟩
  | .hbm, ⟨41, _⟩ => ⟨S2x8192x1024, .f32⟩
  | .hbm, ⟨42, _⟩ => ⟨S2x8192x1024, .f32⟩
  | .hbm, ⟨43, _⟩ => ⟨S_, .f32⟩
  | .hbm, ⟨44, _⟩ => ⟨S2x8192x1, .f32⟩
  | .hbm, ⟨45, _⟩ => ⟨S2x8192x1, .f32⟩
  | .hbm, ⟨46, _⟩ => ⟨S2x8192x1, .f32⟩
  | .hbm, ⟨47, _⟩ => ⟨S2x8192x1024, .f32⟩
  | .hbm, ⟨48, _⟩ => ⟨S2x8192x1024, .f32⟩
  | .hbm, ⟨49, _⟩ => ⟨S1x1x1024, .f32⟩
  | .hbm, ⟨50, _⟩ => ⟨S2x8192x1024, .f32⟩
  | .hbm, ⟨51, _⟩ => ⟨S2x8192x1024, .f32⟩
  | .hbm, ⟨52, _⟩ => ⟨S1x1x1024, .f32⟩
  | .hbm, ⟨53, _⟩ => ⟨S2x8192x1024, .f32⟩
  | .hbm, ⟨54, _⟩ => ⟨S2x8192x1024, .f32⟩
  | .hbm, ⟨55, _⟩ => ⟨S2x64x128x8x128, .f32⟩
  | .hbm, ⟨56, _⟩ => ⟨S_, .f32⟩
  | .hbm, ⟨57, _⟩ => ⟨S128x128, .f32⟩
  | .hbm, ⟨58, _⟩ => ⟨S128x128, .i32⟩
  | .hbm, ⟨59, _⟩ => ⟨S_, .i32⟩
  | .hbm, ⟨60, _⟩ => ⟨S128x128, .i32⟩
  | .hbm, ⟨61, _⟩ => ⟨S128x128, .i32⟩
  | .hbm, ⟨62, _⟩ => ⟨S128x128, .i32⟩
  | .hbm, ⟨63, _⟩ => ⟨S128x128, .i1⟩
  | .hbm, ⟨64, _⟩ => ⟨S_, .f32⟩
  | .hbm, ⟨65, _⟩ => ⟨S128x128, .f32⟩
  | .hbm, ⟨66, _⟩ => ⟨S128x128, .f32⟩
  | .hbm, ⟨67, _⟩ => ⟨S1x128x128, .f32⟩
  | .hbm, ⟨68, _⟩ => ⟨S8x128x128, .f32⟩
  | .hbm, ⟨69, _⟩ => ⟨S8x128x128, .f32⟩
  | .hbm, ⟨70, _⟩ => ⟨S8x2x64x128x128, .f32⟩
  | .hbm, ⟨71, _⟩ => ⟨S2x64x128x8x128, .f32⟩
  | .hbm, ⟨72, _⟩ => ⟨S128x8, .f32⟩
  | .hbm, ⟨73, _⟩ => ⟨S1x1x128x8x1, .f32⟩
  | .hbm, ⟨74, _⟩ => ⟨S2x64x128x8x128, .f32⟩
  | .hbm, ⟨75, _⟩ => ⟨S2x64x128x8x128, .f32⟩
  | .hbm, ⟨76, _⟩ => ⟨S2x8192x1024, .f32⟩
  | .hbm, ⟨77, _⟩ => ⟨S2x8192x1024, .f32⟩
  | .hbm, ⟨78, _⟩ => ⟨S2x8192x1024, .bf16⟩
  | _, _ => ⟨S2x8192x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_call0_v0 : Ref sig .tc := ⟨.hbm, 58, rfl⟩
abbrev main_call0_c : Ref sig .tc := ⟨.hbm, 59, rfl⟩
abbrev main_call0_v1 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_call0_cst : Ref sig .tc := ⟨.hbm, 64, rfl⟩
abbrev main_call0_v5 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩

abbrev nD : Nat := 1
abbrev τ : Topo := Topo.v7x

variable {F : FTy → Type} [FloatOps F]
-- ==== Kernel8.lean ====
abbrev S16384x4096 : Shape := ⟨2, ![16384, 4096]⟩
abbrev S4096 : Shape := ⟨1, ![4096]⟩
abbrev S2x1x4096 : Shape := ⟨3, ![2, 1, 4096]⟩
abbrev S1x4096 : Shape := ⟨2, ![1, 4096]⟩
abbrev S256x4096 : Shape := ⟨2, ![256, 4096]⟩
abbrev S1x1x4096 : Shape := ⟨3, ![1, 1, 4096]⟩
abbrev S256 : Shape := ⟨1, ![256]⟩
abbrev S256x1 : Shape := ⟨2, ![256, 1]⟩

abbrev nBuf : Space → Nat
  | .hbm => 11
  | .vmem => 16
  | .smem => 0
  | _ => 0

abbrev bufTy : (tb : Table) → Fin (tcTables nBuf tb) → BufTy
  | .hbm, ⟨0, _⟩ => ⟨S16384x4096, .f32⟩
  | .hbm, ⟨1, _⟩ => ⟨S16384x4096, .bf16⟩
  | .hbm, ⟨2, _⟩ => ⟨S4096, .f32⟩
  | .hbm, ⟨3, _⟩ => ⟨S2x1x4096, .f32⟩
  | .hbm, ⟨4, _⟩ => ⟨S4096, .f32⟩
  | .hbm, ⟨5, _⟩ => ⟨S2x1x4096, .f32⟩
  | .hbm, ⟨6, _⟩ => ⟨S2x1x4096, .f32⟩
  | .hbm, ⟨7, _⟩ => ⟨S1x4096, .f32⟩
  | .hbm, ⟨8, _⟩ => ⟨S1x4096, .f32⟩
  | .hbm, ⟨9, _⟩ => ⟨S16384x4096, .f32⟩
  | .hbm, ⟨10, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S1x4096, .f32⟩
  | .local _ .vmem, ⟨5, _⟩ => ⟨S1x1x4096, .f32⟩
  | .local _ .vmem, ⟨6, _⟩ => ⟨S1x1x4096, .f32⟩
  | .local _ .vmem, ⟨7, _⟩ => ⟨S1x4096, .f32⟩
  | .local _ .vmem, ⟨8, _⟩ => ⟨S1x1x4096, .f32⟩
  | .local _ .vmem, ⟨9, _⟩ => ⟨S1x1x4096, .f32⟩
  | .local _ .vmem, ⟨10, _⟩ => ⟨S1x1x4096, .f32⟩
  | .local _ .vmem, ⟨11, _⟩ => ⟨S1x1x4096, .f32⟩
  | .local _ .vmem, ⟨12, _⟩ => ⟨S256x4096, .f32⟩
  | .local _ .vmem, ⟨13, _⟩ => ⟨S256x4096, .f32⟩
  | .local _ .vmem, ⟨14, _⟩ => ⟨S256x4096, .bf16⟩
  | .local _ .vmem, ⟨15, _⟩ => ⟨S256x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference8Ideal.lean ====
abbrev S16384x4096 : Shape := ⟨2, ![16384, 4096]⟩
abbrev S4096 : Shape := ⟨1, ![4096]⟩
abbrev S2x1x4096 : Shape := ⟨3, ![2, 1, 4096]⟩
abbrev S2x8192x4096 : Shape := ⟨3, ![2, 8192, 4096]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩

abbrev nBuf : Space → Nat
  | .hbm => 55
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .bf16⟩
  | .hbm, ⟨2, _⟩ => ⟨S4096, .f32⟩
  | .hbm, ⟨3, _⟩ => ⟨S2x1x4096, .f32⟩
  | .hbm, ⟨4, _⟩ => ⟨S4096, .f32⟩
  | .hbm, ⟨5, _⟩ => ⟨S2x1x4096, .f32⟩
  | .hbm, ⟨6, _⟩ => ⟨S2x1x4096, .f32⟩
  | .hbm, ⟨7, _⟩ => ⟨S2x8192x4096, .f32⟩
  | .hbm, ⟨8, _⟩ => ⟨S16384x4096, .f32⟩
  | .hbm, ⟨9, _⟩ => ⟨S2x8192x4096, .f32⟩
  | .hbm, ⟨10, _⟩ => ⟨S2x8192x4096, .f32⟩
  | .hbm, ⟨11, _⟩ => ⟨S_, .f32⟩
  | .hbm, ⟨12, _⟩ => ⟨S2x8192, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S_, .f32⟩
  | .hbm, ⟨18, _⟩ => ⟨S2x8192x1, .f32⟩
  | .hbm, ⟨19, _⟩ => ⟨S2x8192x1, .f32⟩
  | .hbm, ⟨20, _⟩ => ⟨S2x8192x1, .f32⟩
  | .hbm, ⟨21, _⟩ => ⟨S2x8192x4096, .f32⟩
  | .hbm, ⟨22, _⟩ => ⟨S2x8192x4096, .f32⟩
  | .hbm, ⟨23, _⟩ => ⟨S1x1x4096, .f32⟩
  | .hbm, ⟨24, _⟩ => ⟨S2x8192x4096, .f32⟩
  | .hbm, ⟨25, _⟩ => ⟨S2x8192x4096, .f32⟩
  | .hbm, ⟨26, _⟩ => ⟨S2x8192x4096, .f32⟩
  | .hbm, ⟨27, _⟩ => ⟨S2x8192x4096, .f32⟩
  | .hbm, ⟨28, _⟩ => ⟨S2x8192x4096, .f32⟩
  | .hbm, ⟨29, _⟩ => ⟨S2x8192x4096, .f32⟩
  | .hbm, ⟨30, _⟩ => ⟨S_, .f32⟩
  | .hbm, ⟨31, _⟩ => ⟨S2x8192, .f32⟩
  | .hbm, ⟨32, _⟩ => ⟨S2x8192x1, .f32⟩
  | .hbm, ⟨33, _⟩ => ⟨S_, .f32⟩
  | .hbm, ⟨34, _⟩ => ⟨S2x8192x1, .f32⟩
  | .hbm, ⟨35, _⟩ => ⟨S2x8192x1, .f32⟩
  | .hbm, ⟨36, _⟩ => ⟨S_, .f32⟩
  | .hbm, ⟨37, _⟩ => ⟨S2x8192x1, .f32⟩
  | .hbm, ⟨38, _⟩ => ⟨S2x8192x1, .f32⟩
  | .hbm, ⟨39, _⟩ => ⟨S2x8192x1, .f32⟩
  | .hbm, ⟨40, _⟩ => ⟨S2x8192x4096, .f32⟩
  | .hbm, ⟨41, _⟩ => ⟨S2x8192x4096, .f32⟩
  | .hbm, ⟨42, _⟩ => ⟨S1x1x4096, .f32⟩
  | .hbm, ⟨43, _⟩ => ⟨S2x8192x4096, .f32⟩
  | .hbm, ⟨44, _⟩ => ⟨S2x8192x4096, .f32⟩
  | .hbm, ⟨45, _⟩ => ⟨S_, .f32⟩
  | .hbm, ⟨46, _⟩ => ⟨S2x1x4096, .f32⟩
  | .hbm, ⟨47, _⟩ => ⟨S2x1x4096, .f32⟩
  | .hbm, ⟨48, _⟩ => ⟨S2x8192x4096, .f32⟩
  | .hbm, ⟨49, _⟩ => ⟨S2x8192x4096, .f32⟩
  | .hbm, ⟨50, _⟩ => ⟨S2x8192x4096, .f32⟩
  | .hbm, ⟨51, _⟩ => ⟨S2x8192x4096, .f32⟩
  | .hbm, ⟨52, _⟩ => ⟨S16384x4096, .f32⟩
  | .hbm, ⟨53, _⟩ => ⟨S2x8192x4096, .bf16⟩
  | .hbm, ⟨54, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel9.lean ====
abbrev S16384x4096 : Shape := ⟨2, ![16384, 4096]⟩
abbrev S4096 : Shape := ⟨1, ![4096]⟩
abbrev S2x1x4096 : Shape := ⟨3, ![2, 1, 4096]⟩
abbrev S1x4096 : Shape := ⟨2, ![1, 4096]⟩
abbrev S256x4096 : Shape := ⟨2, ![256, 4096]⟩
abbrev S1x1x4096 : Shape := ⟨3, ![1, 1, 4096]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S16384x4096, .f32⟩
  | .hbm, ⟨1, _⟩ => ⟨S16384x4096, .bf16⟩
  | .hbm, ⟨2, _⟩ => ⟨S4096, .f32⟩
  | .hbm, ⟨3, _⟩ => ⟨S2x1x4096, .f32⟩
  | .hbm, ⟨4, _⟩ => ⟨S1x4096, .f32⟩
  | .hbm, ⟨5, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S1x4096, .f32⟩
  | .local _ .vmem, ⟨5, _⟩ => ⟨S1x1x4096, .f32⟩
  | .local _ .vmem, ⟨6, _⟩ => ⟨S1x1x4096, .f32⟩
  | .local _ .vmem, ⟨7, _⟩ => ⟨S256x4096, .f32⟩
  | .local _ .vmem, ⟨8, _⟩ => ⟨S256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference9Ideal.lean ====
abbrev S16384x4096 : Shape := ⟨2, ![16384, 4096]⟩
abbrev S4096 : Shape := ⟨1, ![4096]⟩
abbrev S2x1x4096 : Shape := ⟨3, ![2, 1, 4096]⟩
abbrev S2x8192x4096 : Shape := ⟨3, ![2, 8192, 4096]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩

abbrev nBuf : Space → Nat
  | .hbm => 27
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .bf16⟩
  | .hbm, ⟨2, _⟩ => ⟨S4096, .f32⟩
  | .hbm, ⟨3, _⟩ => ⟨S2x1x4096, .f32⟩
  | .hbm, ⟨4, _⟩ => ⟨S2x8192x4096, .f32⟩
  | .hbm, ⟨5, _⟩ => ⟨S16384x4096, .f32⟩
  | .hbm, ⟨6, _⟩ => ⟨S2x8192x4096, .f32⟩
  | .hbm, ⟨7, _⟩ => ⟨S2x8192x4096, .f32⟩
  | .hbm, ⟨8, _⟩ => ⟨S_, .f32⟩
  | .hbm, ⟨9, _⟩ => ⟨S2x8192, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S2x8192x1, .f32⟩
  | .hbm, ⟨18, _⟩ => ⟨S2x8192x4096, .f32⟩
  | .hbm, ⟨19, _⟩ => ⟨S2x8192x4096, .f32⟩
  | .hbm, ⟨20, _⟩ => ⟨S1x1x4096, .f32⟩
  | .hbm, ⟨21, _⟩ => ⟨S2x8192x4096, .f32⟩
  | .hbm, ⟨22, _⟩ => ⟨S2x8192x4096, .f32⟩
  | .hbm, ⟨23, _⟩ => ⟨S2x8192x4096, .f32⟩
  | .hbm, ⟨24, _⟩ => ⟨S2x8192x4096, .f32⟩
  | .hbm, ⟨25, _⟩ => ⟨S2x8192x4096, .f32⟩
  | .hbm, ⟨26, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel10.lean ====
abbrev S2x8192x5120 : Shape := ⟨3, ![2, 8192, 5120]⟩
abbrev S_ : Shape := ⟨0, ![]⟩
abbrev S31 : Shape := ⟨1, ![31]⟩
abbrev S1 : Shape := ⟨1, ![1]⟩
abbrev S32 : Shape := ⟨1, ![32]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S1x8192x4x32 : Shape := ⟨4, ![1, 8192, 4, 32]⟩
abbrev S8192x128 : Shape := ⟨2, ![8192, 128]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8 : Shape := ⟨1, ![8]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S8x1x1 : Shape := ⟨3, ![8, 1, 1]⟩
abbrev S1x256x256 : Shape := ⟨3, ![1, 256, 256]⟩
abbrev S8x256x256 : Shape := ⟨3, ![8, 256, 256]⟩
abbrev S8x1 : Shape := ⟨2, ![8, 1]⟩
abbrev S8x256 : Shape := ⟨2, ![8, 256]⟩
abbrev S8x64 : Shape := ⟨2, ![8, 64]⟩
abbrev S512 : Shape := ⟨1, ![512]⟩
abbrev S4x128x1 : Shape := ⟨3, ![4, 128, 1]⟩
abbrev S4x128x256 : Shape := ⟨3, ![4, 128, 256]⟩
abbrev S128 : Shape := ⟨1, ![128]⟩
abbrev S128x1 : Shape := ⟨2, ![128, 1]⟩
abbrev S128x256 : Shape := ⟨2, ![128, 256]⟩
abbrev S256x8 : Shape := ⟨2, ![256, 8]⟩
abbrev S256x8x64 : Shape := ⟨3, ![256, 8, 64]⟩
abbrev S256x512 : Shape := ⟨2, ![256, 512]⟩
abbrev S2x8192x1024 : Shape := ⟨3, ![2, 8192, 1024]⟩
abbrev S1x256x512 : Shape := ⟨3, ![1, 256, 512]⟩
abbrev S1x256x1024 : Shape := ⟨3, ![1, 256, 1024]⟩
abbrev S256x128 : Shape := ⟨2, ![256, 128]⟩
abbrev S1x256x128 : Shape := ⟨3, ![1, 256, 128]⟩
abbrev S1x128x256 : Shape := ⟨3, ![1, 128, 256]⟩

abbrev nBuf : Space → Nat
  | .hbm => 165
  | .vmem => 20
  | .smem => 0
  | _ => 0

abbrev hbmTy0_0 (i : Nat) : BufTy := match i % 128 with
  | 0 => ⟨S2x8192x5120, .bf16⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S31, .f32⟩
  | 9 => ⟨S_, .f32⟩
  | 10 => ⟨S31, .f32⟩
  | 11 => ⟨S31, .f32⟩
  | 12 => ⟨S1, .f32⟩
  | 13 => ⟨S_, .f32⟩
  | 14 => ⟨S31, .f32⟩
  | 15 => ⟨S31, .f32⟩
  | 16 => ⟨S31, .f32⟩
  | 17 => ⟨S31, .f32⟩
  | 18 => ⟨S1, .f32⟩
  | 19 => ⟨S31, .f32⟩
  | 20 => ⟨S31, .f32⟩
  | 21 => ⟨S31, .f32⟩
  | 22 => ⟨S1, .f32⟩
  | 23 => ⟨S32, .f32⟩
  | 24 => ⟨S_, .f32⟩
  | 25 => ⟨S32, .f32⟩
  | 26 => ⟨S32, .f32⟩
  | 27 => ⟨S_, .f32⟩
  | 28 => ⟨S32, .f32⟩
  | 29 => ⟨S32, .f32⟩
  | 30 => ⟨S8192, .i32⟩
  | 31 => ⟨S8192, .f32⟩
  | 32 => ⟨S8192x1, .f32⟩
  | 33 => ⟨S1x32, .f32⟩
  | 34 => ⟨S8192x32, .f32⟩
  | 35 => ⟨S8192x32, .f32⟩
  | 36 => ⟨S8192x32, .f32⟩
  | 37 => ⟨S8192x32, .f32⟩
  | 38 => ⟨S1x8192x1x32, .f32⟩
  | 39 => ⟨S1x8192x4x32, .f32⟩
  | 40 => ⟨S8192x128, .f32⟩
  | 41 => ⟨S8192x32, .f32⟩
  | 42 => ⟨S8192x32, .f32⟩
  | 43 => ⟨S8192x32, .f32⟩
  | 44 => ⟨S8192x64, .f32⟩
  | 45 => ⟨S1x8192x1x64, .f32⟩
  | 46 => ⟨S1x8192x2x64, .f32⟩
  | 47 => ⟨S8192x128, .f32⟩
  | 48 => ⟨S8, .f32⟩
  | 49 => ⟨S_, .f32⟩
  | 50 => ⟨S8, .f32⟩
  | 51 => ⟨S8, .f32⟩
  | 52 => ⟨S_, .f32⟩
  | 53 => ⟨S8, .f32⟩
  | 54 => ⟨S8, .f32⟩
  | 55 => ⟨S_, .f32⟩
  | 56 => ⟨S8, .f32⟩
  | 57 => ⟨S8, .f32⟩
  | 58 => ⟨S8, .f32⟩
  | 59 => ⟨S256, .f32⟩
  | 60 => ⟨S256x1, .f32⟩
  | 61 => ⟨S1x256, .f32⟩
  | 62 => ⟨S256x256, .f32⟩
  | 63 => ⟨S256x256, .f32⟩
  | 64 => ⟨S256x256, .f32⟩
  | 65 => ⟨S_, .f32⟩
  | 66 => ⟨S256x256, .f32⟩
  | 67 => ⟨S256x256, .i1⟩
  | 68 => ⟨S8x1x1, .f32⟩
  | 69 => ⟨S_, .f32⟩
  | 70 => ⟨S256x256, .f32⟩
  | 71 => ⟨S256x256, .f32⟩
  | 72 => ⟨S1x256x256, .f32⟩
  | 73 => ⟨S8x256x256, .f32⟩
  | 74 => ⟨S8x256x256, .f32⟩
  | 75 => ⟨S8x256x256, .f32⟩
  | 76 => ⟨S8x256x256, .f32⟩
  | 77 => ⟨S_, .f32⟩
  | 78 => ⟨S_, .f32⟩
  | 79 => ⟨S8x256x256, .i1⟩
  | 80 => ⟨S8x256x256, .f32⟩
  | 81 => ⟨S8x256x256, .f32⟩
  | 82 => ⟨S8x1, .f32⟩
  | 83 => ⟨S_, .f32⟩
  | 84 => ⟨S256, .f32⟩
  | 85 => ⟨S256, .f32⟩
  | 86 => ⟨S1x256, .f32⟩
  | 87 => ⟨S8x256, .f32⟩
  | 88 => ⟨S8x256, .f32⟩
  | 89 => ⟨S8x256, .f32⟩
  | 90 => ⟨S8x256, .f32⟩
  | 91 => ⟨S8x1, .f32⟩
  | 92 => ⟨S_, .f32⟩
  | 93 => ⟨S256, .f32⟩
  | 94 => ⟨S256, .f32⟩
  | 95 => ⟨S1x256, .f32⟩
  | 96 => ⟨S8x256, .f32⟩
  | 97 => ⟨S8x256, .f32⟩
  | 98 => ⟨S8x256, .f32⟩
  | 99 => ⟨S8x256, .f32⟩
  | 100 => ⟨S_, .f32⟩
  | 101 => ⟨S8, .f32⟩
  | 102 => ⟨S8, .f32⟩
  | 103 => ⟨S8, .f32⟩
  | 104 => ⟨S8x64, .f32⟩
  | 105 => ⟨S512, .f32⟩
  | 106 => ⟨S4x128x1, .f32⟩
  | 107 => ⟨S4x128x256, .f32⟩
  | 108 => ⟨S128, .i32⟩
  | 109 => ⟨S128x1, .i32⟩
  | 110 => ⟨S_, .i32⟩
  | 111 => ⟨S_, .i32⟩
  | 112 => ⟨S128x1, .i32⟩
  | 113 => ⟨S128x1, .i32⟩
  | 114 => ⟨S128x1, .i32⟩
  | 115 => ⟨S_, .i32⟩
  | 116 => ⟨S128x1, .i32⟩
  | 117 => ⟨S128x1, .i1⟩
  | 118 => ⟨S128x1, .i32⟩
  | 119 => ⟨S128x1, .i32⟩
  | 120 => ⟨S_, .i32⟩
  | 121 => ⟨S128x1, .i32⟩
  | 122 => ⟨S128x1, .i1⟩
  | 123 => ⟨S128x1, .i1⟩
  | 124 => ⟨S_, .i32⟩
  | 125 => ⟨S128x1, .i32⟩
  | 126 => ⟨S128x1, .i32⟩
  | 127 => ⟨S128x1, .i32⟩
  | _ => ⟨S2x8192x5120, .bf16⟩

abbrev hbmTy0_1 (i : Nat) : BufTy := match i % 128 with
  | 0 => ⟨S256, .i32⟩
  | 1 => ⟨S1x256, .i32⟩
  | 2 => ⟨S_, .i32⟩
  | 3 => ⟨S_, .i32⟩
  | 4 => ⟨S1x256, .i32⟩
  | 5 => ⟨S1x256, .i32⟩
  | 6 => ⟨S1x256, .i32⟩
  | 7 => ⟨S_, .i32⟩
  | 8 => ⟨S1x256, .i32⟩
  | 9 => ⟨S1x256, .i1⟩
  | 10 => ⟨S1x256, .i32⟩
  | 11 => ⟨S1x256, .i32⟩
  | 12 => ⟨S_, .i32⟩
  | 13 => ⟨S1x256, .i32⟩
  | 14 => ⟨S1x256, .i1⟩
  | 15 => ⟨S1x256, .i1⟩
  | 16 => ⟨S_, .i32⟩
  | 17 => ⟨S1x256, .i32⟩
  | 18 => ⟨S1x256, .i32⟩
  | 19 => ⟨S1x256, .i32⟩
  | 20 => ⟨S128x256, .i32⟩
  | 21 => ⟨S128x256, .i32⟩
  | 22 => ⟨S128x256, .i1⟩
  | 23 => ⟨S128x256, .f32⟩
  | 24 => ⟨S_, .f32⟩
  | 25 => ⟨S8x256x256, .f32⟩
  | 26 => ⟨S8x256x256, .f32⟩
  | 27 => ⟨S256x8, .f32⟩
  | 28 => ⟨S256x8x64, .f32⟩
  | 29 => ⟨S256x512, .f32⟩
  | 30 => ⟨S256x8, .f32⟩
  | 31 => ⟨S256x8x64, .f32⟩
  | 32 => ⟨S256x512, .f32⟩
  | 33 => ⟨S_, .f32⟩
  | 34 => ⟨S256x512, .f32⟩
  | 35 => ⟨S256x512, .f32⟩
  | 36 => ⟨S2x8192x1024, .bf16⟩
  | _ => ⟨S2x8192x5120, .bf16⟩

abbrev hbmTy (i : Nat) : BufTy := match i / 128 with
  | 0 => hbmTy0_0 i
  | 1 => hbmTy0_1 i
  | _ => ⟨S2x8192x5120, .bf16⟩

abbrev bufTy : (tb : Table) → Fin (tcTables nBuf tb) → BufTy
  | .hbm, ⟨i, _⟩ => hbmTy i
  | .local _ .vmem, ⟨0, _⟩ => ⟨S1x256x512, .bf16⟩
  | .local _ .vmem, ⟨1, _⟩ => ⟨S1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S8x256x256, .f32⟩
  | .local _ .vmem, ⟨13, _⟩ => ⟨S256x512, .f32⟩
  | .local _ .vmem, ⟨14, _⟩ => ⟨S256x512, .f32⟩
  | .local _ .vmem, ⟨15, _⟩ => ⟨S4x128x256, .f32⟩
  | .local _ .vmem, ⟨16, _⟩ => ⟨S128x256, .f32⟩
  | .local _ .vmem, ⟨17, _⟩ => ⟨S1x256x1024, .bf16⟩
  | .local _ .vmem, ⟨18, _⟩ => ⟨S1x256x1024, .bf16⟩
  | .local _ .vmem, ⟨19, _⟩ => ⟨S4x128x256, .f32⟩
  | _, _ => ⟨S2x8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_cst : Ref sig .tc := ⟨.hbm, 6, rfl⟩
abbrev main_call0_v3 : Ref sig .tc := ⟨.hbm, 7, rfl⟩
abbrev main_call0_v4 : Ref sig .tc := ⟨.hbm, 8, rfl⟩
abbrev main_call0_cst_0 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_cst_1 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_v12 : Ref sig .tc := ⟨.hbm, 18, rfl⟩
abbrev main_call0_v13 : Ref sig .tc := ⟨.hbm, 19, rfl⟩
abbrev main_call0_v14 : Ref sig .tc := ⟨.hbm, 20, rfl⟩
abbrev main_call0_v15 : Ref sig .tc := ⟨.hbm, 21, rfl⟩
abbrev main_call0_v16 : Ref sig .tc := ⟨.hbm, 22, rfl⟩
abbrev main_v0 : Ref sig .tc := ⟨.hbm, 23, rfl⟩
abbrev main_cst_1 : Ref sig .tc := ⟨.hbm, 24, rfl⟩
abbrev main_v1 : Ref sig .tc := ⟨.hbm, 25, rfl⟩
abbrev main_v2 : Ref sig .tc := ⟨.hbm, 26, rfl⟩
abbrev main_cst_2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_3 : Ref sig .tc := ⟨.hbm, 49, rfl⟩
abbrev main_v24 : Ref sig .tc := ⟨.hbm, 50, rfl⟩
abbrev main_v25 : Ref sig .tc := ⟨.hbm, 51, rfl⟩
abbrev main_cst_4 : Ref sig .tc := ⟨.hbm, 52, rfl⟩
abbrev main_v26 : Ref sig .tc := ⟨.hbm, 53, rfl⟩
abbrev main_v27 : Ref sig .tc := ⟨.hbm, 54, rfl⟩
abbrev main_cst_5 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_6 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_7 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_8 : Ref sig .tc := ⟨.hbm, 77, rfl⟩
abbrev main_call1_v0 : Ref sig .tc := ⟨.hbm, 78, rfl⟩
abbrev main_call1_v1 : Ref sig .tc := ⟨.hbm, 79, rfl⟩
abbrev main_call1_v2 : Ref sig .tc := ⟨.hbm, 80, rfl⟩
abbrev main_v47 : Ref sig .tc := ⟨.hbm, 81, rfl⟩
abbrev main_v48 : Ref sig .tc := ⟨.hbm, 82, rfl⟩
abbrev main_cst_9 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_10 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_11 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_c : Ref sig .tc := ⟨.hbm, 110, rfl⟩
abbrev main_call2_v0 : Ref sig .tc := ⟨.hbm, 111, rfl⟩
abbrev main_call2_v1 : Ref sig .tc := ⟨.hbm, 112, rfl⟩
abbrev main_call2_v2 : Ref sig .tc := ⟨.hbm, 113, rfl⟩
abbrev main_call2_v3 : Ref sig .tc := ⟨.hbm, 114, rfl⟩
abbrev main_call2_v4 : Ref sig .tc := ⟨.hbm, 115, rfl⟩
abbrev main_call2_v5 : Ref sig .tc := ⟨.hbm, 116, rfl⟩
abbrev main_call2_v6 : Ref sig .tc := ⟨.hbm, 117, rfl⟩
abbrev main_call2_v7 : Ref sig .tc := ⟨.hbm, 118, rfl⟩
abbrev main_call2_v8 : Ref sig .tc := ⟨.hbm, 119, rfl⟩
abbrev main_call2_c : Ref sig .tc := ⟨.hbm, 120, rfl⟩
abbrev main_call2_v9 : Ref sig .tc := ⟨.hbm, 121, rfl⟩
abbrev main_call2_v10 : Ref sig .tc := ⟨.hbm, 122, rfl⟩
abbrev main_call2_v11 : Ref sig .tc := ⟨.hbm, 123, rfl⟩
abbrev main_call2_c_0 : Ref sig .tc := ⟨.hbm, 124, rfl⟩
abbrev main_call2_v12 : Ref sig .tc := ⟨.hbm, 125, rfl⟩
abbrev main_call2_v13 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_c_12 : Ref sig .tc := ⟨.hbm, 130, rfl⟩
abbrev main_call3_v0 : Ref sig .tc := ⟨.hbm, 131, rfl⟩
abbrev main_call3_v1 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_call3_v5 : Ref sig .tc := ⟨.hbm, 136, rfl⟩
abbrev main_call3_v6 : Ref sig .tc := ⟨.hbm, 137, rfl⟩
abbrev main_call3_v7 : Ref sig .tc := ⟨.hbm, 138, rfl⟩
abbrev main_call3_v8 : Ref sig .tc := ⟨.hbm, 139, rfl⟩
abbrev main_call3_c : Ref sig .tc := ⟨.hbm, 140, rfl⟩
abbrev main_call3_v9 : Ref sig .tc := ⟨.hbm, 141, rfl⟩
abbrev main_call3_v10 : Ref sig .tc := ⟨.hbm, 142, rfl⟩
abbrev main_call3_v11 : Ref sig .tc := ⟨.hbm, 143, rfl⟩
abbrev main_call3_c_0 : Ref sig .tc := ⟨.hbm, 144, rfl⟩
abbrev main_call3_v12 : Ref sig .tc := ⟨.hbm, 145, rfl⟩
abbrev main_call3_v13 : Ref sig .tc := ⟨.hbm, 146, rfl⟩
abbrev main_v76 : Ref sig .tc := ⟨.hbm, 147, rfl⟩
abbrev main_v77 : Ref sig .tc := ⟨.hbm, 148, rfl⟩
abbrev main_v78 : Ref sig .tc := ⟨.hbm, 149, rfl⟩
abbrev main_v79 : Ref sig .tc := ⟨.hbm, 150, rfl⟩
abbrev main_v80 : Ref sig .tc := ⟨.hbm, 151, rfl⟩
abbrev main_cst_13 : Ref sig .tc := ⟨.hbm, 152, rfl⟩
abbrev main_v81 : Ref sig .tc := ⟨.hbm, 153, rfl⟩
abbrev main_v82 : Ref sig .tc := ⟨.hbm, 154, rfl⟩
abbrev main_v83 : Ref sig .tc := ⟨.hbm, 155, rfl⟩
abbrev main_v84 : Ref sig .tc := ⟨.hbm, 156, rfl⟩
abbrev main_v85 : Ref sig .tc := ⟨.hbm, 157, rfl⟩
abbrev main_v86 : Ref sig .tc := ⟨.hbm, 158, rfl⟩
abbrev main_v87 : Ref sig .tc := ⟨.hbm, 159, rfl⟩
abbrev main_v88 : Ref sig .tc := ⟨.hbm, 160, rfl⟩
abbrev main_cst_14 : Ref sig .tc := ⟨.hbm, 161, rfl⟩
abbrev main_v89 : Ref sig .tc := ⟨.hbm, 162, rfl⟩
abbrev main_v90 : Ref sig .tc := ⟨.hbm, 163, rfl⟩
abbrev main_v91 : Ref sig .tc := ⟨.hbm, 164, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S8x256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference10Ideal.lean ====
abbrev S2x8192x5120 : Shape := ⟨3, ![2, 8192, 5120]⟩
abbrev S2x8192x512 : Shape := ⟨3, ![2, 8192, 512]⟩
abbrev S2x8192x1024 : Shape := ⟨3, ![2, 8192, 1024]⟩
abbrev S8192 : Shape := ⟨1, ![8192]⟩
abbrev S2x8192x8x64 : Shape := ⟨4, ![2, 8192, 8, 64]⟩
abbrev S_ : Shape := ⟨0, ![]⟩
abbrev S31 : Shape := ⟨1, ![31]⟩
abbrev S1 : Shape := ⟨1, ![1]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S2x8192x8x32 : Shape := ⟨4, ![2, 8192, 8, 32]⟩
abbrev S2x8x8192x64 : Shape := ⟨4, ![2, 8, 8192, 64]⟩
abbrev S2x8192x8x128 : Shape := ⟨4, ![2, 8192, 8, 128]⟩
abbrev S2x8x8192x128 : Shape := ⟨4, ![2, 8, 8192, 128]⟩
abbrev S8 : Shape := ⟨1, ![8]⟩
abbrev S1x8192 : Shape := ⟨2, ![1, 8192]⟩
abbrev S8192x8192 : Shape := ⟨2, ![8192, 8192]⟩
abbrev S8x1x1 : Shape := ⟨3, ![8, 1, 1]⟩
abbrev S1x8192x8192 : Shape := ⟨3, ![1, 8192, 8192]⟩
abbrev S8x8192x8192 : Shape := ⟨3, ![8, 8192, 8192]⟩
abbrev S2x8x8192x8192 : Shape := ⟨4, ![2, 8, 8192, 8192]⟩
abbrev S1x8x8192x8192 : Shape := ⟨4, ![1, 8, 8192, 8192]⟩
abbrev S2x8x8192 : Shape := ⟨3, ![2, 8, 8192]⟩
abbrev S2x8x8192x1 : Shape := ⟨4, ![2, 8, 8192, 1]⟩

abbrev nBuf : Space → Nat
  | .hbm => 195
  | .vmem => 0
  | .smem => 0
  | _ => 0

abbrev hbmTy0_0 (i : Nat) : BufTy := match i % 128 with
  | 0 => ⟨S2x8192x5120, .bf16⟩
  | 1 => ⟨S2x8192x5120, .f32⟩
  | 2 => ⟨S2x8192x512, .f32⟩
  | 3 => ⟨S2x8192x512, .f32⟩
  | 4 => ⟨S2x8192x1024, .f32⟩
  | 5 => ⟨S2x8192x1024, .f32⟩
  | 6 => ⟨S8192, .i32⟩
  | 7 => ⟨S2x8192x8x64, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S31, .f32⟩
  | 16 => ⟨S_, .f32⟩
  | 17 => ⟨S31, .f32⟩
  | 18 => ⟨S31, .f32⟩
  | 19 => ⟨S1, .f32⟩
  | 20 => ⟨S_, .f32⟩
  | 21 => ⟨S31, .f32⟩
  | 22 => ⟨S31, .f32⟩
  | 23 => ⟨S31, .f32⟩
  | 24 => ⟨S31, .f32⟩
  | 25 => ⟨S1, .f32⟩
  | 26 => ⟨S31, .f32⟩
  | 27 => ⟨S31, .f32⟩
  | 28 => ⟨S31, .f32⟩
  | 29 => ⟨S1, .f32⟩
  | 30 => ⟨S32, .f32⟩
  | 31 => ⟨S_, .f32⟩
  | 32 => ⟨S32, .f32⟩
  | 33 => ⟨S32, .f32⟩
  | 34 => ⟨S_, .f32⟩
  | 35 => ⟨S32, .f32⟩
  | 36 => ⟨S32, .f32⟩
  | 37 => ⟨S8192, .f32⟩
  | 38 => ⟨S8192x1, .f32⟩
  | 39 => ⟨S1x32, .f32⟩
  | 40 => ⟨S8192x32, .f32⟩
  | 41 => ⟨S8192x32, .f32⟩
  | 42 => ⟨S8192x32, .f32⟩
  | 43 => ⟨S8192x32, .f32⟩
  | 44 => ⟨S1x8192x1x32, .f32⟩
  | 45 => ⟨S8192x32, .f32⟩
  | 46 => ⟨S1x8192x1x32, .f32⟩
  | 47 => ⟨S2x8192x8x32, .f32⟩
  | 48 => ⟨S2x8192x8x32, .f32⟩
  | 49 => ⟨S2x8192x8x32, .f32⟩
  | 50 => ⟨S2x8192x8x32, .f32⟩
  | 51 => ⟨S2x8192x8x32, .f32⟩
  | 52 => ⟨S2x8192x8x32, .f32⟩
  | 53 => ⟨S2x8192x8x32, .f32⟩
  | 54 => ⟨S2x8192x8x32, .f32⟩
  | 55 => ⟨S2x8192x8x32, .f32⟩
  | 56 => ⟨S2x8192x8x32, .f32⟩
  | 57 => ⟨S2x8192x8x32, .f32⟩
  | 58 => ⟨S2x8192x8x32, .f32⟩
  | 59 => ⟨S2x8192x8x64, .f32⟩
  | 60 => ⟨S2x8x8192x64, .f32⟩
  | 61 => ⟨S2x8192x8x64, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S31, .f32⟩
  | 70 => ⟨S_, .f32⟩
  | 71 => ⟨S31, .f32⟩
  | 72 => ⟨S31, .f32⟩
  | 73 => ⟨S1, .f32⟩
  | 74 => ⟨S_, .f32⟩
  | 75 => ⟨S31, .f32⟩
  | 76 => ⟨S31, .f32⟩
  | 77 => ⟨S31, .f32⟩
  | 78 => ⟨S31, .f32⟩
  | 79 => ⟨S1, .f32⟩
  | 80 => ⟨S31, .f32⟩
  | 81 => ⟨S31, .f32⟩
  | 82 => ⟨S31, .f32⟩
  | 83 => ⟨S1, .f32⟩
  | 84 => ⟨S32, .f32⟩
  | 85 => ⟨S_, .f32⟩
  | 86 => ⟨S32, .f32⟩
  | 87 => ⟨S32, .f32⟩
  | 88 => ⟨S_, .f32⟩
  | 89 => ⟨S32, .f32⟩
  | 90 => ⟨S32, .f32⟩
  | 91 => ⟨S8192, .f32⟩
  | 92 => ⟨S8192x1, .f32⟩
  | 93 => ⟨S1x32, .f32⟩
  | 94 => ⟨S8192x32, .f32⟩
  | 95 => ⟨S8192x32, .f32⟩
  | 96 => ⟨S8192x32, .f32⟩
  | 97 => ⟨S8192x32, .f32⟩
  | 98 => ⟨S1x8192x1x32, .f32⟩
  | 99 => ⟨S8192x32, .f32⟩
  | 100 => ⟨S1x8192x1x32, .f32⟩
  | 101 => ⟨S2x8192x8x32, .f32⟩
  | 102 => ⟨S2x8192x8x32, .f32⟩
  | 103 => ⟨S2x8192x8x32, .f32⟩
  | 104 => ⟨S2x8192x8x32, .f32⟩
  | 105 => ⟨S2x8192x8x32, .f32⟩
  | 106 => ⟨S2x8192x8x32, .f32⟩
  | 107 => ⟨S2x8192x8x32, .f32⟩
  | 108 => ⟨S2x8192x8x32, .f32⟩
  | 109 => ⟨S2x8192x8x32, .f32⟩
  | 110 => ⟨S2x8192x8x32, .f32⟩
  | 111 => ⟨S2x8192x8x32, .f32⟩
  | 112 => ⟨S2x8192x8x32, .f32⟩
  | 113 => ⟨S2x8192x8x64, .f32⟩
  | 114 => ⟨S_, .f32⟩
  | 115 => ⟨S2x8192x8x64, .f32⟩
  | 116 => ⟨S2x8192x8x64, .f32⟩
  | 117 => ⟨S2x8x8192x64, .f32⟩
  | 118 => ⟨S2x8192x8x128, .f32⟩
  | 119 => ⟨S2x8x8192x128, .f32⟩
  | 120 => ⟨S8, .f32⟩
  | 121 => ⟨S_, .f32⟩
  | 122 => ⟨S8, .f32⟩
  | 123 => ⟨S8, .f32⟩
  | 124 => ⟨S_, .f32⟩
  | 125 => ⟨S8, .f32⟩
  | 126 => ⟨S8, .f32⟩
  | 127 => ⟨S_, .f32⟩
  | _ => ⟨S2x8192x5120, .bf16⟩

abbrev hbmTy0_1 (i : Nat) : BufTy := match i % 128 with
  | 0 => ⟨S8, .f32⟩
  | 1 => ⟨S8, .f32⟩
  | 2 => ⟨S8, .f32⟩
  | 3 => ⟨S8192, .f32⟩
  | 4 => ⟨S8192x1, .f32⟩
  | 5 => ⟨S1x8192, .f32⟩
  | 6 => ⟨S8192x8192, .f32⟩
  | 7 => ⟨S8192x8192, .f32⟩
  | 8 => ⟨S8192x8192, .f32⟩
  | 9 => ⟨S_, .f32⟩
  | 10 => ⟨S8192x8192, .f32⟩
  | 11 => ⟨S8192x8192, .i1⟩
  | 12 => ⟨S8x1x1, .f32⟩
  | 13 => ⟨S_, .f32⟩
  | 14 => ⟨S8192x8192, .f32⟩
  | 15 => ⟨S8192x8192, .f32⟩
  | 16 => ⟨S1x8192x8192, .f32⟩
  | 17 => ⟨S8x8192x8192, .f32⟩
  | 18 => ⟨S8x8192x8192, .f32⟩
  | 19 => ⟨S8x8192x8192, .f32⟩
  | 20 => ⟨S8x8192x8192, .f32⟩
  | 21 => ⟨S_, .f32⟩
  | 22 => ⟨S_, .f32⟩
  | 23 => ⟨S8x8192x8192, .i1⟩
  | 24 => ⟨S8x8192x8192, .f32⟩
  | 25 => ⟨S8x8192x8192, .f32⟩
  | 26 => ⟨S2x8x8192x8192, .f32⟩
  | 27 => ⟨S1x8x8192x8192, .f32⟩
  | 28 => ⟨S2x8x8192x8192, .f32⟩
  | 29 => ⟨S2x8x8192x8192, .f32⟩
  | 30 => ⟨S2x8x8192x128, .f32⟩
  | 31 => ⟨S_, .f32⟩
  | 32 => ⟨S2x8x8192, .f32⟩
  | 33 => ⟨S2x8x8192x1, .f32⟩
  | 34 => ⟨S_, .f32⟩
  | 35 => ⟨S2x8x8192x1, .f32⟩
  | 36 => ⟨S2x8x8192x1, .f32⟩
  | 37 => ⟨S2x8x8192x128, .f32⟩
  | 38 => ⟨S2x8x8192x128, .f32⟩
  | 39 => ⟨S2x8x8192x128, .f32⟩
  | 40 => ⟨S_, .f32⟩
  | 41 => ⟨S2x8x8192, .f32⟩
  | 42 => ⟨S2x8x8192x1, .f32⟩
  | 43 => ⟨S_, .f32⟩
  | 44 => ⟨S2x8x8192x1, .f32⟩
  | 45 => ⟨S2x8x8192x1, .f32⟩
  | 46 => ⟨S2x8x8192x128, .f32⟩
  | 47 => ⟨S2x8x8192x128, .f32⟩
  | 48 => ⟨S_, .f32⟩
  | 49 => ⟨S2x8x8192x1, .f32⟩
  | 50 => ⟨S2x8x8192x1, .f32⟩
  | 51 => ⟨S2x8x8192x1, .f32⟩
  | 52 => ⟨S2x8x8192x128, .f32⟩
  | 53 => ⟨S2x8x8192x128, .f32⟩
  | 54 => ⟨S2x8192x8x128, .f32⟩
  | 55 => ⟨S2x8192x1024, .f32⟩
  | 56 => ⟨S2x8192x1024, .f32⟩
  | 57 => ⟨S2x8192x1024, .f32⟩
  | 58 => ⟨S_, .f32⟩
  | 59 => ⟨S2x8192x1024, .f32⟩
  | 60 => ⟨S2x8192x1024, .f32⟩
  | 61 => ⟨S_, .f32⟩
  | 62 => ⟨S2x8192x1024, .f32⟩
  | 63 => ⟨S2x8192x1024, .f32⟩
  | 64 => ⟨S2x8192x1024, .f32⟩
  | 65 => ⟨S2x8192x1024, .f32⟩
  | 66 => ⟨S2x8192x1024, .bf16⟩
  | _ => ⟨S2x8192x5120, .bf16⟩

abbrev hbmTy (i : Nat) : BufTy := match i / 128 with
  | 0 => hbmTy0_0 i
  | 1 => hbmTy0_1 i
  | _ => ⟨S2x8192x5120, .bf16⟩

abbrev bufTy : (tb : Table) → Fin (tcTables nBuf tb) → BufTy
  | .hbm, ⟨i, _⟩ => hbmTy i
  | _, _ => ⟨S2x8192x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_cst : Ref sig .tc := ⟨.hbm, 13, rfl⟩
abbrev main_call0_v3 : Ref sig .tc := ⟨.hbm, 14, rfl⟩
abbrev main_call0_v4 : Ref sig .tc := ⟨.hbm, 15, rfl⟩
abbrev main_call0_cst_0 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_v15 : Ref sig .tc := ⟨.hbm, 28, rfl⟩
abbrev main_call0_v16 : Ref sig .tc := ⟨.hbm, 29, rfl⟩
abbrev main_v7 : Ref sig .tc := ⟨.hbm, 30, rfl⟩
abbrev main_cst_1 : Ref sig .tc := ⟨.hbm, 31, rfl⟩
abbrev main_v8 : Ref sig .tc := ⟨.hbm, 32, rfl⟩
abbrev main_v9 : Ref sig .tc := ⟨.hbm, 33, rfl⟩
abbrev main_cst_2 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_3 : Ref sig .tc := ⟨.hbm, 62, rfl⟩
abbrev main_cst_4 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_call1_cst : Ref sig .tc := ⟨.hbm, 67, rfl⟩
abbrev main_call1_v3 : Ref sig .tc := ⟨.hbm, 68, rfl⟩
abbrev main_call1_v4 : Ref sig .tc := ⟨.hbm, 69, rfl⟩
abbrev main_call1_cst_0 : Ref sig .tc := ⟨.hbm, 70, rfl⟩
abbrev main_call1_v5 : Ref sig .tc := ⟨.hbm, 71, rfl⟩
abbrev main_call1_v6 : Ref sig .tc := ⟨.hbm, 72, rfl⟩
abbrev main_call1_v7 : Ref sig .tc := ⟨.hbm, 73, rfl⟩
abbrev main_call1_cst_1 : Ref sig .tc := ⟨.hbm, 74, rfl⟩
abbrev main_call1_v8 : Ref sig .tc := ⟨.hbm, 75, rfl⟩
abbrev main_call1_v9 : Ref sig .tc := ⟨.hbm, 76, rfl⟩
abbrev main_call1_v10 : Ref sig .tc := ⟨.hbm, 77, rfl⟩
abbrev main_call1_v11 : Ref sig .tc := ⟨.hbm, 78, rfl⟩
abbrev main_call1_v12 : Ref sig .tc := ⟨.hbm, 79, rfl⟩
abbrev main_call1_v13 : Ref sig .tc := ⟨.hbm, 80, rfl⟩
abbrev main_call1_v14 : Ref sig .tc := ⟨.hbm, 81, rfl⟩
abbrev main_call1_v15 : Ref sig .tc := ⟨.hbm, 82, rfl⟩
abbrev main_call1_v16 : Ref sig .tc := ⟨.hbm, 83, rfl⟩
abbrev main_v37 : Ref sig .tc := ⟨.hbm, 84, rfl⟩
abbrev main_cst_5 : Ref sig .tc := ⟨.hbm, 85, rfl⟩
abbrev main_v38 : Ref sig .tc := ⟨.hbm, 86, rfl⟩
abbrev main_v39 : Ref sig .tc := ⟨.hbm, 87, rfl⟩
abbrev main_cst_6 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_cst_7 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_cst_8 : Ref sig .tc := ⟨.hbm, 121, rfl⟩
abbrev main_v71 : Ref sig .tc := ⟨.hbm, 122, rfl⟩
abbrev main_v72 : Ref sig .tc := ⟨.hbm, 123, rfl⟩
abbrev main_cst_9 : Ref sig .tc := ⟨.hbm, 124, rfl⟩
abbrev main_v73 : Ref sig .tc := ⟨.hbm, 125, rfl⟩
abbrev main_v74 : Ref sig .tc := ⟨.hbm, 126, rfl⟩
abbrev main_cst_10 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_cst_11 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_cst_12 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_cst_13 : Ref sig .tc := ⟨.hbm, 149, rfl⟩
abbrev main_call2_v0 : Ref sig .tc := ⟨.hbm, 150, rfl⟩
abbrev main_call2_v1 : Ref sig .tc := ⟨.hbm, 151, rfl⟩
abbrev main_call2_v2 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_cst_14 : Ref sig .tc := ⟨.hbm, 159, rfl⟩
abbrev main_v100 : Ref sig .tc := ⟨.hbm, 160, rfl⟩
abbrev main_v101 : Ref sig .tc := ⟨.hbm, 161, rfl⟩
abbrev main_cst_15 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_cst_16 : Ref sig .tc := ⟨.hbm, 168, rfl⟩
abbrev main_v107 : Ref sig .tc := ⟨.hbm, 169, rfl⟩
abbrev main_v108 : Ref sig .tc := ⟨.hbm, 170, rfl⟩
abbrev main_cst_17 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_cst_18 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_call3_v0 : Ref sig .tc := ⟨.hbm, 184, rfl⟩
abbrev main_call3_v1 : Ref sig .tc := ⟨.hbm, 185, rfl⟩
abbrev main_call3_cst : Ref sig .tc := ⟨.hbm, 186, rfl⟩
abbrev main_call3_v2 : Ref sig .tc := ⟨.hbm, 187, rfl⟩
abbrev main_call3_v3 : Ref sig .tc := ⟨.hbm, 188, rfl⟩
abbrev main_call3_cst_0 : Ref sig .tc := ⟨.hbm, 189, rfl⟩
abbrev main_call3_v4 : Ref sig .tc := ⟨.hbm, 190, rfl⟩
abbrev main_call3_v5 : Ref sig .tc := ⟨.hbm, 191, rfl⟩
abbrev main_v120 : Ref sig .tc := ⟨.hbm, 192, rfl⟩
abbrev main_v121 : Ref sig .tc := ⟨.hbm, 193, rfl⟩
abbrev main_v122 : Ref sig .tc := ⟨.hbm, 194, rfl⟩

abbrev nD : Nat := 1
abbrev τ : Topo := Topo.v7x

variable {F : FTy → Type} [FloatOps F]
-- ==== Proof.Fox.Prog.lean ====
/- The attention kernel's body, written once: a group of 128 rows, an update over the groups, the logits of a
   block, and the body over them. `Body.lean` shows the printed body is this program. -/
module

public import proofs.«01_k».proof.Proof.Gen.Kernel

@[expose] public section

noncomputable section

namespace Cert.Fox

open Idealize.ShloMosaic Idealize.SL.Sem
open Cert.Kernel (S1x2048x128 S1x8192x128 S8192x256 S8192x128 S2048x1024 S2048x128 S2048x256 S128x1024 S128x128 S128 S128x1
  S1024x256 S1024x1024 S2048x1 k0_off1 k0_off2 k0_off3 k0_off4 k0_off5 k0_off6 k0_t1_loop k0_t2_loop
  dot_S2048x256_S1024x256_S2048x1024_1_1_0_0_n_n dot_S2048x1024_S1024x256_S2048x256_1_0_0_1_n_n
  dot_S1024x256_S1024x256_S1024x1024_1_1_0_0_n_n dot_S1024x1024_S1024x256_S1024x256_1_0_0_1_n_n)
open Cert.Kernel.Facts₀ Cert.Kernel.Facts

variable {nD : Nat} {τ : Topo} {sig : RefSig} {Λ : Labels} {F : FTy → Type} [FloatOps F]
variable {s : Shape} {e : EltTy}

/-- The body's references: the blocks of the queries, keys, values, forget sums and results, then the scratch. -/
structure Refs (sig : RefSig) where
  q : Memref sig .tc .vmem S1x2048x128 .bf16
  k : Memref sig .tc .vmem S1x8192x128 .bf16
  v : Memref sig .tc .vmem S1x8192x128 .bf16
  c3 : Memref sig .tc .vmem S1x8192x128 .bf16
  o : Memref sig .tc .vmem S1x2048x128 .bf16
  ka : Memref sig .tc .vmem S8192x256 .bf16
  va : Memref sig .tc .vmem S8192x256 .bf16
  s0 : Memref sig .tc .vmem S2048x1024 .f32
  s1 : Memref sig .tc .vmem S2048x1024 .f32
  p : Memref sig .tc .vmem S2048x1024 .bf16
  m : Memref sig .tc .vmem S2048x128 .f32
  acc : Memref sig .tc .vmem S2048x256 .f32
  ho : o.IsWhole
  hka : ka.IsWhole
  hva : va.IsWhole
  hp : p.IsWhole

/-- Read a window. -/
def ld (m : Memref sig .tc .vmem s e) (off size : Fin s.rank → ℕ) (inb : ∀ a, off a + size a ≤ s.size a)
    (h0 : 0 < (⟨s.rank, size⟩ : Shape).numel) : Prog (TpuEff nD τ sig (Elt F) Λ .tc) ((Rect.unit off size inb).shape.Idx → Elt F e) :=
  Prog.lift (.load m (Rect.unit off size inb).toLoadRect (View.loadsAt_vmem h0))

/-- Store a window, after a read of it that nothing uses. -/
def st (m : Memref sig .tc .vmem s e) (off size : Fin s.rank → ℕ) (inb : ∀ a, off a + size a ≤ s.size a)
    (h0 : 0 < (⟨s.rank, size⟩ : Shape).numel) (w : (Rect.unit off size inb).shape.Idx → Elt F e)
    (hx : (m.access (Rect.unit off size inb)).Stores Finset.univ) : Prog (TpuEff nD τ sig (Elt F) Λ .tc) PUnit := do
  let _ ← Prog.lift (.load m (Rect.unit off size inb).toLoadRect (View.loadsAt_vmem h0))
  Prog.lift (.store m (Rect.unit off size inb) w Finset.univ hx (.inl rfl))

/-! ## Windows -/

theorem inbS {R : ℕ} (hR : R + 128 ≤ 2048) : ∀ a, (![R, 0] : Fin 2 → Nat) a + S128x1024.size a ≤ S2048x1024.size a := by
  intro a; match a with
  | 0 => exact hR
  | 1 => exact le_refl 1024
theorem inbM {R : ℕ} (hR : R + 128 ≤ 2048) : ∀ a, (![R, 0] : Fin 2 → Nat) a + S128x128.size a ≤ S2048x128.size a := by
  intro a; match a with
  | 0 => exact hR
  | 1 => exact le_refl 128
theorem inbP {R C : ℕ} (hR : R + 128 ≤ 2048) (hC : C + 128 ≤ 1024) : ∀ a, (![R, C] : Fin 2 → Nat) a + S128x128.size a ≤ S2048x1024.size a := by
  intro a; match a with
  | 0 => exact hR
  | 1 => exact hC
theorem inbA {R C : ℕ} (hR : R + 128 ≤ 2048) (hC : C + 128 ≤ 256) : ∀ a, (![R, C] : Fin 2 → Nat) a + S128x128.size a ≤ S2048x256.size a := by
  intro a; match a with
  | 0 => exact hR
  | 1 => exact hC
theorem slicesC {C : ℕ} (hC : C + 128 ≤ 1024) : S128x1024.Slices ![0, C] S128x128 :=
  ⟨rfl, fun a => by match a with
    | 0 => exact (by decide : (0 : ℕ) + 128 ≤ 128)
    | 1 => exact hC⟩
theorem packedP {R C : ℕ} (hR : R + 128 ≤ 2048) (hC : C + 128 ≤ 1024) (h2 : 2 ∣ R) :
    (Rect.unit (s := S2048x1024) ![R, C] S128x128.size (inbP hR hC)).PackedRows (EltTy.packing .bf16) := by
  have hk : 2 ≤ S2048x1024.rank := by decide
  refine .inr ⟨hk, rfl, .inl ⟨?_, ?_⟩⟩
  · exact h2
  · exact (by decide : (2 : ℕ) ∣ 128)

/-! ## A group of 128 rows -/

/-- The group's running row maximum. -/
def mx (s : Vec F S128x1024 .f32) (m : Vec F S128x128 .f32) : Vec F S128x128 .f32 :=
  maximumf m (broadcastTo S128x128 (shapeCast S128x1 (multiReduction .maximumf [1] S128 s 0xFF800000#32 reduces_S128x1024_S128 (.inl rfl) rfl) shapeCasts_S128_S128x1) broadcasts_S128x1_S128x128)

/-- Its weights in 128 of the 1024 columns. -/
def pc (s : Vec F S128x1024 .f32) (mn : Vec F S128x128 .f32) (C : ℕ) (hC : C + 128 ≤ 1024) : Vec F S128x128 .bf16 :=
  truncf .bf16 (exp2 (subf (extractStridedSlice S128x128 ![0, C] s (slicesC hC)) mn)) bitsLt_bf16_f32

/-- Store the weights of 128 columns. -/
def putP (A : Refs sig) (R : ℕ) (hR : R + 128 ≤ 2048) (h2 : 2 ∣ R) (s : Vec F S128x1024 .f32) (mn : Vec F S128x128 .f32) (C : ℕ) (hC : C + 128 ≤ 1024) :
    Prog (TpuEff nD τ sig (Elt F) Λ .tc) PUnit :=
  st A.p ![R, C] S128x128.size (inbP hR hC) h_S128x128 (shapeCast S128x128 (pc s mn C hC) shapeCasts_S128x128_S128x128)
    (View.stores_vmem h_S128x128 (A.hp.storeExact_slice rfl _ (packedP hR hC h2)) (fun _ => rfl))

/-- Rescale 128 columns of the accumulator. -/
def scaleA (A : Refs sig) (R : ℕ) (hR : R + 128 ≤ 2048) (al : Vec F S128x128 .f32) (C : ℕ) (hC : C + 128 ≤ 256) :
    Prog (TpuEff nD τ sig (Elt F) Λ .tc) PUnit := do
  let a ← ld A.acc ![R, C] S128x128.size (inbA hR hC) h_S128x128
  st A.acc ![R, C] S128x128.size (inbA hR hC) h_S128x128 (shapeCast S128x128 (mulf al a) shapeCasts_S128x128_S128x128)
    (View.stores_vmem_bits_univ h_S128x128 rfl)

/-- A group's update: the new maximum, the weights, the rescaled accumulator. -/
def group (A : Refs sig) (sr : Memref sig .tc .vmem S2048x1024 .f32) (msk : Vec F S128x1024 .f32 → Vec F S128x1024 .f32)
    (R : ℕ) (hR : R + 128 ≤ 2048) (h2 : 2 ∣ R) : Prog (TpuEff nD τ sig (Elt F) Λ .tc) PUnit := do
  let s ← ld sr ![R, 0] S128x1024.size (inbS hR) h_S128x1024
  let m ← ld A.m ![R, 0] S128x128.size (inbM hR) h_S128x128
  st A.m ![R, 0] S128x128.size (inbM hR) h_S128x128 (shapeCast S128x128 (mx (msk s) m) shapeCasts_S128x128_S128x128)
    (View.stores_vmem_bits_univ h_S128x128 rfl)
  putP A R hR h2 (msk s) (mx (msk s) m) 0 (by decide)
  putP A R hR h2 (msk s) (mx (msk s) m) 128 (by decide)
  putP A R hR h2 (msk s) (mx (msk s) m) 256 (by decide)
  putP A R hR h2 (msk s) (mx (msk s) m) 384 (by decide)
  putP A R hR h2 (msk s) (mx (msk s) m) 512 (by decide)
  putP A R hR h2 (msk s) (mx (msk s) m) 640 (by decide)
  putP A R hR h2 (msk s) (mx (msk s) m) 768 (by decide)
  putP A R hR h2 (msk s) (mx (msk s) m) 896 (by decide)
  scaleA A R hR (exp2 (subf m (mx (msk s) m))) 0 (by decide)
  scaleA A R hR (exp2 (subf m (mx (msk s) m))) 128 (by decide)

/-- The causal mask of a group: row `R + r` sees column `C + c` when the latter is not beyond the former. -/
def mask (R C : ℕ) (s : Vec F S128x1024 .f32) : Vec F S128x1024 .f32 :=
  select (cmpi .sle (addi (iota .tc S128x1024 32 [1] iota_S128x1024_d1_w32) (broadcast S128x1024 (BitVec.ofNat 32 C)))
    (addi (iota .tc S128x1024 32 [0] iota_S128x1024_d0_w32) (broadcast S128x1024 (BitVec.ofNat 32 R)))) s
    (broadcast S128x1024 (Scalar.ofBits .f32 0xFF800000#32))

/-- The lower eight groups. -/
def lower (A : Refs sig) (sr : Memref sig .tc .vmem S2048x1024 .f32) (msk : ℕ → Vec F S128x1024 .f32 → Vec F S128x1024 .f32) :
    Prog (TpuEff nD τ sig (Elt F) Λ .tc) PUnit := do
  group A sr (msk 0) 0 (by decide) (by decide)
  group A sr (msk 128) 128 (by decide) (by decide)
  group A sr (msk 256) 256 (by decide) (by decide)
  group A sr (msk 384) 384 (by decide) (by decide)
  group A sr (msk 512) 512 (by decide) (by decide)
  group A sr (msk 640) 640 (by decide) (by decide)
  group A sr (msk 768) 768 (by decide) (by decide)
  group A sr (msk 896) 896 (by decide) (by decide)

/-- The upper eight groups. -/
def upper (A : Refs sig) (sr : Memref sig .tc .vmem S2048x1024 .f32) (msk : ℕ → Vec F S128x1024 .f32 → Vec F S128x1024 .f32) :
    Prog (TpuEff nD τ sig (Elt F) Λ .tc) PUnit := do
  group A sr (msk 1024) 1024 (by decide) (by decide)
  group A sr (msk 1152) 1152 (by decide) (by decide)
  group A sr (msk 1280) 1280 (by decide) (by decide)
  group A sr (msk 1408) 1408 (by decide) (by decide)
  group A sr (msk 1536) 1536 (by decide) (by decide)
  group A sr (msk 1664) 1664 (by decide) (by decide)
  group A sr (msk 1792) 1792 (by decide) (by decide)
  group A sr (msk 1920) 1920 (by decide) (by decide)

/-! ## Blocks -/

/-- The logits of all rows against a block of keys. -/
def logits (A : Refs sig) (sr : Memref sig .tc .vmem S2048x1024 .f32) (qa : Vec F S2048x256 .bf16) (off : Fin 2 → ℕ)
    (inb : ∀ a, off a + S1024x256.size a ≤ S8192x256.size a) : Prog (TpuEff nD τ sig (Elt F) Λ .tc) PUnit := do
  let k ← ld A.ka off S1024x256.size inb h_S1024x256
  st sr ![0, 0] S2048x1024.size inb_S2048x1024_S2048x1024_0_0 h_S2048x1024
    (shapeCast S2048x1024 (matmul dot_S2048x256_S1024x256_S2048x1024_1_1_0_0_n_n none qa k (constant S2048x1024 .f32 0x00000000#32)) shapeCasts_S2048x1024_S2048x1024)
    (View.stores_vmem_bits_univ h_S2048x1024 rfl)

/-- The weights of a block against its values, added to the accumulator. -/
def addPV (A : Refs sig) (off : Fin 2 → ℕ) (inb : ∀ a, off a + S1024x256.size a ≤ S8192x256.size a) :
    Prog (TpuEff nD τ sig (Elt F) Λ .tc) PUnit := do
  let a ← ld A.acc ![0, 0] S2048x256.size inb_S2048x256_S2048x256_0_0 h_S2048x256
  let p ← ld A.p ![0, 0] S2048x1024.size inb_S2048x1024_S2048x1024_0_0 h_S2048x1024
  let v ← ld A.va off S1024x256.size inb h_S1024x256
  st A.acc ![0, 0] S2048x256.size inb_S2048x256_S2048x256_0_0 h_S2048x256
    (shapeCast S2048x256 (addf a (matmul dot_S2048x1024_S1024x256_S2048x256_1_0_0_1_n_n none p v (constant S2048x256 .f32 0x00000000#32))) shapeCasts_S2048x256_S2048x256)
    (View.stores_vmem_bits_univ h_S2048x256 rfl)

/-- The logits of the upper rows against a block of keys. -/
def logitsHi (A : Refs sig) (qa : Vec F S2048x256 .bf16) (off : Fin 2 → ℕ)
    (inb : ∀ a, off a + S1024x256.size a ≤ S8192x256.size a) : Prog (TpuEff nD τ sig (Elt F) Λ .tc) PUnit := do
  let k ← ld A.ka off S1024x256.size inb h_S1024x256
  st A.s1 ![1024, 0] S1024x1024.size inb_S2048x1024_S1024x1024_1024_0 h_S1024x1024
    (shapeCast S1024x1024 (matmul dot_S1024x256_S1024x256_S1024x1024_1_1_0_0_n_n none (extractStridedSlice S1024x256 ![1024, 0] qa slices_S2048x256_o1024_0_S1024x256) k (constant S1024x1024 .f32 0x00000000#32)) shapeCasts_S1024x1024_S1024x1024)
    (View.stores_vmem_bits_univ h_S1024x1024 rfl)

/-- The upper rows' weights against a block of values, added to the accumulator. -/
def addPVHi (A : Refs sig) (off : Fin 2 → ℕ) (inb : ∀ a, off a + S1024x256.size a ≤ S8192x256.size a) :
    Prog (TpuEff nD τ sig (Elt F) Λ .tc) PUnit := do
  let a ← ld A.acc ![1024, 0] S1024x256.size inb_S2048x256_S1024x256_1024_0 h_S1024x256
  let p ← ld A.p ![1024, 0] S1024x1024.size inb_S2048x1024_S1024x1024_1024_0 h_S1024x1024
  let v ← ld A.va off S1024x256.size inb h_S1024x256
  st A.acc ![1024, 0] S1024x256.size inb_S2048x256_S1024x256_1024_0 h_S1024x256
    (shapeCast S1024x256 (addf a (matmul dot_S1024x1024_S1024x256_S1024x256_1_0_0_1_n_n none p v (constant S1024x256 .f32 0x00000000#32))) shapeCasts_S1024x256_S1024x256)
    (View.stores_vmem_bits_univ h_S1024x256 rfl)

/-- One trip of the loop: two blocks of keys, none masked. -/
def trip (A : Refs sig) (qa : Vec F S2048x256 .bf16) (o1 o2 o3 : Fin 2 → ℕ)
    (h1 : ∀ a, o1 a + S1024x256.size a ≤ S8192x256.size a) (h2 : ∀ a, o2 a + S1024x256.size a ≤ S8192x256.size a)
    (h3 : ∀ a, o3 a + S1024x256.size a ≤ S8192x256.size a) : Prog (TpuEff nD τ sig (Elt F) Λ .tc) PUnit := do
  logits A A.s1 qa o1 h1
  lower A A.s0 (fun _ x => x)
  upper A A.s0 (fun _ x => x)
  addPV A o2 h2
  logits A A.s0 qa o3 h3
  lower A A.s1 (fun _ x => x)
  upper A A.s1 (fun _ x => x)
  addPV A o1 h1

/-- The queries beside the three lanes of the head's forget sums. -/
def qaug (i : Cert.Kernel.grid0.Coords) (q : Vec F S1x2048x128 .bf16) : Vec F S2048x256 .bf16 :=
  concatenate S2048x256 1 [⟨S2048x128, shapeCast S2048x128 q shapeCasts_S1x2048x128_S2048x128⟩,
    ⟨S2048x128, truncf .bf16 (sitofp .f32 (extui 32 (ori (ori
      (cmpi .eq (iota .tc S2048x128 32 [1] iota_S2048x128_d1_w32) (broadcast S2048x128 (BitVec.ofNat 32 (i 1).val)))
      (cmpi .eq (iota .tc S2048x128 32 [1] iota_S2048x128_d1_w32) (broadcast S2048x128 (Scalar.addi (BitVec.ofNat 32 (i 1).val) 8#32))))
      (cmpi .eq (iota .tc S2048x128 32 [1] iota_S2048x128_d1_w32) (broadcast S2048x128 (Scalar.addi (BitVec.ofNat 32 (i 1).val) 16#32)))) natLt_1_32)) bitsLt_bf16_f32⟩]
    concatenates_S2048x128_S2048x128_S2048x256_d1

/-- The lane of ones beside the values. -/
def ones : Vec F S8192x128 .bf16 :=
  truncf .bf16 (sitofp .f32 (extui 32 (cmpi .eq (iota .tc S8192x128 32 [1] iota_S8192x128_d1_w32) (broadcast S8192x128 0#32)) natLt_1_32)) bitsLt_bf16_f32

/-- Store a half of a table of keys or values. -/
def putHalf (m : Memref sig .tc .vmem S8192x256 .bf16) (hm : m.IsWhole) (w : Vec F S8192x128 .bf16) :
    Prog (TpuEff nD τ sig (Elt F) Λ .tc) PUnit :=
  st m ![0, 0] S8192x128.size inb_S8192x256_S8192x128_0_0 h_S8192x128 (shapeCast S8192x128 w shapeCasts_S8192x128_S8192x128)
    (View.stores_vmem h_S8192x128 (hm.storeExact_slice rfl _ packedbf16_S8192x256_S8192x128_0_0) (fun _ => rfl))

def putHalf' (m : Memref sig .tc .vmem S8192x256 .bf16) (hm : m.IsWhole) (w : Vec F S8192x128 .bf16) :
    Prog (TpuEff nD τ sig (Elt F) Λ .tc) PUnit :=
  st m ![0, 128] S8192x128.size inb_S8192x256_S8192x128_0_128 h_S8192x128 (shapeCast S8192x128 w shapeCasts_S8192x128_S8192x128)
    (View.stores_vmem h_S8192x128 (hm.storeExact_slice rfl _ packedbf16_S8192x256_S8192x128_0_128) (fun _ => rfl))

/-- The tables of a head, at the first of its grid points. -/
def tables (A : Refs sig) : Prog (TpuEff nD τ sig (Elt F) Λ .tc) PUnit := do
  let k ← ld A.k ![0, 0, 0] S1x8192x128.size inb_S1x8192x128_S1x8192x128_0_0_0 h_S1x8192x128
  putHalf A.ka A.hka (shapeCast S8192x128 k shapeCasts_S1x8192x128_S8192x128)
  let c ← ld A.c3 ![0, 0, 0] S1x8192x128.size inb_S1x8192x128_S1x8192x128_0_0_0 h_S1x8192x128
  putHalf' A.ka A.hka (shapeCast S8192x128 c shapeCasts_S1x8192x128_S8192x128)
  let v ← ld A.v ![0, 0, 0] S1x8192x128.size inb_S1x8192x128_S1x8192x128_0_0_0 h_S1x8192x128
  putHalf A.va A.hva (shapeCast S8192x128 v shapeCasts_S1x8192x128_S8192x128)
  putHalf' A.va A.hva ones

/-- The condition of the first grid point of a head. -/
abbrev first (i : Cert.Kernel.grid0.Coords) : BitVec 1 :=
  Scalar.cmpi .ne (Scalar.extui (Scalar.cmpi .eq (BitVec.ofNat 32 (i 2).val) 0#32) : BitVec 32) 0#32

/-- The maxima and the accumulator before the first block of keys. -/
def start (A : Refs sig) : Prog (TpuEff nD τ sig (Elt F) Λ .tc) PUnit := do
  st A.m ![0, 0] S2048x128.size inb_S2048x128_S2048x128_0_0 h_S2048x128
    (shapeCast S2048x128 (broadcast S2048x128 (Scalar.ofBits .f32 0xFF800000#32)) shapeCasts_S2048x128_S2048x128) (View.stores_vmem_bits_univ h_S2048x128 rfl)
  st A.acc ![0, 0] S2048x256.size inb_S2048x256_S2048x256_0_0 h_S2048x256
    (shapeCast S2048x256 (broadcast S2048x256 (Scalar.ofBits .f32 0x00000000#32)) shapeCasts_S2048x256_S2048x256) (View.stores_vmem_bits_univ h_S2048x256 rfl)

/-- The masked blocks of keys, the rows' own. -/
def diag (A : Refs sig) (i : Cert.Kernel.grid0.Coords) (qa : Vec F S2048x256 .bf16) : Prog (TpuEff nD τ sig (Elt F) Λ .tc) PUnit := do
  logitsHi A qa (k0_off5 i) (k0_off5_inb i)
  lower A A.s0 (fun R => mask R 0)
  upper A A.s0 (fun _ x => x)
  addPV A (k0_off6 i) (k0_off6_inb i)
  upper A A.s1 (fun R => mask R 1024)
  addPVHi A (k0_off5 i) (k0_off5_inb i)

/-- The rows' result of the accumulator: the weighted values over the sum of the weights. -/
def outOf (a : Vec F S2048x256 .f32) : Vec F S1x2048x128 .bf16 :=
  shapeCast S1x2048x128 (truncf .bf16 (mulf (extractStridedSlice S2048x128 ![0, 0] a slices_S2048x256_o0_0_S2048x128)
    (broadcastTo S2048x128 (divf (broadcast S2048x1 (Scalar.ofBits .f32 0x3F800000#32)) (extractStridedSlice S2048x1 ![0, 128] a slices_S2048x256_o0_128_S2048x1)) broadcasts_S2048x1_S2048x128)) bitsLt_bf16_f32)
    shapeCasts_S2048x128_S1x2048x128

/-- The result's store. -/
def finish (A : Refs sig) : Prog (TpuEff nD τ sig (Elt F) Λ .tc) PUnit := do
  let a ← ld A.acc ![0, 0] S2048x256.size inb_S2048x256_S2048x256_0_0 h_S2048x256
  st A.o ![0, 0, 0] S1x2048x128.size inb_S1x2048x128_S1x2048x128_0_0_0 h_S1x2048x128 (outOf a)
    (View.stores_vmem h_S1x2048x128 (A.ho.storeExact_slice rfl _ packedbf16_S1x2048x128_S1x2048x128_0_0_0) (fun _ => rfl))

/-- What comes before the loop: the tables, the queries, the start, the logits of the first block. -/
def head (A : Refs sig) (i : Cert.Kernel.grid0.Coords) : Prog (TpuEff nD τ sig (Elt F) Λ .tc) (FVec F S2048x256 .bf16) := do
  let _ ← (if h : first i = 1#1 then tables A else pure ⟨⟩ : Prog (TpuEff nD τ sig (Elt F) Λ .tc) PUnit)
  let q ← ld A.q ![0, 0, 0] S1x2048x128.size inb_S1x2048x128_S1x2048x128_0_0_0 h_S1x2048x128
  start A
  logits A A.s0 (qaug i q) ![0, 0] inb_S8192x256_S1024x256_0_0
  pure (qaug i q)

/-- The loop over the blocks of keys before the rows' own. -/
def loop1 (A : Refs sig) (i : Cert.Kernel.grid0.Coords) (qa : FVec F S2048x256 .bf16) : Prog (TpuEff nD τ sig (Elt F) Λ .tc) PUnit :=
  Scf.Loop.for (k0_t1_loop i) (k0_t1_ok i) ⟨⟩ fun t _ =>
    trip A qa (k0_off1 i t 1#32) (k0_off2 i t) (k0_off1 i t 2#32) (k0_off1_inb i t 0) (k0_off2_inb i t) (k0_off1_inb i t 1)

/-- The loop's remainder, without a trip. -/
def loop2 (A : Refs sig) (i : Cert.Kernel.grid0.Coords) (qa : FVec F S2048x256 .bf16) : Prog (TpuEff nD τ sig (Elt F) Λ .tc) PUnit :=
  Scf.Loop.for (k0_t2_loop i) (k0_t2_ok i) ⟨⟩ fun t _ =>
    trip A qa (k0_off3 i t 1#32) (k0_off4 i t) (k0_off3 i t 2#32) (k0_off3_inb i t 0) (k0_off4_inb i t) (k0_off3_inb i t 1)

/-- The body. -/
def body (A : Refs sig) (i : Cert.Kernel.grid0.Coords) : Prog (TpuEff nD τ sig (Elt F) Λ .tc) PUnit :=
  head A i >>= fun qa => loop1 A i qa >>= fun _ => loop2 A i qa >>= fun _ => diag A i qa >>= fun _ => finish A

end Cert.Fox

end
-- ==== Proof.Fox.Spec.lean ====
/- What the pieces of the attention kernel's body leave in its buffers: the buffers' contents as plain functions,
   a triple that takes contents to contents, and the rules for a read and a store. -/
module

public import proofs.«01_k».proof.Proof.Fox.Prog
public import Idealize.ShloMosaic.Lib.VecWindow
public import Idealize.ShloMosaic.Lib.Writes
public import Idealize.ShloMosaic.Lib.Memref
public import Idealize.ShloMosaic.Lib.Scf

@[expose] public section

noncomputable section

namespace Cert.Fox

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel (S1x2048x128 S1x8192x128 S8192x256 S8192x128 S2048x1024 S2048x128 S2048x256 S128x1024 S128x128 S128 S128x1
  S1024x256 S1024x1024 S2048x1)
open VecWindow (window put)

variable {nD : Nat} {τ : Topo} {sig : RefSig} {Λ : Labels} {F : FTy → Type} [FloatOps F]
variable {s : Shape} {e : EltTy}

local notation "𝕄" => MT nD τ sig Unit (Elt F) ℕ (UR sig nD τ) ℕ

/-- The buffers' contents. -/
structure Bufs (F : FTy → Type) where
  q : Vec F S1x2048x128 .bf16
  k : Vec F S1x8192x128 .bf16
  v : Vec F S1x8192x128 .bf16
  c3 : Vec F S1x8192x128 .bf16
  o : Vec F S1x2048x128 .bf16
  ka : Vec F S8192x256 .bf16
  va : Vec F S8192x256 .bf16
  s0 : Vec F S2048x1024 .f32
  s1 : Vec F S2048x1024 .f32
  p : Vec F S2048x1024 .bf16
  m : Vec F S2048x128 .f32
  acc : Vec F S2048x256 .f32

variable (defs : Defs nD τ sig (Elt F) Λ) (𝒱 : Variants) (c : Dev nD) (A : Refs sig)

/-- The buffers hold these contents. -/
def St (x : Bufs F) : sProp 𝕄 :=
  iprop(owns (c : Thread nD τ) A.q fullShare x.q ∗ owns (c : Thread nD τ) A.k fullShare x.k ∗ owns (c : Thread nD τ) A.v fullShare x.v
    ∗ owns (c : Thread nD τ) A.c3 fullShare x.c3 ∗ owns (c : Thread nD τ) A.o fullShare x.o ∗ owns (c : Thread nD τ) A.ka fullShare x.ka
    ∗ owns (c : Thread nD τ) A.va fullShare x.va ∗ owns (c : Thread nD τ) A.s0 fullShare x.s0 ∗ owns (c : Thread nD τ) A.s1 fullShare x.s1
    ∗ owns (c : Thread nD τ) A.p fullShare x.p ∗ owns (c : Thread nD τ) A.m fullShare x.m ∗ owns (c : Thread nD τ) A.acc fullShare x.acc)

/-- From contents `x` the program returns `a` and leaves `x'`. -/
def Spec {α : Type} (p : Prog (TpuEff nD τ sig (Elt F) Λ .tc) α) (x : Bufs F) (a : α) (x' : Bufs F) : Prop :=
  ∀ Q : α → sProp 𝕄, iprop(St (τ := τ) c A x ∗ (St (τ := τ) c A x' -∗ Q a)) ⊢ wp frame (wpE defs 𝒱 (c : Thread nD τ) none) Set.univ p Q

variable {defs 𝒱 c A}

theorem Spec.bind {α β : Type} {p : Prog (TpuEff nD τ sig (Elt F) Λ .tc) α} {k : α → Prog (TpuEff nD τ sig (Elt F) Λ .tc) β}
    {x x' x'' : Bufs F} {a : α} {b : β} (h1 : Spec defs 𝒱 c A p x a x') (h2 : Spec defs 𝒱 c A (k a) x' b x'') :
    Spec defs 𝒱 c A (p >>= k) x b x'' := fun Q => by
  rw [wp_bind]
  iintro ⟨H, K⟩
  iapply (h1 fun a => wp frame (wpE defs 𝒱 (c : Thread nD τ) none) Set.univ (k a) Q)
  isplitl [H]; · iexact H
  iintro H
  iapply (h2 Q)
  isplitl [H]; · iexact H
  iexact K

theorem Spec.pure {α : Type} (a : α) (x : Bufs F) : Spec defs 𝒱 c A (pure a) x a x := fun Q => by
  rw [show (Pure.pure a : Prog (TpuEff nD τ sig (Elt F) Λ .tc) α) = .ret a from rfl, wp_ret]
  iintro ⟨H, K⟩
  imodintro
  iapply K
  iexact H

theorem Spec.to {α : Type} {p : Prog (TpuEff nD τ sig (Elt F) Λ .tc) α} {x x' x'' : Bufs F} {a a' : α}
    (h : Spec defs 𝒱 c A p x a x') (hx : x' = x'') (ha : a = a') : Spec defs 𝒱 c A p x a' x'' := hx ▸ ha ▸ h

variable (τ c A) in
/-- One of the buffers among all. -/
structure Foc {s : Shape} {e : EltTy} (m : Memref sig .tc .vmem s e)
    (get : Bufs F → Vec F s e) (set : Bufs F → Vec F s e → Bufs F) : Prop where
  foc : ∀ x, (St (τ := τ) c A x : sProp 𝕄) ⊢ iprop(owns (c : Thread nD τ) m fullShare (get x) ∗ (∀ Y, owns (c : Thread nD τ) m fullShare Y -∗ St (τ := τ) c A (set x Y)))
  same : ∀ x, set x (get x) = x

theorem Spec.ld {m : Memref sig .tc .vmem s e} {get : Bufs F → Vec F s e} {set : Bufs F → Vec F s e → Bufs F}
    (h : Foc τ c A m get set) (x : Bufs F) (off size : Fin s.rank → ℕ) (inb : ∀ a, off a + size a ≤ s.size a)
    (h0 : 0 < (⟨s.rank, size⟩ : Shape).numel) :
    Spec defs 𝒱 c A (ld m off size inb h0) x (window (get x) off size inb) x := fun Q => by
  unfold Fox.ld
  refine BIBase.Entails.trans (sep_mono_left (h.foc x)) ?_
  unfold owns
  iintro ⟨⟨⟨%f, %hf, H⟩, K⟩, K2⟩
  iapply (wp_load 𝒱 (c : Thread nD τ) none Set.univ (S := m.view.set) (m.view.setOn_subset_set _)) $$ [H]
  · iexact H
  iintro H
  rw [wp_ret]
  imodintro
  rw [View.readAt_unit m.view f inb rfl inb, hf]
  iapply K2
  ispecialize K $$ %(get x)
  rw [h.same]
  iapply K
  iexists f
  isplitr
  · ipureintro; exact hf
  iexact H

theorem Spec.ldFull {m : Memref sig .tc .vmem s e} {get : Bufs F → Vec F s e} {set : Bufs F → Vec F s e → Bufs F}
    (h : Foc τ c A m get set) (x : Bufs F) (off : Fin s.rank → ℕ) (inb : ∀ a, off a + s.size a ≤ s.size a)
    (h0 : 0 < (⟨s.rank, s.size⟩ : Shape).numel) :
    Spec defs 𝒱 c A (Fox.ld m off s.size inb h0) x (get x) x :=
  (Spec.ld h x off s.size inb h0).to rfl (funext fun y => congrArg (get x) (funext fun a => Fin.ext (by
    show off a + 1 * (y a).val = (y a).val
    have := inb a; omega)))

theorem Spec.st {m : Memref sig .tc .vmem s e} {get : Bufs F → Vec F s e} {set : Bufs F → Vec F s e → Bufs F}
    (h : Foc τ c A m get set) (x : Bufs F) (off size : Fin s.rank → ℕ) (inb : ∀ a, off a + size a ≤ s.size a)
    (h0 : 0 < (⟨s.rank, size⟩ : Shape).numel) (w : (Rect.unit off size inb).shape.Idx → Elt F e)
    (hx : (m.access (Rect.unit off size inb)).Stores Finset.univ) :
    Spec defs 𝒱 c A (st m off size inb h0 w hx) x ⟨⟩ (set x (put (get x) off size w)) := by
  unfold Fox.st
  refine Spec.bind (Spec.ld h x off size inb h0) (fun Q => ?_)
  refine BIBase.Entails.trans (sep_mono_left (h.foc x)) ?_
  unfold owns
  iintro ⟨⟨⟨%f, %hf, H⟩, K⟩, K2⟩
  iapply (wp_store_writes₀ 𝒱 (c : Thread nD τ) none Set.univ (S := m.view.set) (m.view.set_slice_subset _)) $$ [H]
  · iexact H
  iintro H
  rw [wp_ret]
  imodintro
  iapply K2
  iapply K
  iexists _
  isplitr
  swap
  · iexact H
  ipureintro
  rw [View.read_writes_cons_put m.view f inb w [] rfl, View.writes_nil, hf]

theorem Spec.stFull {m : Memref sig .tc .vmem s e} {get : Bufs F → Vec F s e} {set : Bufs F → Vec F s e → Bufs F}
    (h : Foc τ c A m get set) (x : Bufs F) (off : Fin s.rank → ℕ) (inb : ∀ a, off a + s.size a ≤ s.size a)
    (h0 : 0 < (⟨s.rank, s.size⟩ : Shape).numel) (w : (Rect.unit off s.size inb).shape.Idx → Elt F e)
    (hx : (m.access (Rect.unit off s.size inb)).Stores Finset.univ) :
    Spec defs 𝒱 c A (Fox.st m off s.size inb h0 w hx) x ⟨⟩ (set x w) :=
  (Spec.st h x off s.size inb h0 w hx).to (congrArg (set x) (funext fun y => by
    have hm : ∀ a, off a ≤ (y a).val ∧ (y a).val < off a + s.size a := fun a => by
      have := inb a; have := (y a).isLt; omega
    show (if h : _ then w (Rect.unitLocal (s := s) (off := off) (size := s.size) y h) else _) = w y
    rw [dif_pos hm]
    exact congrArg w (funext fun a => Fin.ext (by
      show (y a).val - off a = (y a).val
      have := inb a; omega)))) rfl

section Focs
variable (τ c A)

theorem foc_q : Foc (F := F) τ c A A.q (·.q) fun x Y => { x with q := Y } :=
  ⟨fun x => by unfold St; iintro ⟨H1, H2, H3, H4, H5, H6, H7, H8, H9, H10, H11, H12⟩; isplitl [H1]; · iexact H1
               iintro %Y H1; iframe, fun _ => rfl⟩
theorem foc_k : Foc (F := F) τ c A A.k (·.k) fun x Y => { x with k := Y } :=
  ⟨fun x => by unfold St; iintro ⟨H1, H2, H3, H4, H5, H6, H7, H8, H9, H10, H11, H12⟩; isplitl [H2]; · iexact H2
               iintro %Y H2; iframe, fun _ => rfl⟩
theorem foc_v : Foc (F := F) τ c A A.v (·.v) fun x Y => { x with v := Y } :=
  ⟨fun x => by unfold St; iintro ⟨H1, H2, H3, H4, H5, H6, H7, H8, H9, H10, H11, H12⟩; isplitl [H3]; · iexact H3
               iintro %Y H3; iframe, fun _ => rfl⟩
theorem foc_c3 : Foc (F := F) τ c A A.c3 (·.c3) fun x Y => { x with c3 := Y } :=
  ⟨fun x => by unfold St; iintro ⟨H1, H2, H3, H4, H5, H6, H7, H8, H9, H10, H11, H12⟩; isplitl [H4]; · iexact H4
               iintro %Y H4; iframe, fun _ => rfl⟩
theorem foc_o : Foc (F := F) τ c A A.o (·.o) fun x Y => { x with o := Y } :=
  ⟨fun x => by unfold St; iintro ⟨H1, H2, H3, H4, H5, H6, H7, H8, H9, H10, H11, H12⟩; isplitl [H5]; · iexact H5
               iintro %Y H5; iframe, fun _ => rfl⟩
theorem foc_ka : Foc (F := F) τ c A A.ka (·.ka) fun x Y => { x with ka := Y } :=
  ⟨fun x => by unfold St; iintro ⟨H1, H2, H3, H4, H5, H6, H7, H8, H9, H10, H11, H12⟩; isplitl [H6]; · iexact H6
               iintro %Y H6; iframe, fun _ => rfl⟩
theorem foc_va : Foc (F := F) τ c A A.va (·.va) fun x Y => { x with va := Y } :=
  ⟨fun x => by unfold St; iintro ⟨H1, H2, H3, H4, H5, H6, H7, H8, H9, H10, H11, H12⟩; isplitl [H7]; · iexact H7
               iintro %Y H7; iframe, fun _ => rfl⟩
theorem foc_s0 : Foc (F := F) τ c A A.s0 (·.s0) fun x Y => { x with s0 := Y } :=
  ⟨fun x => by unfold St; iintro ⟨H1, H2, H3, H4, H5, H6, H7, H8, H9, H10, H11, H12⟩; isplitl [H8]; · iexact H8
               iintro %Y H8; iframe, fun _ => rfl⟩
theorem foc_s1 : Foc (F := F) τ c A A.s1 (·.s1) fun x Y => { x with s1 := Y } :=
  ⟨fun x => by unfold St; iintro ⟨H1, H2, H3, H4, H5, H6, H7, H8, H9, H10, H11, H12⟩; isplitl [H9]; · iexact H9
               iintro %Y H9; iframe, fun _ => rfl⟩
theorem foc_p : Foc (F := F) τ c A A.p (·.p) fun x Y => { x with p := Y } :=
  ⟨fun x => by unfold St; iintro ⟨H1, H2, H3, H4, H5, H6, H7, H8, H9, H10, H11, H12⟩; isplitl [H10]; · iexact H10
               iintro %Y H10; iframe, fun _ => rfl⟩
theorem foc_m : Foc (F := F) τ c A A.m (·.m) fun x Y => { x with m := Y } :=
  ⟨fun x => by unfold St; iintro ⟨H1, H2, H3, H4, H5, H6, H7, H8, H9, H10, H11, H12⟩; isplitl [H11]; · iexact H11
               iintro %Y H11; iframe, fun _ => rfl⟩
theorem foc_acc : Foc (F := F) τ c A A.acc (·.acc) fun x Y => { x with acc := Y } :=
  ⟨fun x => by unfold St; iintro ⟨H1, H2, H3, H4, H5, H6, H7, H8, H9, H10, H11, H12⟩; isplitl [H12]; · iexact H12
               iintro %Y H12; iframe, fun _ => rfl⟩
end Focs

end Cert.Fox

end
-- ==== Proof.Fox.Update.lean ====
/- What an update of the attention kernel leaves: the groups of 128 rows one after another fill the maxima, the
   weights and the rescaled accumulator. -/
module

public import proofs.«01_k».proof.Proof.Fox.Spec
public import Idealize.ShloMosaic.Lib.Pointwise
public import Idealize.ShloMosaic.Lib.ValueIdxCore

@[expose] public section

noncomputable section

namespace Cert.Fox

open Idealize.ShloMosaic Idealize.ShloMosaic.TcCoe
open Idealize.SL Idealize.SL.RA Idealize.SL.BI Idealize.SL.Sem
open Cert.Kernel (S1x2048x128 S1x8192x128 S8192x256 S8192x128 S2048x1024 S2048x128 S2048x256 S128x1024 S128x128 S128 S128x1
  S1024x256 S1024x1024 S2048x1 k0_off1 k0_off2 k0_off3 k0_off4 k0_off5 k0_off6 k0_t1_loop k0_t2_loop
  dot_S2048x256_S1024x256_S2048x1024_1_1_0_0_n_n dot_S2048x1024_S1024x256_S2048x256_1_0_0_1_n_n
  dot_S1024x256_S1024x256_S1024x1024_1_1_0_0_n_n dot_S1024x1024_S1024x256_S1024x256_1_0_0_1_n_n)
open Cert.Kernel.Facts₀ Cert.Kernel.Facts
open VecWindow (window put)

/-! ## Blends -/

section Blend
variable {α : Type} {W : ℕ}

/-- `X` in the rows from `lo` up to `R` and in the first `C` columns of the next 128 rows, `X0` elsewhere. -/
def bl (lo R C : ℕ) (X X0 : (⟨2, ![2048, W]⟩ : Shape).Idx → α) : (⟨2, ![2048, W]⟩ : Shape).Idx → α := fun y =>
  if lo ≤ (y (0 : Fin 2)).val ∧ ((y (0 : Fin 2)).val < R ∨ ((y (0 : Fin 2)).val < R + 128 ∧ (y (1 : Fin 2)).val < C)) then X y else X0 y

theorem lt0 (y : (⟨2, ![2048, W]⟩ : Shape).Idx) : (y (0 : Fin 2)).val < 2048 := (y (0 : Fin 2)).isLt
theorem lt1 (y : (⟨2, ![2048, W]⟩ : Shape).Idx) : (y (1 : Fin 2)).val < W := (y (1 : Fin 2)).isLt

theorem bl_start (lo : ℕ) (X X0 : (⟨2, ![2048, W]⟩ : Shape).Idx → α) : bl lo lo 0 X X0 = X0 := by
  funext y; unfold bl; rw [if_neg]; omega

theorem bl_wrap (lo R : ℕ) (X X0 : (⟨2, ![2048, W]⟩ : Shape).Idx → α) : bl lo R W X X0 = bl lo (R + 128) 0 X X0 := by
  funext y; unfold bl; have := lt1 y
  by_cases h : lo ≤ (y (0 : Fin 2)).val ∧ (y (0 : Fin 2)).val < R + 128
  · rw [if_pos (by omega), if_pos (by omega)]
  · rw [if_neg (by omega), if_neg (by omega)]

theorem bl_full (X X0 : (⟨2, ![2048, W]⟩ : Shape).Idx → α) : bl 0 2048 0 X X0 = X := by
  funext y; unfold bl; have := lt0 y; rw [if_pos (by omega)]

/-- A function given tile by tile, 128 rows by 128 columns. -/
def asm (hW : W % 128 = 0) (g : (R : ℕ) → R + 128 ≤ 2048 → (C : ℕ) → C + 128 ≤ W → S128x128.Idx → α) : (⟨2, ![2048, W]⟩ : Shape).Idx → α := fun y =>
  g ((y (0 : Fin 2)).val / 128 * 128) (by have := lt0 y; omega) ((y (1 : Fin 2)).val / 128 * 128) (by have := lt1 y; omega)
    (ix2 ⟨(y (0 : Fin 2)).val % 128, Nat.mod_lt _ (by decide)⟩ ⟨(y (1 : Fin 2)).val % 128, Nat.mod_lt _ (by decide)⟩)

theorem asm_at (hW : W % 128 = 0) (g : (R : ℕ) → R + 128 ≤ 2048 → (C : ℕ) → C + 128 ≤ W → S128x128.Idx → α)
    (y : (⟨2, ![2048, W]⟩ : Shape).Idx) (R : ℕ) (hR : R + 128 ≤ 2048) (C : ℕ) (hC : C + 128 ≤ W) (z : S128x128.Idx) (h1 : (y (0 : Fin 2)).val / 128 * 128 = R)
    (h2 : (y (1 : Fin 2)).val / 128 * 128 = C) (hz0 : (z (0 : Fin 2)).val = (y (0 : Fin 2)).val % 128) (hz1 : (z (1 : Fin 2)).val = (y (1 : Fin 2)).val % 128) :
    asm hW g y = g R hR C hC z := by
  subst h1 h2
  unfold asm
  congr 1
  funext a
  match a with
  | 0 => exact Fin.ext hz0.symm
  | 1 => exact Fin.ext hz1.symm

/-- A tile put at its place moves the blend on. -/
theorem put_bl (hW : W % 128 = 0) (g : (R : ℕ) → R + 128 ≤ 2048 → (C : ℕ) → C + 128 ≤ W → S128x128.Idx → α) (lo R C C' : ℕ) (hC' : C' = C + 128)
    (X0 : (⟨2, ![2048, W]⟩ : Shape).Idx → α) (hR : R + 128 ≤ 2048) (hC : C + 128 ≤ W) (hlo : lo ≤ R) (mR : R % 128 = 0) (mC : C % 128 = 0)
    (w : S128x128.Idx → α) (hw : w = g R hR C hC) :
    put (bl lo R C (asm hW g) X0) ![R, C] S128x128.size w = bl lo R C' (asm hW g) X0 := by
  subst hw hC'
  funext y
  unfold put
  by_cases h : ∀ a : Fin 2, (![R, C] : Fin 2 → ℕ) a ≤ (y a).val ∧ (y a).val < (![R, C] : Fin 2 → ℕ) a + S128x128.size a
  · have h0 : R ≤ (y (0 : Fin 2)).val ∧ (y (0 : Fin 2)).val < R + 128 := h 0
    have h1 : C ≤ (y (1 : Fin 2)).val ∧ (y (1 : Fin 2)).val < C + 128 := h 1
    rw [dif_pos h]
    unfold bl
    rw [if_pos (by omega)]
    refine (asm_at hW g y R hR C hC _ (by omega) (by omega) ?_ ?_).symm
    · show (y (0 : Fin 2)).val - R = _; omega
    · show (y (1 : Fin 2)).val - C = _; omega
  · rw [dif_neg h]
    have h' : ¬((R ≤ (y (0 : Fin 2)).val ∧ (y (0 : Fin 2)).val < R + 128) ∧ (C ≤ (y (1 : Fin 2)).val ∧ (y (1 : Fin 2)).val < C + 128)) := fun hh =>
      h (Fin.forall_fin_two.mpr hh)
    unfold bl
    by_cases h2 : lo ≤ (y (0 : Fin 2)).val ∧ ((y (0 : Fin 2)).val < R ∨ ((y (0 : Fin 2)).val < R + 128 ∧ (y (1 : Fin 2)).val < C))
    · rw [if_pos h2, if_pos (by omega)]
    · rw [if_neg h2, if_neg (by omega)]

/-- A tile not yet reached is the old one. -/
theorem window_bl (lo R C C' : ℕ) (X X0 : (⟨2, ![2048, W]⟩ : Shape).Idx → α) (hC : C ≤ C')
    (inb : ∀ a, (![R, C'] : Fin 2 → Nat) a + S128x128.size a ≤ (⟨2, ![2048, W]⟩ : Shape).size a) :
    window (bl lo R C X X0) ![R, C'] S128x128.size inb = window X0 ![R, C'] S128x128.size inb := by
  funext y
  show bl lo R C X X0 ((Rect.unit (s := ⟨2, ![2048, W]⟩) ![R, C'] S128x128.size inb).emb y) = X0 _
  unfold bl
  have e0 : ((Rect.unit (s := ⟨2, ![2048, W]⟩) ![R, C'] S128x128.size inb).emb y (0 : Fin 2)).val = R + 1 * (y (0 : Fin 2)).val := rfl
  have e1 : ((Rect.unit (s := ⟨2, ![2048, W]⟩) ![R, C'] S128x128.size inb).emb y (1 : Fin 2)).val = C' + 1 * (y (1 : Fin 2)).val := rfl
  rw [if_neg (by omega)]

end Blend

variable {nD : Nat} {τ : Topo} {sig : RefSig} {Λ : Labels} {F : FTy → Type} [FloatOps F]
variable {defs : Defs nD τ sig (Elt F) Λ} {𝒱 : Variants} {c : Dev nD} {A : Refs sig}

/-! ## An update's results -/

abbrev Mask (F : FTy → Type) := ℕ → Vec F S128x1024 .f32 → Vec F S128x1024 .f32

/-- The 128 rows of logits from `R`, masked. -/
def rowsS (mk : Mask F) (s : Vec F S2048x1024 .f32) (R : ℕ) (hR : R + 128 ≤ 2048) : Vec F S128x1024 .f32 :=
  mk R (window s ![R, 0] S128x1024.size (inbS hR))
def rowsM (m : Vec F S2048x128 .f32) (R : ℕ) (hR : R + 128 ≤ 2048) : Vec F S128x128 .f32 := window m ![R, 0] S128x128.size (inbM hR)
def gM (mk : Mask F) (s : Vec F S2048x1024 .f32) (m : Vec F S2048x128 .f32) (R : ℕ) (hR : R + 128 ≤ 2048) : Vec F S128x128 .f32 :=
  mx (rowsS mk s R hR) (rowsM m R hR)
def gP (mk : Mask F) (s : Vec F S2048x1024 .f32) (m : Vec F S2048x128 .f32) (R : ℕ) (hR : R + 128 ≤ 2048) (C : ℕ) (hC : C + 128 ≤ 1024) : Vec F S128x128 .bf16 :=
  pc (rowsS mk s R hR) (gM mk s m R hR) C hC
def gA (mk : Mask F) (s : Vec F S2048x1024 .f32) (m : Vec F S2048x128 .f32) (a : Vec F S2048x256 .f32) (R : ℕ) (hR : R + 128 ≤ 2048) (C : ℕ) (hC : C + 128 ≤ 256) : Vec F S128x128 .f32 :=
  mulf (exp2 (subf (rowsM m R hR) (gM mk s m R hR))) (window a ![R, C] S128x128.size (inbA hR hC))

/-- The new maxima, -/
def upM (mk : Mask F) (s : Vec F S2048x1024 .f32) (m : Vec F S2048x128 .f32) : Vec F S2048x128 .f32 := asm (by decide) fun R hR _ _ => gM mk s m R hR
/-- the weights, -/
def upP (mk : Mask F) (s : Vec F S2048x1024 .f32) (m : Vec F S2048x128 .f32) : Vec F S2048x1024 .bf16 := asm (by decide) fun R hR C hC => gP mk s m R hR C hC
/-- the rescaled accumulator. -/
def upA (mk : Mask F) (s : Vec F S2048x1024 .f32) (m : Vec F S2048x128 .f32) (a : Vec F S2048x256 .f32) : Vec F S2048x256 .f32 :=
  asm (by decide) fun R hR C hC => gA mk s m a R hR C hC

/-- The contents with the rows from `lo` to `R` updated. -/
def stt (lo R : ℕ) (mk : Mask F) (s : Vec F S2048x1024 .f32) (x : Bufs F) : Bufs F :=
  { x with m := bl lo R 0 (upM mk s x.m) x.m, p := bl lo R 0 (upP mk s x.m) x.p, acc := bl lo R 0 (upA mk s x.m x.acc) x.acc }

theorem stt_start (lo : ℕ) (mk : Mask F) (s : Vec F S2048x1024 .f32) (x : Bufs F) : stt lo lo mk s x = x := by
  unfold stt; rw [bl_start, bl_start, bl_start]

theorem group_spec (sr : Memref sig .tc .vmem S2048x1024 .f32) (get : Bufs F → Vec F S2048x1024 .f32) (set : Bufs F → Vec F S2048x1024 .f32 → Bufs F)
    (hf : Foc τ c A sr get set) (mk : Mask F) (s : Vec F S2048x1024 .f32) (lo R : ℕ) (hR : R + 128 ≤ 2048) (h2 : 2 ∣ R) (hlo : lo ≤ R) (mR : R % 128 = 0)
    (msk : Vec F S128x1024 .f32 → Vec F S128x1024 .f32) (hm : msk = mk R) (x : Bufs F) (hs : get (stt lo R mk s x) = s) :
    Spec defs 𝒱 c A (group A sr msk R hR h2) (stt lo R mk s x) ⟨⟩ (stt lo (R + 128) mk s x) := by
  subst hm
  unfold group putP scaleA
  refine Spec.bind (Spec.ld hf _ _ _ (inbS hR) _) ?_
  refine Spec.bind (Spec.ld (foc_m τ c A) _ _ _ (inbM hR) _) ?_
  rw [hs]
  have hM : window (stt lo R mk s x).m ![R, 0] S128x128.size (inbM hR) = rowsM x.m R hR := window_bl lo R 0 0 _ _ (le_refl 0) _
  have hS : mk R (window s ![R, 0] S128x1024.size (inbS hR)) = rowsS mk s R hR := rfl
  simp only [hM, hS, shapeCast_id]
  refine Spec.bind (Spec.st (foc_m τ c A) _ _ _ (inbM hR) _ _ _) ?_
  refine Spec.bind (Spec.st (foc_p τ c A) _ _ _ _ _ _ _) ?_
  refine Spec.bind (Spec.st (foc_p τ c A) _ _ _ _ _ _ _) ?_
  refine Spec.bind (Spec.st (foc_p τ c A) _ _ _ _ _ _ _) ?_
  refine Spec.bind (Spec.st (foc_p τ c A) _ _ _ _ _ _ _) ?_
  refine Spec.bind (Spec.st (foc_p τ c A) _ _ _ _ _ _ _) ?_
  refine Spec.bind (Spec.st (foc_p τ c A) _ _ _ _ _ _ _) ?_
  refine Spec.bind (Spec.st (foc_p τ c A) _ _ _ _ _ _ _) ?_
  refine Spec.bind (Spec.st (foc_p τ c A) _ _ _ _ _ _ _) ?_
  refine Spec.bind (Spec.bind (Spec.ld (foc_acc τ c A) _ _ _ _ _) (Spec.st (foc_acc τ c A) _ _ _ _ _ _ _)) ?_
  refine Spec.to (Spec.bind (Spec.ld (foc_acc τ c A) _ _ _ _ _) (Spec.st (foc_acc τ c A) _ _ _ _ _ _ _)) ?_ rfl
  dsimp only [stt]
  have eM : put (bl lo R 0 (upM mk s x.m) x.m) ![R, 0] S128x128.size (mx (rowsS mk s R hR) (rowsM x.m R hR)) = bl lo (R + 128) 0 (upM mk s x.m) x.m :=
    (put_bl (W := 128) (by decide) (fun R hR _ _ => gM mk s x.m R hR) lo R 0 128 rfl x.m hR (by decide) hlo mR rfl _ rfl).trans (bl_wrap ..)
  have eP : ∀ (C C' : ℕ) (hC : C + 128 ≤ 1024) (hC' : C' = C + 128) (mC : C % 128 = 0),
      put (bl lo R C (upP mk s x.m) x.p) ![R, C] S128x128.size (pc (rowsS mk s R hR) (mx (rowsS mk s R hR) (rowsM x.m R hR)) C hC) = bl lo R C' (upP mk s x.m) x.p :=
    fun C C' hC hC' mC => put_bl (by decide) (fun R hR C hC => gP mk s x.m R hR C hC) lo R C C' hC' x.p hR hC hlo mR mC _ rfl
  have eA : ∀ (C C' : ℕ) (hC : C + 128 ≤ 256) (hC' : C' = C + 128) (mC : C % 128 = 0),
      put (bl lo R C (upA mk s x.m x.acc) x.acc) ![R, C] S128x128.size (mulf (exp2 (subf (rowsM x.m R hR) (mx (rowsS mk s R hR) (rowsM x.m R hR))))
        (window (bl lo R C (upA mk s x.m x.acc) x.acc) ![R, C] S128x128.size (inbA hR hC))) = bl lo R C' (upA mk s x.m x.acc) x.acc :=
    fun C C' hC hC' mC => put_bl (by decide) (fun R hR C hC => gA mk s x.m x.acc R hR C hC) lo R C C' hC' x.acc hR hC hlo mR mC _
      (by rw [window_bl (hC := le_refl C)]; rfl)
  rw [eM, eP 0 128 (by decide) rfl rfl, eP 128 256 (by decide) rfl rfl, eP 256 384 (by decide) rfl rfl, eP 384 512 (by decide) rfl rfl, eP 512 640 (by decide) rfl rfl, eP 640 768 (by decide) rfl rfl,
    eP 768 896 (by decide) rfl rfl, eP 896 1024 (by decide) rfl rfl, eA 0 128 (by decide) rfl rfl, eA 128 256 (by decide) rfl rfl, bl_wrap lo R (upP mk s x.m), bl_wrap lo R (upA mk s x.m x.acc)]

end Cert.Fox

end
-- ==== Proof.Fox.Run.lean ====
/- What the attention kernel's body leaves, as one function of the buffers' contents. -/
module

public import proofs.«01_k».proof.Proof.Fox.Update

@[expose] public section

noncomputable section

namespace Cert.Fox

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel (S1x2048x128 S1x8192x128 S8192x256 S8192x128 S2048x1024 S2048x128 S2048x256 S128x1024 S128x128 S128 S128x1
  S1024x256 S1024x1024 S2048x1 k0_off1 k0_off2 k0_off3 k0_off4 k0_off5 k0_off6 k0_t1_loop k0_t2_loop
  dot_S2048x256_S1024x256_S2048x1024_1_1_0_0_n_n dot_S2048x1024_S1024x256_S2048x256_1_0_0_1_n_n
  dot_S1024x256_S1024x256_S1024x1024_1_1_0_0_n_n dot_S1024x1024_S1024x256_S1024x256_1_0_0_1_n_n)
open Cert.Kernel.Facts₀ Cert.Kernel.Facts
open Cert.Kernel.Gen (k0_off1_eq k0_off2_eq k0_off5_eq k0_off6_eq k0_t2_abs)
open VecWindow (window put)

variable {nD : Nat} {τ : Topo} {sig : RefSig} {Λ : Labels} {F : FTy → Type} [FloatOps F]
variable {defs : Defs nD τ sig (Elt F) Λ} {𝒱 : Variants} {c : Dev nD} {A : Refs sig}

/-! ## The pieces' results -/

/-- The `n`-th block of 1024 rows of a table. -/
def kb (t : Vec F S8192x256 .bf16) (n : ℕ) : Vec F S1024x256 .bf16 :=
  window t ![1024 * (n % 8), 0] S1024x256.size (fun a => by match a with
    | 0 => exact (by omega : 1024 * (n % 8) + 1024 ≤ 8192)
    | 1 => exact le_refl 256)

theorem window_kb (t : Vec F S8192x256 .bf16) (off : Fin 2 → ℕ) (inb : ∀ a, off a + S1024x256.size a ≤ S8192x256.size a) (n : ℕ) (hn : n < 8)
    (h : off = ![1024 * n, 0]) : window t off S1024x256.size inb = kb t n := by
  subst h
  have e : n % 8 = n := Nat.mod_eq_of_lt hn
  have g : ∀ k (hk : k = n) (inb' : ∀ a, (![1024 * k, 0] : Fin 2 → ℕ) a + S1024x256.size a ≤ S8192x256.size a), window t ![1024 * n, 0] S1024x256.size inb = window t ![1024 * k, 0] S1024x256.size inb' := by
    intro k hk; subst hk; intro _; rfl
  exact g _ e _

def lg (qa : Vec F S2048x256 .bf16) (k : Vec F S1024x256 .bf16) : Vec F S2048x1024 .f32 :=
  matmul dot_S2048x256_S1024x256_S2048x1024_1_1_0_0_n_n none qa k (constant S2048x1024 .f32 0x00000000#32)
def lgHi (qa : Vec F S2048x256 .bf16) (k : Vec F S1024x256 .bf16) : Vec F S1024x1024 .f32 :=
  matmul dot_S1024x256_S1024x256_S1024x1024_1_1_0_0_n_n none (extractStridedSlice S1024x256 ![1024, 0] qa slices_S2048x256_o1024_0_S1024x256) k (constant S1024x1024 .f32 0x00000000#32)
def pv (a : Vec F S2048x256 .f32) (p : Vec F S2048x1024 .bf16) (v : Vec F S1024x256 .bf16) : Vec F S2048x256 .f32 :=
  addf a (matmul dot_S2048x1024_S1024x256_S2048x256_1_0_0_1_n_n none p v (constant S2048x256 .f32 0x00000000#32))
/-- Add to the upper rows of the accumulator. -/
def pvHi (a : Vec F S2048x256 .f32) (p : Vec F S2048x1024 .bf16) (v : Vec F S1024x256 .bf16) : Vec F S2048x256 .f32 :=
  put a ![1024, 0] S1024x256.size (addf (window a ![1024, 0] S1024x256.size inb_S2048x256_S1024x256_1024_0)
    (matmul dot_S1024x1024_S1024x256_S1024x256_1_0_0_1_n_n none (window p ![1024, 0] S1024x1024.size inb_S2048x1024_S1024x1024_1024_0) v (constant S1024x256 .f32 0x00000000#32)))

/-- The tables of a head, over what they held. -/
def kaT (k c : Vec F S1x8192x128 .bf16) (old : Vec F S8192x256 .bf16) : Vec F S8192x256 .bf16 :=
  put (put old ![0, 0] S8192x128.size (shapeCast S8192x128 k shapeCasts_S1x8192x128_S8192x128)) ![0, 128] S8192x128.size (shapeCast S8192x128 c shapeCasts_S1x8192x128_S8192x128)
def vaT (v : Vec F S1x8192x128 .bf16) (old : Vec F S8192x256 .bf16) : Vec F S8192x256 .bf16 :=
  put (put old ![0, 0] S8192x128.size (shapeCast S8192x128 v shapeCasts_S1x8192x128_S8192x128)) ![0, 128] S8192x128.size ones

/-- The two halves cover a table. -/
theorem halves {α : Type} (a b : S8192x128.Idx → α) (o o' : S8192x256.Idx → α) :
    put (put o ![0, 0] S8192x128.size a) ![0, 128] S8192x128.size b = put (put o' ![0, 0] S8192x128.size a) ![0, 128] S8192x128.size b := by
  funext y
  unfold put
  by_cases h : ∀ d : Fin 2, (![0, 128] : Fin 2 → ℕ) d ≤ (y d).val ∧ (y d).val < (![0, 128] : Fin 2 → ℕ) d + S8192x128.size d
  · rw [dif_pos h, dif_pos h]
  · rw [dif_neg h, dif_neg h]
    have h0 : (y (0 : Fin 2)).val < 8192 := (y (0 : Fin 2)).isLt
    have h1 : (y (1 : Fin 2)).val < 256 := (y (1 : Fin 2)).isLt
    have hn : (y (1 : Fin 2)).val < 128 := by
      by_contra hc
      exact h (Fin.forall_fin_two.mpr ⟨⟨Nat.zero_le _, (by show _ < 0 + 8192; omega)⟩, ⟨(by show 128 ≤ _; omega), (by show _ < 128 + 128; omega)⟩⟩)
    have h2 : ∀ d : Fin 2, (![0, 0] : Fin 2 → ℕ) d ≤ (y d).val ∧ (y d).val < (![0, 0] : Fin 2 → ℕ) d + S8192x128.size d :=
      Fin.forall_fin_two.mpr ⟨⟨Nat.zero_le _, (by show _ < 0 + 8192; omega)⟩, ⟨Nat.zero_le _, (by show _ < 0 + 128; omega)⟩⟩
    rw [dif_pos h2, dif_pos h2]

def negInf : Vec F S2048x128 .f32 := broadcast S2048x128 (Scalar.ofBits .f32 0xFF800000#32)
def zeros : Vec F S2048x256 .f32 := broadcast S2048x256 (Scalar.ofBits .f32 0x00000000#32)

/-- No mask. -/
def noMask : Mask F := fun _ x => x
/-- The masks of the two masked blocks. -/
def mask0 : Mask F := fun R => if R < 1024 then mask R 0 else fun x => x
def mask1 : Mask F := fun R => mask R 1024

/-! ## The triples -/

section Pieces
variable (sr : Memref sig .tc .vmem S2048x1024 .f32) (get : Bufs F → Vec F S2048x1024 .f32) (set : Bufs F → Vec F S2048x1024 .f32 → Bufs F)
  (hf : Foc τ c A sr get set)

include hf in
theorem lower_spec (mk : Mask F) (s : Vec F S2048x1024 .f32) (msk : Mask F) (hm : ∀ R, R < 1024 → msk R = mk R) (x : Bufs F)
    (hs : ∀ R, get (stt 0 R mk s x) = s) : Spec defs 𝒱 c A (lower A sr msk) x ⟨⟩ (stt 0 1024 mk s x) := by
  have g := fun R hR h2 hlo mR hm x hs => group_spec (defs := defs) (𝒱 := 𝒱) (c := c) (A := A) sr get set hf mk s 0 R hR h2 hlo mR (msk R) hm x hs
  unfold lower
  have h0 := g 0 (by decide) (by decide) (by decide) (by decide) (hm _ (by decide)) x (hs 0)
  rw [stt_start] at h0
  refine Spec.bind h0 ?_
  refine Spec.bind (g 128 (by decide) (by decide) (by decide) (by decide) (hm _ (by decide)) x (hs _)) ?_
  refine Spec.bind (g 256 (by decide) (by decide) (by decide) (by decide) (hm _ (by decide)) x (hs _)) ?_
  refine Spec.bind (g 384 (by decide) (by decide) (by decide) (by decide) (hm _ (by decide)) x (hs _)) ?_
  refine Spec.bind (g 512 (by decide) (by decide) (by decide) (by decide) (hm _ (by decide)) x (hs _)) ?_
  refine Spec.bind (g 640 (by decide) (by decide) (by decide) (by decide) (hm _ (by decide)) x (hs _)) ?_
  refine Spec.bind (g 768 (by decide) (by decide) (by decide) (by decide) (hm _ (by decide)) x (hs _)) ?_
  exact g 896 (by decide) (by decide) (by decide) (by decide) (hm _ (by decide)) x (hs _)

include hf in
theorem upper_spec (lo : ℕ) (hlo : lo ≤ 1024) (mk : Mask F) (s : Vec F S2048x1024 .f32) (msk : Mask F) (hm : ∀ R, 1024 ≤ R → msk R = mk R) (x : Bufs F)
    (hs : ∀ R, get (stt lo R mk s x) = s) : Spec defs 𝒱 c A (upper A sr msk) (stt lo 1024 mk s x) ⟨⟩ (stt lo 2048 mk s x) := by
  have g := fun R hR h2 hlo mR hm x hs => group_spec (defs := defs) (𝒱 := 𝒱) (c := c) (A := A) sr get set hf mk s lo R hR h2 hlo mR (msk R) hm x hs
  unfold upper
  refine Spec.bind (g 1024 (by decide) (by decide) (by omega) (by decide) (hm _ (by decide)) x (hs _)) ?_
  refine Spec.bind (g 1152 (by decide) (by decide) (by omega) (by decide) (hm _ (by decide)) x (hs _)) ?_
  refine Spec.bind (g 1280 (by decide) (by decide) (by omega) (by decide) (hm _ (by decide)) x (hs _)) ?_
  refine Spec.bind (g 1408 (by decide) (by decide) (by omega) (by decide) (hm _ (by decide)) x (hs _)) ?_
  refine Spec.bind (g 1536 (by decide) (by decide) (by omega) (by decide) (hm _ (by decide)) x (hs _)) ?_
  refine Spec.bind (g 1664 (by decide) (by decide) (by omega) (by decide) (hm _ (by decide)) x (hs _)) ?_
  refine Spec.bind (g 1792 (by decide) (by decide) (by omega) (by decide) (hm _ (by decide)) x (hs _)) ?_
  exact g 1920 (by decide) (by decide) (by omega) (by decide) (hm _ (by decide)) x (hs _)

include hf in
theorem logits_spec (qa : Vec F S2048x256 .bf16) (off : Fin 2 → ℕ) (inb : ∀ a, off a + S1024x256.size a ≤ S8192x256.size a) (n : ℕ) (hn : n < 8)
    (h : off = ![1024 * n, 0]) (x : Bufs F) : Spec defs 𝒱 c A (logits A sr qa off inb) x ⟨⟩ (set x (lg qa (kb x.ka n))) := by
  unfold logits
  refine Spec.bind (Spec.ld (foc_ka τ c A) x _ _ inb _) ?_
  rw [window_kb x.ka off inb n hn h]
  simp only [shapeCast_id]
  exact Spec.stFull hf x _ _ _ _ _
end Pieces

theorem addPV_spec (off : Fin 2 → ℕ) (inb : ∀ a, off a + S1024x256.size a ≤ S8192x256.size a) (n : ℕ) (hn : n < 8)
    (h : off = ![1024 * n, 0]) (x : Bufs F) : Spec defs 𝒱 c A (addPV A off inb) x ⟨⟩ { x with acc := pv x.acc x.p (kb x.va n) } := by
  unfold addPV
  refine Spec.bind (Spec.ldFull (foc_acc τ c A) x _ inb_S2048x256_S2048x256_0_0 _) ?_
  refine Spec.bind (Spec.ldFull (foc_p τ c A) x _ inb_S2048x1024_S2048x1024_0_0 _) ?_
  refine Spec.bind (Spec.ld (foc_va τ c A) x _ _ inb _) ?_
  rw [window_kb x.va off inb n hn h]
  simp only [shapeCast_id]
  unfold pv
  refine Spec.to (Spec.stFull (foc_acc τ c A) x _ inb_S2048x256_S2048x256_0_0 _ _ _) ?_ rfl
  exact congrArg (fun a => { x with acc := a }) (shapeCast_id _ _)

theorem logitsHi_spec (qa : Vec F S2048x256 .bf16) (off : Fin 2 → ℕ) (inb : ∀ a, off a + S1024x256.size a ≤ S8192x256.size a) (n : ℕ) (hn : n < 8)
    (h : off = ![1024 * n, 0]) (x : Bufs F) :
    Spec defs 𝒱 c A (logitsHi A qa off inb) x ⟨⟩ { x with s1 := put x.s1 ![1024, 0] S1024x1024.size (lgHi qa (kb x.ka n)) } := by
  unfold logitsHi
  refine Spec.bind (Spec.ld (foc_ka τ c A) x _ _ inb _) ?_
  rw [window_kb x.ka off inb n hn h]
  simp only [shapeCast_id]
  exact Spec.st (foc_s1 τ c A) x _ _ _ _ _ _

theorem addPVHi_spec (off : Fin 2 → ℕ) (inb : ∀ a, off a + S1024x256.size a ≤ S8192x256.size a) (n : ℕ) (hn : n < 8)
    (h : off = ![1024 * n, 0]) (x : Bufs F) : Spec defs 𝒱 c A (addPVHi A off inb) x ⟨⟩ { x with acc := pvHi x.acc x.p (kb x.va n) } := by
  unfold addPVHi
  refine Spec.bind (Spec.ld (foc_acc τ c A) x _ _ inb_S2048x256_S1024x256_1024_0 _) ?_
  refine Spec.bind (Spec.ld (foc_p τ c A) x _ _ inb_S2048x1024_S1024x1024_1024_0 _) ?_
  refine Spec.bind (Spec.ld (foc_va τ c A) x _ _ inb _) ?_
  rw [window_kb x.va off inb n hn h]
  simp only [shapeCast_id]
  unfold pvHi
  refine Spec.to (Spec.st (foc_acc τ c A) x _ _ inb_S2048x256_S1024x256_1024_0 _ _ _) ?_ rfl
  exact congrArg (fun a : Vec F S1024x256 .f32 => { x with acc := put x.acc ![1024, 0] S1024x256.size a }) (shapeCast_id _ _)

/-- An update and the weighted values of a block. -/
def upd0 (n : ℕ) (mk : Mask F) (x : Bufs F) : Bufs F :=
  { x with m := upM mk x.s0 x.m, p := upP mk x.s0 x.m, acc := pv (upA mk x.s0 x.m x.acc) (upP mk x.s0 x.m) (kb x.va n) }
def upd1 (n : ℕ) (mk : Mask F) (x : Bufs F) : Bufs F :=
  { x with m := upM mk x.s1 x.m, p := upP mk x.s1 x.m, acc := pv (upA mk x.s1 x.m x.acc) (upP mk x.s1 x.m) (kb x.va n) }

theorem upd0_spec (mk lowk upk : Mask F) (hl : ∀ R, R < 1024 → lowk R = mk R) (hu : ∀ R, 1024 ≤ R → upk R = mk R)
    (off : Fin 2 → ℕ) (inb : ∀ a, off a + S1024x256.size a ≤ S8192x256.size a) (n : ℕ) (hn : n < 8)
    (h : off = ![1024 * n, 0]) (x : Bufs F) {k : Prog (TpuEff nD τ sig (Elt F) Λ .tc) PUnit} {x' : Bufs F} (hk : Spec defs 𝒱 c A k (upd0 n mk x) ⟨⟩ x') :
    Spec defs 𝒱 c A (lower A A.s0 lowk >>= fun _ => upper A A.s0 upk >>= fun _ => addPV A off inb >>= fun _ => k) x ⟨⟩ x' := by
  refine Spec.bind (lower_spec A.s0 _ _ (foc_s0 τ c A) mk x.s0 lowk hl x fun _ => rfl) ?_
  refine Spec.bind (upper_spec A.s0 _ _ (foc_s0 τ c A) 0 (by decide) mk x.s0 upk hu x fun _ => rfl) ?_
  refine Spec.bind (addPV_spec off inb n hn h _) ?_
  unfold stt
  rw [bl_full, bl_full, bl_full]
  exact hk

theorem upd1_spec (mk lowk upk : Mask F) (hl : ∀ R, R < 1024 → lowk R = mk R) (hu : ∀ R, 1024 ≤ R → upk R = mk R)
    (off : Fin 2 → ℕ) (inb : ∀ a, off a + S1024x256.size a ≤ S8192x256.size a) (n : ℕ) (hn : n < 8)
    (h : off = ![1024 * n, 0]) (x : Bufs F) :
    Spec defs 𝒱 c A (lower A A.s1 lowk >>= fun _ => upper A A.s1 upk >>= fun _ => addPV A off inb) x ⟨⟩ (upd1 n mk x) := by
  refine Spec.bind (lower_spec A.s1 _ _ (foc_s1 τ c A) mk x.s1 lowk hl x fun _ => rfl) ?_
  refine Spec.bind (upper_spec A.s1 _ _ (foc_s1 τ c A) 0 (by decide) mk x.s1 upk hu x fun _ => rfl) ?_
  refine Spec.to (addPV_spec off inb n hn h _) ?_ rfl
  unfold stt
  rw [bl_full, bl_full, bl_full]
  rfl

/-- One trip. -/
def tripF (qa : Vec F S2048x256 .bf16) (t : ℕ) (x : Bufs F) : Bufs F :=
  upd1 (2 * t + 1) noMask { (upd0 (2 * t) noMask { x with s1 := lg qa (kb x.ka (2 * t + 1)) }) with s0 := lg qa (kb x.ka (2 * t + 2)) }

theorem trip_spec (qa : Vec F S2048x256 .bf16) (o1 o2 o3 : Fin 2 → ℕ)
    (h1 : ∀ a, o1 a + S1024x256.size a ≤ S8192x256.size a) (h2 : ∀ a, o2 a + S1024x256.size a ≤ S8192x256.size a)
    (h3 : ∀ a, o3 a + S1024x256.size a ≤ S8192x256.size a) (t : ℕ) (ht : t < 3) (e1 : o1 = ![1024 * (2 * t + 1), 0]) (e2 : o2 = ![1024 * (2 * t), 0])
    (e3 : o3 = ![1024 * (2 * t + 2), 0]) (x : Bufs F) : Spec defs 𝒱 c A (trip A qa o1 o2 o3 h1 h2 h3) x ⟨⟩ (tripF qa t x) := by
  unfold trip
  refine Spec.bind (logits_spec A.s1 _ _ (foc_s1 τ c A) qa o1 h1 (2 * t + 1) (by omega) e1 x) ?_
  refine upd0_spec noMask _ _ (fun _ _ => rfl) (fun _ _ => rfl) o2 h2 (2 * t) (by omega) e2 _ ?_
  refine Spec.bind (logits_spec A.s0 _ _ (foc_s0 τ c A) qa o3 h3 (2 * t + 2) (by omega) e3 _) ?_
  exact upd1_spec noMask _ _ (fun _ _ => rfl) (fun _ _ => rfl) o1 h1 (2 * t + 1) (by omega) e1 _

/-- The trips one after another. -/
def iter (f : ℕ → Bufs F → Bufs F) : ℕ → Bufs F → Bufs F
  | 0, x => x
  | n + 1, x => f n (iter f n x)

theorem Spec.for (l : Scf.Loop 32) (hok : l.OK) (body : Fin l.trips → PUnit → Prog (TpuEff nD τ sig (Elt F) Λ .tc) PUnit) (f : ℕ → Bufs F → Bufs F)
    (hb : ∀ t x, Spec defs 𝒱 c A (body t ⟨⟩) x ⟨⟩ (f t.val x)) (x : Bufs F) :
    Spec defs 𝒱 c A (Scf.Loop.for l hok ⟨⟩ body) x ⟨⟩ (iter f l.trips x) := fun Q => by
  refine BIBase.Entails.trans ?_ (Scf.wp_for _ _ _ l.lb l.ub l.st hok ⟨⟩ body (fun n _ => St (τ := τ) c A (iter f n x)) (fun t acc => ?_))
  · iintro ⟨H, K⟩
    isplitl [H]; · iexact H
    iintro %acc H
    iapply K
    iexact H
  · refine BIBase.Entails.trans ?_ (hb t (iter f t.val x) _)
    iintro H
    isplitl [H]; · iexact H
    iintro H
    iexact H

theorem trips1 : ∀ i : Cert.Kernel.grid0.Coords, (k0_t1_loop i).trips = (i 2).val := by decide +kernel
theorem trips2 (i : Cert.Kernel.grid0.Coords) : (k0_t2_loop i).trips = 0 := Nat.le_zero.mp (k0_t2_abs i).2.1

theorem coord2 (i : Cert.Kernel.grid0.Coords) : (i 2).val < 4 := (i 2).isLt

theorem loop1_spec (i : Cert.Kernel.grid0.Coords) (qa : Vec F S2048x256 .bf16) (x : Bufs F) :
    Spec defs 𝒱 c A (loop1 A i qa) x ⟨⟩ (iter (tripF qa) (i 2).val x) := by
  rw [← trips1 i]
  refine Spec.for _ _ _ _ (fun t x => ?_) x
  have ht : t.val < 3 := by have h1 := t.isLt; have h2 := trips1 i; have h3 := coord2 i; omega
  refine trip_spec qa _ _ _ _ _ _ t.val ht ?_ ?_ ?_ x
  · exact (k0_off1_eq i t 0).trans (by congr 1; show 2048 * t.val + 1024 * 0 + 1024 = _; omega)
  · exact (k0_off2_eq i t).trans (by congr 1; omega)
  · exact (k0_off1_eq i t 1).trans (by congr 1; show 2048 * t.val + 1024 * 1 + 1024 = _; omega)

theorem loop2_spec (i : Cert.Kernel.grid0.Coords) (qa : Vec F S2048x256 .bf16) (x : Bufs F) :
    Spec defs 𝒱 c A (loop2 A i qa) x ⟨⟩ x := by
  have h := Spec.for (defs := defs) (𝒱 := 𝒱) (c := c) (A := A) (k0_t2_loop i) (k0_t2_ok i) (fun t _ =>
    trip A qa (k0_off3 i t 1#32) (k0_off4 i t) (k0_off3 i t 2#32) (k0_off3_inb i t 0) (k0_off4_inb i t) (k0_off3_inb i t 1)) (fun _ x => x)
    (fun t x => absurd t.isLt (by have h2 := trips2 i; omega)) x
  have e : iter (fun _ x => x) (k0_t2_loop i).trips x = x := by
    generalize (k0_t2_loop i).trips = n
    induction n with
    | zero => rfl
    | succ n ih => exact ih
  rw [e] at h
  exact h

/-- The masked blocks. -/
def diagF (n : ℕ) (qa : Vec F S2048x256 .bf16) (x : Bufs F) : Bufs F :=
  let s1 := put x.s1 ![1024, 0] S1024x1024.size (lgHi qa (kb x.ka (2 * n + 1)))
  let y := stt 1024 2048 mask1 s1 (upd0 (2 * n) mask0 { x with s1 := s1 })
  { y with acc := pvHi y.acc y.p (kb x.va (2 * n + 1)) }

theorem diag_spec (i : Cert.Kernel.grid0.Coords) (qa : Vec F S2048x256 .bf16) (x : Bufs F) :
    Spec defs 𝒱 c A (diag A i qa) x ⟨⟩ (diagF (i 2).val qa x) := by
  have hi := coord2 i
  have e5 : k0_off5 i = ![1024 * (2 * (i 2).val + 1), 0] := (k0_off5_eq i).trans (by congr 1; omega)
  have e6 : k0_off6 i = ![1024 * (2 * (i 2).val), 0] := (k0_off6_eq i).trans (by congr 1; omega)
  unfold diag
  refine Spec.bind (logitsHi_spec qa _ _ (2 * (i 2).val + 1) (by omega) e5 x) ?_
  refine upd0_spec mask0 _ _ (fun R h => (if_pos h).symm) (fun R h => (if_neg (Nat.not_lt.mpr h)).symm) _ _ (2 * (i 2).val) (by omega) e6 _ ?_
  have hu := upper_spec (defs := defs) (𝒱 := 𝒱) (c := c) (A := A) A.s1 _ _ (foc_s1 τ c A) 1024 (le_refl _) mask1 (put x.s1 ![1024, 0] S1024x1024.size (lgHi qa (kb x.ka (2 * (i 2).val + 1))))
    (fun R => mask R 1024) (fun _ _ => rfl) (upd0 (2 * (i 2).val) mask0 { x with s1 := put x.s1 ![1024, 0] S1024x1024.size (lgHi qa (kb x.ka (2 * (i 2).val + 1))) }) (fun _ => rfl)
  rw [stt_start] at hu
  refine Spec.bind hu ?_
  exact addPVHi_spec _ _ (2 * (i 2).val + 1) (by omega) e5 _

/-- The start: the queries, the maxima and the accumulator, the logits of the first block. -/
def startF (i : Cert.Kernel.grid0.Coords) (x : Bufs F) : Bufs F :=
  { x with m := negInf, acc := zeros, s0 := lg (qaug i x.q) (kb x.ka 0) }

/-- The tables' contents after the branch. -/
def tabF (i : Cert.Kernel.grid0.Coords) (x : Bufs F) : Bufs F :=
  if first i = 1#1 then { x with ka := kaT x.k x.c3 x.ka, va := vaT x.v x.va } else x

theorem head_spec (i : Cert.Kernel.grid0.Coords) (x : Bufs F) :
    Spec defs 𝒱 c A (head A i) x (qaug i x.q) (startF i (tabF i x)) := by
  unfold head
  have ht : Spec defs 𝒱 c A (if h : first i = 1#1 then tables A else Pure.pure ⟨⟩ : Prog (TpuEff nD τ sig (Elt F) Λ .tc) PUnit) x ⟨⟩ (tabF i x) := by
    unfold tabF
    by_cases h : first i = 1#1
    · rw [dif_pos h, if_pos h]
      unfold tables putHalf putHalf'
      simp only [shapeCast_id]
      refine Spec.bind (Spec.ldFull (foc_k τ c A) x _ inb_S1x8192x128_S1x8192x128_0_0_0 _) ?_
      refine Spec.bind (Spec.st (foc_ka τ c A) _ _ _ _ _ _ _) ?_
      refine Spec.bind (Spec.ldFull (foc_c3 τ c A) _ _ inb_S1x8192x128_S1x8192x128_0_0_0 _) ?_
      refine Spec.bind (Spec.st (foc_ka τ c A) _ _ _ _ _ _ _) ?_
      refine Spec.bind (Spec.ldFull (foc_v τ c A) _ _ inb_S1x8192x128_S1x8192x128_0_0_0 _) ?_
      refine Spec.bind (Spec.st (foc_va τ c A) _ _ _ _ _ _ _) ?_
      exact Spec.st (foc_va τ c A) _ _ _ _ _ _ _
    · rw [dif_neg h, if_neg h]
      exact Spec.pure _ _
  refine Spec.bind ht ?_
  have hq : (tabF i x).q = x.q := by unfold tabF; split <;> rfl
  refine Spec.bind (Spec.ldFull (foc_q τ c A) _ _ inb_S1x2048x128_S1x2048x128_0_0_0 _) ?_
  rw [hq]
  unfold start
  simp only [shapeCast_id]
  refine Spec.bind (Spec.bind (Spec.stFull (foc_m τ c A) _ _ inb_S2048x128_S2048x128_0_0 _ _ _) (Spec.stFull (foc_acc τ c A) _ _ inb_S2048x256_S2048x256_0_0 _ _ _)) ?_
  refine Spec.bind (logits_spec A.s0 _ _ (foc_s0 τ c A) (qaug i x.q) _ _ 0 (by decide) rfl _) ?_
  refine Spec.to (Spec.pure _ _) ?_ rfl
  unfold startF
  rw [hq]
  rfl

/-- The body. -/
def bodyF (i : Cert.Kernel.grid0.Coords) (x : Bufs F) : Bufs F :=
  let y := diagF (i 2).val (qaug i x.q) (iter (tripF (qaug i x.q)) (i 2).val (startF i (tabF i x)))
  { y with o := outOf y.acc }

theorem body_spec (i : Cert.Kernel.grid0.Coords) (x : Bufs F) : Spec defs 𝒱 c A (body A i) x ⟨⟩ (bodyF i x) := by
  unfold body
  refine Spec.bind (head_spec i x) ?_
  refine Spec.bind (loop1_spec i _ _) ?_
  refine Spec.bind (loop2_spec i _ _) ?_
  refine Spec.bind (diag_spec i _ _) ?_
  unfold finish
  refine Spec.bind (Spec.ldFull (foc_acc τ c A) _ _ inb_S2048x256_S2048x256_0_0 _) ?_
  exact Spec.stFull (foc_o τ c A) _ _ inb_S1x2048x128_S1x2048x128_0_0_0 _ _ _

end Cert.Fox

end
-- ==== Proof.Fox.Dep.lean ====
/- What the attention kernel's body leaves depends on the queries, the tables and the grid point alone. -/
module

public import proofs.«01_k».proof.Proof.Fox.Run

@[expose] public section

noncomputable section

namespace Cert.Fox

open Idealize.ShloMosaic Idealize.ShloMosaic.TcCoe
open Cert.Kernel (S1x2048x128 S1x8192x128 S8192x256 S8192x128 S2048x1024 S2048x128 S2048x256 S128x1024 S128x128 S128 S128x1
  S1024x256 S1024x1024 S2048x1)
open Cert.Kernel.Facts₀ Cert.Kernel.Facts
open VecWindow (window put)

variable {F : FTy → Type} [FloatOps F]

/-- An update of the maxima and the accumulator with one block's logits and values. -/
def upd (mk : Mask F) (s : Vec F S2048x1024 .f32) (v : Vec F S1024x256 .bf16) (x : Vec F S2048x128 .f32 × Vec F S2048x256 .f32) :
    Vec F S2048x128 .f32 × Vec F S2048x256 .f32 :=
  (upM mk s x.1, pv (upA mk s x.1 x.2) (upP mk s x.1) v)

/-- The maxima and the accumulator after the first `n` blocks, none masked. -/
def full (qa : Vec F S2048x256 .bf16) (ka va : Vec F S8192x256 .bf16) : ℕ → Vec F S2048x128 .f32 × Vec F S2048x256 .f32
  | 0 => (negInf, zeros)
  | n + 1 => upd noMask (lg qa (kb ka n)) (kb va n) (full qa ka va n)

/-- The logits of the upper rows against a block, in their place. -/
def hiS (qa : Vec F S2048x256 .bf16) (k : Vec F S1024x256 .bf16) : Vec F S2048x1024 .f32 :=
  put (broadcast S2048x1024 (Scalar.ofBits .f32 0x00000000#32)) ![1024, 0] S1024x1024.size (lgHi qa k)

/-- After the first of the two masked blocks, -/
def low (n : ℕ) (qa : Vec F S2048x256 .bf16) (ka va : Vec F S8192x256 .bf16) : Vec F S2048x128 .f32 × Vec F S2048x256 .f32 :=
  upd mask0 (lg qa (kb ka (2 * n))) (kb va (2 * n)) (full qa ka va (2 * n))

/-- and the accumulator after both. -/
def lastA (n : ℕ) (qa : Vec F S2048x256 .bf16) (ka va : Vec F S8192x256 .bf16) : Vec F S2048x256 .f32 :=
  pvHi (bl 1024 2048 0 (upA mask1 (hiS qa (kb ka (2 * n + 1))) (low n qa ka va).1 (low n qa ka va).2) (low n qa ka va).2)
    (upP mask1 (hiS qa (kb ka (2 * n + 1))) (low n qa ka va).1) (kb va (2 * n + 1))

/-- The result's block at a grid point, from the queries and the tables. -/
def outV (i : Cert.Kernel.grid0.Coords) (q : Vec F S1x2048x128 .bf16) (ka va : Vec F S8192x256 .bf16) : Vec F S1x2048x128 .bf16 :=
  outOf (lastA (i 2).val (qaug i q) ka va)

/-- Two contents equal in all but the result and the scratch buffers. -/
structure Same (x y : Bufs F) : Prop where
  q : x.q = y.q
  k : x.k = y.k
  v : x.v = y.v
  c3 : x.c3 = y.c3
  ka : x.ka = y.ka
  va : x.va = y.va

theorem iter_same (qa : Vec F S2048x256 .bf16) (n : ℕ) (x : Bufs F) : Same (iter (tripF qa) n x) x := by
  induction n with
  | zero => exact ⟨rfl, rfl, rfl, rfl, rfl, rfl⟩
  | succ n ih => exact ⟨ih.q, ih.k, ih.v, ih.c3, ih.ka, ih.va⟩

theorem iter_full (qa : Vec F S2048x256 .bf16) (n : ℕ) (x : Bufs F) (h0 : x.s0 = lg qa (kb x.ka 0)) (hm : x.m = negInf) (ha : x.acc = zeros) :
    (iter (tripF qa) n x).s0 = lg qa (kb x.ka (2 * n)) ∧ (iter (tripF qa) n x).m = (full qa x.ka x.va (2 * n)).1
      ∧ (iter (tripF qa) n x).acc = (full qa x.ka x.va (2 * n)).2 := by
  induction n with
  | zero => exact ⟨h0, hm, ha⟩
  | succ n ih =>
    have hs := iter_same qa n x
    have e : iter (tripF qa) (n + 1) x = tripF qa n (iter (tripF qa) n x) := rfl
    rw [e]
    generalize iter (tripF qa) n x = y at ih hs
    obtain ⟨i0, i1, i2⟩ := ih
    refine ⟨?_, ?_, ?_⟩
    · show lg qa (kb y.ka (2 * n + 2)) = _
      rw [hs.ka]; rfl
    · show upM noMask (lg qa (kb y.ka (2 * n + 1))) (upM noMask y.s0 y.m) = _
      rw [hs.ka, i0, i1]; rfl
    · show pv (upA noMask (lg qa (kb y.ka (2 * n + 1))) (upM noMask y.s0 y.m) (pv (upA noMask y.s0 y.m y.acc) (upP noMask y.s0 y.m) (kb y.va (2 * n))))
        (upP noMask (lg qa (kb y.ka (2 * n + 1))) (upM noMask y.s0 y.m)) (kb y.va (2 * n + 1)) = _
      rw [hs.ka, hs.va, i0, i1, i2]; rfl

/-- The upper rows of logits put over anything are the same rows. -/
theorem rowsS_put (mk : Mask F) (s s' : Vec F S2048x1024 .f32) (w : Vec F S1024x1024 .f32) (R : ℕ) (hR : R + 128 ≤ 2048) (h : 1024 ≤ R) :
    rowsS mk (put s ![1024, 0] S1024x1024.size w) R hR = rowsS mk (put s' ![1024, 0] S1024x1024.size w) R hR := by
  unfold rowsS
  congr 1
  funext y
  show put s ![1024, 0] S1024x1024.size w ((Rect.unit (s := S2048x1024) ![R, 0] S128x1024.size (inbS hR)).emb y) = put s' ![1024, 0] S1024x1024.size w _
  have e0 : ((Rect.unit (s := S2048x1024) ![R, 0] S128x1024.size (inbS hR)).emb y (0 : Fin 2)).val = R + 1 * (y (0 : Fin 2)).val := rfl
  have e1 : ((Rect.unit (s := S2048x1024) ![R, 0] S128x1024.size (inbS hR)).emb y (1 : Fin 2)).val = 0 + 1 * (y (1 : Fin 2)).val := rfl
  generalize ((Rect.unit (s := S2048x1024) ![R, 0] S128x1024.size (inbS hR)).emb y) = z at e0 e1
  have b0 : (z (0 : Fin 2)).val < 2048 := (z (0 : Fin 2)).isLt
  have b1 : (z (1 : Fin 2)).val < 1024 := (z (1 : Fin 2)).isLt
  have hz : ∀ a : Fin 2, (![1024, 0] : Fin 2 → ℕ) a ≤ (z a).val ∧ (z a).val < (![1024, 0] : Fin 2 → ℕ) a + S1024x1024.size a :=
    Fin.forall_fin_two.mpr ⟨⟨(by show 1024 ≤ _; omega), (by show _ < 1024 + 1024; omega)⟩, ⟨Nat.zero_le _, (by show _ < 0 + 1024; omega)⟩⟩
  unfold put
  rw [dif_pos hz, dif_pos hz]

/-- So what is updated from them is the same. -/
theorem bl_congr {W : ℕ} {α : Type} (X X' X0 : (⟨2, ![2048, W]⟩ : Shape).Idx → α) (h : ∀ y, 1024 ≤ (y (0 : Fin 2)).val → X y = X' y) :
    bl 1024 2048 0 X X0 = bl 1024 2048 0 X' X0 := by
  funext y
  unfold bl
  split
  · exact h y (by omega)
  · rfl

section
variable (mk : Mask F) (s s' : Vec F S2048x1024 .f32) (w : Vec F S1024x1024 .f32) (m : Vec F S2048x128 .f32) (a : Vec F S2048x256 .f32)

theorem upA_put (y : S2048x256.Idx) (h : 1024 ≤ (y (0 : Fin 2)).val) :
    upA mk (put s ![1024, 0] S1024x1024.size w) m a y = upA mk (put s' ![1024, 0] S1024x1024.size w) m a y := by
  unfold upA asm gA gM
  beta_reduce
  rw [rowsS_put mk s s' w _ _ (by omega)]

theorem upP_put (y : S2048x1024.Idx) (h : 1024 ≤ (y (0 : Fin 2)).val) :
    upP mk (put s ![1024, 0] S1024x1024.size w) m y = upP mk (put s' ![1024, 0] S1024x1024.size w) m y := by
  unfold upP asm gP gM
  beta_reduce
  rw [rowsS_put mk s s' w _ _ (by omega)]
end

/-- The upper rows' weights are all of the weights that the last product reads. -/
theorem pvHi_bl (a : Vec F S2048x256 .f32) (p p' p0 : Vec F S2048x1024 .bf16) (v : Vec F S1024x256 .bf16)
    (h : ∀ y : S2048x1024.Idx, 1024 ≤ (y (0 : Fin 2)).val → p y = p' y) : pvHi a (bl 1024 2048 0 p p0) v = pvHi a p' v := by
  have key : window (bl 1024 2048 0 p p0) ![1024, 0] S1024x1024.size inb_S2048x1024_S1024x1024_1024_0 = window p' ![1024, 0] S1024x1024.size inb_S2048x1024_S1024x1024_1024_0 := by
    funext y
    show bl 1024 2048 0 p p0 ((Rect.unit (s := S2048x1024) ![1024, 0] S1024x1024.size inb_S2048x1024_S1024x1024_1024_0).emb y) = p' _
    have e0 : ((Rect.unit (s := S2048x1024) ![1024, 0] S1024x1024.size inb_S2048x1024_S1024x1024_1024_0).emb y (0 : Fin 2)).val = 1024 + 1 * (y (0 : Fin 2)).val := rfl
    generalize ((Rect.unit (s := S2048x1024) ![1024, 0] S1024x1024.size inb_S2048x1024_S1024x1024_1024_0).emb y) = z at e0
    have := lt0 z
    unfold bl
    rw [if_pos (by omega)]
    exact h z (by omega)
  unfold pvHi
  rw [key]

theorem diag_out (n : ℕ) (qa : Vec F S2048x256 .bf16) (x : Bufs F) (h0 : x.s0 = lg qa (kb x.ka (2 * n))) (hm : x.m = (full qa x.ka x.va (2 * n)).1)
    (ha : x.acc = (full qa x.ka x.va (2 * n)).2) : (diagF n qa x).acc = lastA n qa x.ka x.va := by
  have e1 : low n qa x.ka x.va = (upM mask0 x.s0 x.m, pv (upA mask0 x.s0 x.m x.acc) (upP mask0 x.s0 x.m) (kb x.va (2 * n))) := by
    unfold low upd; rw [h0, hm, ha]
  unfold lastA
  rw [e1]
  unfold hiS
  generalize broadcast S2048x1024 (Scalar.ofBits (F := F) .f32 0x00000000#32) = z
  unfold diagF stt upd0
  dsimp only
  generalize lgHi qa (kb x.ka (2 * n + 1)) = w
  generalize upM mask0 x.s0 x.m = m1
  generalize pv (upA mask0 x.s0 x.m x.acc) (upP mask0 x.s0 x.m) (kb x.va (2 * n)) = a1
  generalize upP mask0 x.s0 x.m = p1
  rw [bl_congr _ _ _ (upA_put mask1 x.s1 z w m1 a1)]
  exact pvHi_bl _ _ _ _ _ (upP_put mask1 x.s1 z w m1)

/-- What the body leaves: its inputs, the tables, the result's block. -/
theorem bodyF_same (i : Cert.Kernel.grid0.Coords) (x : Bufs F) : Same (bodyF i x) (tabF i x) := by
  have h := iter_same (qaug i x.q) (i 2).val (startF i (tabF i x))
  unfold bodyF
  dsimp only
  generalize iter (tripF (qaug i x.q)) (i 2).val (startF i (tabF i x)) = y at h
  generalize tabF i x = z at h
  exact ⟨h.q, h.k, h.v, h.c3, h.ka, h.va⟩

theorem bodyF_out (i : Cert.Kernel.grid0.Coords) (x : Bufs F) : (bodyF i x).o = outV i x.q (tabF i x).ka (tabF i x).va := by
  have hq : (tabF i x).q = x.q := by unfold tabF; split <;> rfl
  unfold bodyF outV
  dsimp only
  generalize tabF i x = z at hq
  have h := iter_full (qaug i x.q) (i 2).val (startF i z) (by show lg (qaug i z.q) _ = _; rw [hq]; rfl) rfl rfl
  have hs := iter_same (qaug i x.q) (i 2).val (startF i z)
  generalize iter (tripF (qaug i x.q)) (i 2).val (startF i z) = y at h hs
  generalize (i 2).val = n at h
  have hka : y.ka = z.ka := hs.ka
  have hva : y.va = z.va := hs.va
  rw [diag_out n (qaug i x.q) y (by rw [h.1, hka]; rfl) (by rw [h.2.1, hka, hva]; rfl) (by rw [h.2.2, hka, hva]; rfl), hka, hva]

end Cert.Fox

end
-- ==== Proof.Fox.BodyIdeal.lean ====
/- The printed body of the attention kernel over the reals is the program of `Prog.lean`. -/
module

public import proofs.«01_k».proof.Proof.Fox.Prog
public import proofs.«01_k».proof.Proof.Fox.Body
public import proofs.«01_k».proof.Proof.Gen.KernelIdeal
public import Idealize.ShloMosaic.Lib.Tactic

@[expose] public section

noncomputable section

namespace Cert.FoxIdeal

open Idealize.ShloMosaic Idealize.SL.Sem
open Cert.Fox (Refs body head loop1 loop2 diag finish logitsHi ld mask mx first inbS inbM bind_congr' bind_left pure_bind')
open Cert.KernelIdeal Cert.KernelIdeal.Facts₀ Cert.KernelIdeal.Facts Idealize.ShloMosaic.Tactic

variable {F : FTy → Type} [FloatOps F]

/-- The loads that begin the first masked group. -/
def begin1 (A : Refs sig) (i : grid0.Coords) (qa : FVec F S2048x256 .bf16) :
    Prog (TpuEff nD τ sig (Elt F) Λ₀ .tc) (Σ' (v51 : BitVec 32) (v61 : Vec F S128x1024 .f32) (v62 : Vec F S128x128 .f32), FVec F S128x128 .f32) := do
  logitsHi A qa (k0_off5 i) (k0_off5_inb i)
  let s ← ld A.s0 ![0, 0] S128x1024.size (inbS (by decide)) h_S128x1024
  let m ← ld A.m ![0, 0] S128x128.size (inbM (by decide)) h_S128x128
  let _ ← ld A.m ![0, 0] S128x128.size (inbM (by decide)) h_S128x128
  pure ⟨Scalar.muli 2#32 (BitVec.ofNat 32 (i 2).val), mask 0 0 s, m, mx (mask 0 0 s) m⟩

set_option maxRecDepth 1000000 in
set_option maxHeartbeats 0 in
theorem head_eq (i : grid0.Coords) (a3 : Memref sig .tc .vmem S1x2048x128 .bf16) (h3 : a3.IsWhole) (a4 : Memref sig .tc .vmem S1x8192x128 .bf16) (h4 : a4.IsWhole)
    (a5 : Memref sig .tc .vmem S1x8192x128 .bf16) (h5 : a5.IsWhole) (a6 : Memref sig .tc .vmem S1x8192x128 .bf16) (h6 : a6.IsWhole)
    (a7 : Memref sig .tc .vmem S1x2048x128 .bf16) (h7 : a7.IsWhole) (a8 : Memref sig .tc .vmem S8192x256 .bf16) (h8 : a8.IsWhole)
    (a9 : Memref sig .tc .vmem S8192x256 .bf16) (h9 : a9.IsWhole) (a10 : Memref sig .tc .vmem S2048x1024 .f32) (h10 : a10.IsWhole)
    (a11 : Memref sig .tc .vmem S2048x1024 .f32) (h11 : a11.IsWhole) (a12 : Memref sig .tc .vmem S2048x1024 .bf16) (h12 : a12.IsWhole)
    (a13 : Memref sig .tc .vmem S2048x128 .f32) (h13 : a13.IsWhole) (a14 : Memref sig .tc .vmem S2048x256 .f32) (h14 : a14.IsWhole) :

    k0_part131 (F := F) i a3 h3 a4 h4 a5 h5 a6 h6 a7 h7 a8 h8 a9 h9 a10 h10 a11 h11 a12 h12 a13 h13 a14 h14
      = head ⟨a3, a4, a5, a6, a7, a8, a9, a10, a11, a12, a13, a14, h7, h8, h9, h12⟩ i >>= fun qa => pure ⟨BitVec.ofNat 32 (i 2).val, qa⟩ := by
  unfold k0_part131 head
  dsimp +zeta only
  by_cases h : first i = 1#1
  · refine (dif_pos h).trans ?_
    refine Eq.trans ?_ (bind_left (bind_left (dif_pos h).symm))
    sl_kernel_rfl
  · refine (dif_neg h).trans ?_
    refine Eq.trans ?_ (bind_left (bind_left (dif_neg h).symm))
    sl_kernel_rfl

set_option maxRecDepth 1000000 in
set_option maxHeartbeats 0 in
theorem loops_eq (i : grid0.Coords) (a3 : Memref sig .tc .vmem S1x2048x128 .bf16) (h3 : a3.IsWhole) (a4 : Memref sig .tc .vmem S1x8192x128 .bf16) (h4 : a4.IsWhole)
    (a5 : Memref sig .tc .vmem S1x8192x128 .bf16) (h5 : a5.IsWhole) (a6 : Memref sig .tc .vmem S1x8192x128 .bf16) (h6 : a6.IsWhole)
    (a7 : Memref sig .tc .vmem S1x2048x128 .bf16) (h7 : a7.IsWhole) (a8 : Memref sig .tc .vmem S8192x256 .bf16) (h8 : a8.IsWhole)
    (a9 : Memref sig .tc .vmem S8192x256 .bf16) (h9 : a9.IsWhole) (a10 : Memref sig .tc .vmem S2048x1024 .f32) (h10 : a10.IsWhole)
    (a11 : Memref sig .tc .vmem S2048x1024 .f32) (h11 : a11.IsWhole) (a12 : Memref sig .tc .vmem S2048x1024 .bf16) (h12 : a12.IsWhole)
    (a13 : Memref sig .tc .vmem S2048x128 .f32) (h13 : a13.IsWhole) (a14 : Memref sig .tc .vmem S2048x256 .f32) (h14 : a14.IsWhole)
    (qa : FVec F S2048x256 .bf16) :
    k0_part132 (F := F) i a3 h3 a4 h4 a5 h5 a6 h6 a7 h7 a8 h8 a9 h9 a10 h10 a11 h11 a12 h12 a13 h13 a14 h14 (BitVec.ofNat 32 (i 2).val) qa
      = loop1 ⟨a3, a4, a5, a6, a7, a8, a9, a10, a11, a12, a13, a14, h7, h8, h9, h12⟩ i qa >>= fun _ => loop2 ⟨a3, a4, a5, a6, a7, a8, a9, a10, a11, a12, a13, a14, h7, h8, h9, h12⟩ i qa >>= fun _ => begin1 ⟨a3, a4, a5, a6, a7, a8, a9, a10, a11, a12, a13, a14, h7, h8, h9, h12⟩ i qa := by
  sl_kernel_rfl

set_option maxRecDepth 1000000 in
set_option maxHeartbeats 0 in
theorem body_eq (i : grid0.Coords) (a3 : Memref sig .tc .vmem S1x2048x128 .bf16) (h3 : a3.IsWhole) (a4 : Memref sig .tc .vmem S1x8192x128 .bf16) (h4 : a4.IsWhole)
    (a5 : Memref sig .tc .vmem S1x8192x128 .bf16) (h5 : a5.IsWhole) (a6 : Memref sig .tc .vmem S1x8192x128 .bf16) (h6 : a6.IsWhole)
    (a7 : Memref sig .tc .vmem S1x2048x128 .bf16) (h7 : a7.IsWhole) (a8 : Memref sig .tc .vmem S8192x256 .bf16) (h8 : a8.IsWhole)
    (a9 : Memref sig .tc .vmem S8192x256 .bf16) (h9 : a9.IsWhole) (a10 : Memref sig .tc .vmem S2048x1024 .f32) (h10 : a10.IsWhole)
    (a11 : Memref sig .tc .vmem S2048x1024 .f32) (h11 : a11.IsWhole) (a12 : Memref sig .tc .vmem S2048x1024 .bf16) (h12 : a12.IsWhole)
    (a13 : Memref sig .tc .vmem S2048x128 .f32) (h13 : a13.IsWhole) (a14 : Memref sig .tc .vmem S2048x256 .f32) (h14 : a14.IsWhole) :

    cc0_forgetting_attention (F := F) i a3 h3 a4 h4 a5 h5 a6 h6 a7 h7 a8 h8 a9 h9 a10 h10 a11 h11 a12 h12 a13 h13 a14 h14
      = body ⟨a3, a4, a5, a6, a7, a8, a9, a10, a11, a12, a13, a14, h7, h8, h9, h12⟩ i := by
  unfold cc0_forgetting_attention k0_part184
  refine (Prog.bind_assoc _ _ _).trans ?_
  refine (bind_left (head_eq ..)).trans ?_
  refine (Prog.bind_assoc _ _ _).trans ?_
  refine bind_congr' rfl (fun qa => ?_)
  refine (pure_bind' _ _).trans ?_
  dsimp only
  refine (Prog.bind_assoc _ _ _).trans ?_
  refine (bind_left (loops_eq ..)).trans ?_
  refine (Prog.bind_assoc _ _ _).trans ?_
  refine bind_congr' rfl (fun u => ?_)
  refine (Prog.bind_assoc _ _ _).trans ?_
  refine bind_congr' rfl (fun u => ?_)
  sl_kernel_rfl

end Cert.FoxIdeal

end
-- ==== Proof.Fox.FrameIdeal.lean ====
/- The attention kernel's launch in ideal arithmetic's program: the tables carried between the grid points of a head, the result's block at every point. -/
module

public import proofs.«01_k».proof.Proof.Fox.Dep
public import proofs.«01_k».proof.Proof.Fox.BodyIdeal
public import proofs.«01_k».proof.Proof.Gen.KernelIdeal.Frame
public import Idealize.ShloMosaic.Lib.Claim

@[expose] public section

noncomputable section

namespace Cert.FoxIdeal.K

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.Fox (Refs Bufs St Same kaT vaT outV tabF bodyF first)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first grid point of the head that point `n` is of. -/
def hd (n : ℕ) : Fin cfg0.N := ⟨n % 64 / 4 * 4, lt_of_lt_of_eq (by omega) N_0.symm⟩

/-- The tables of that head. -/
def kaAt (c : Dev nD) (n : ℕ) : Vec F S8192x256 .bf16 := kaT (iblk m c 1 (hd n)) (iblk m c 3 (hd n)) (broadcast S8192x256 (Scalar.ofBits .bf16 0x0000#16))
def vaAt (c : Dev nD) (n : ℕ) : Vec F S8192x256 .bf16 := vaT (iblk m c 2 (hd n)) (broadcast S8192x256 (Scalar.ofBits .bf16 0x0000#16))

theorem hd_of (t : Fin cfg0.N) (h : t.val % 4 = 0) : hd t.val = t := by
  have := lt_of_lt_of_eq t.isLt N_0
  exact Fin.ext (by show t.val % 64 / 4 * 4 = t.val; omega)

theorem hd_succ (n : ℕ) (hn : n < 64) (h : (n + 1) % 4 ≠ 0) : hd (n + 1) = hd n :=
  Fin.ext (by show (n + 1) % 64 / 4 * 4 = n % 64 / 4 * 4; omega)

theorem first_iff : ∀ t : Fin cfg0.N, first (grid0.coords t) = 1#1 ↔ t.val % 4 = 0 :=
  (by decide +kernel : ∀ t : Fin grid0.N, first (grid0.coords t) = 1#1 ↔ t.val % 4 = 0)

/-- The result's block at point `t`. -/
def outAt (c : Dev nD) (t : Fin cfg0.N) : Vec F S1x2048x128 .bf16 := outV (grid0.coords t) (iblk m c 0 t) (kaAt m c t.val) (vaAt m c t.val)

/-- Before point `n`: the scratch buffers at some contents, the tables at the head's unless the point is a head's first. -/
def PhiS (c : Dev nD) (n : ℕ) : sProp 𝕄 :=
  iprop(∃ ka va s0 s1 p mm acc, ⌜n % 4 ≠ 0 → ka = kaAt m c n ∧ va = vaAt m c n⌝
    ∗ owns (c : Thread nD τ) (Memref.whole cc0_scratch0) fullShare ka
    ∗ owns (c : Thread nD τ) (Memref.whole cc0_scratch1) fullShare va
    ∗ owns (c : Thread nD τ) (Memref.whole cc0_scratch2) fullShare s0
    ∗ owns (c : Thread nD τ) (Memref.whole cc0_scratch3) fullShare s1
    ∗ owns (c : Thread nD τ) (Memref.whole cc0_scratch4) fullShare p
    ∗ owns (c : Thread nD τ) (Memref.whole cc0_scratch5) fullShare mm
    ∗ owns (c : Thread nD τ) (Memref.whole cc0_scratch6) fullShare acc
    ∗ (∃ r, prngReg c r))

theorem PhiA0_eq (c : Dev nD) :
    (Pipeline.ΦA spec0 c : sProp 𝕄)
      = iprop(((∃ d, owns (c : Thread nD τ) (Memref.whole cc0_scratch0) fullShare d)
        ∗ (∃ d, owns (c : Thread nD τ) (Memref.whole cc0_scratch1) fullShare d)
        ∗ (∃ d, owns (c : Thread nD τ) (Memref.whole cc0_scratch2) fullShare d)
        ∗ (∃ d, owns (c : Thread nD τ) (Memref.whole cc0_scratch3) fullShare d)
        ∗ (∃ d, owns (c : Thread nD τ) (Memref.whole cc0_scratch4) fullShare d)
        ∗ (∃ d, owns (c : Thread nD τ) (Memref.whole cc0_scratch5) fullShare d)
        ∗ (∃ d, owns (c : Thread nD τ) (Memref.whole cc0_scratch6) fullShare d)) ∗ (∃ r, prngReg c r)) := by
  unfold Pipeline.ΦA; rw [scopedRest0_eq]; simp only [owns_whole]; try rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The buffers at point `t`. -/
def refs (t : Fin cfg0.N) : Refs sig :=
  ⟨st0_0 t, st0_1 t, st0_2 t, st0_3 t, st0_4 t, Memref.whole cc0_scratch0, Memref.whole cc0_scratch1, Memref.whole cc0_scratch2, Memref.whole cc0_scratch3,
    Memref.whole cc0_scratch4, Memref.whole cc0_scratch5, Memref.whole cc0_scratch6, hstage0_4 ((cfg0.slots t 4).cast nbuf0_4), Memref.isWhole_whole _,
    Memref.isWhole_whole _, Memref.isWhole_whole _⟩

theorem bodyAt_eq (t : Fin cfg0.N) : bodyAt0 (F := F) t = Cert.Fox.body (refs t) (grid0.coords t) := Cert.FoxIdeal.body_eq ..

/-- The tables after the branch are the head's. -/
theorem tab_eq (c : Dev nD) (t : Fin cfg0.N) (x : Bufs F) (hk : x.k = iblk m c 1 t) (hv : x.v = iblk m c 2 t) (hc : x.c3 = iblk m c 3 t)
    (h : t.val % 4 ≠ 0 → x.ka = kaAt m c t.val ∧ x.va = vaAt m c t.val) :
    (tabF (grid0.coords t) x).ka = kaAt m c t.val ∧ (tabF (grid0.coords t) x).va = vaAt m c t.val := by
  unfold tabF
  by_cases h0 : t.val % 4 = 0
  · rw [if_pos ((first_iff t).mpr h0)]
    constructor
    · show kaT x.k x.c3 x.ka = _
      unfold kaAt
      rw [hd_of t h0, hk, hc]
      exact Cert.Fox.halves _ _ _ _
    · show vaT x.v x.va = _
      unfold vaAt
      rw [hd_of t h0, hv]
      exact Cert.Fox.halves _ _ _ _
  · rw [if_neg (fun hh => h0 ((first_iff t).mp hh))]
    exact h h0

theorem tab_next (c : Dev nD) (t : Fin cfg0.N) (h : (t.val + 1) % 4 ≠ 0) : kaAt m c (t.val + 1) = kaAt m c t.val ∧ vaAt m c (t.val + 1) = vaAt m c t.val := by
  have := lt_of_lt_of_eq t.isLt N_0
  unfold kaAt vaAt
  rw [hd_succ t.val this h]
  exact ⟨rfl, rfl⟩

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  rw [bodyAt_eq]
  unfold bodyPre bodyPost
  simp only [before0_0, before0_1, before0_2, before0_3]
  rw [show (dats m 0 c).owesAt () t.succ = (dats m 0 c).owesAt () t.castSucc from rfl, after0_0, after0_1, after0_2, after0_3, after0_4,
    show (dats m 0 c).Φ t.succ = PhiS m c (t.val + 1) from rfl, show (dats m 0 c).Φ t.castSucc = PhiS m c t.val from rfl]
  unfold PhiS
  iintro ⟨⟨%ka, %va, %s0, %s1, %p, %mm, %acc, %hT, Hka, Hva, Hs0, Hs1, Hp, Hm, Hacc, Hg⟩, Ho, ⟨%d0, H0⟩, ⟨%d1, H1⟩, ⟨%d2, H2⟩, ⟨%d3, H3⟩, ⟨%d4, H4⟩⟩
  have hx := tab_eq m c t ⟨iblk m c 0 t, iblk m c 1 t, iblk m c 2 t, iblk m c 3 t, (dats m 0 c).before 4 t d4, ka, va, s0, s1, p, mm, acc⟩ rfl rfl rfl hT
  have hs := Cert.Fox.bodyF_same (grid0.coords t) ⟨iblk m c 0 t, iblk m c 1 t, iblk m c 2 t, iblk m c 3 t, (dats m 0 c).before 4 t d4, ka, va, s0, s1, p, mm, acc⟩
  have ho := Cert.Fox.bodyF_out (grid0.coords t) ⟨iblk m c 0 t, iblk m c 1 t, iblk m c 2 t, iblk m c 3 t, (dats m 0 c).before 4 t d4, ka, va, s0, s1, p, mm, acc⟩
  have hsp := Cert.Fox.body_spec (defs := defs₀ (F := F)) (𝒱 := Variants.none) (c := c) (A := refs t) (grid0.coords t)
    ⟨iblk m c 0 t, iblk m c 1 t, iblk m c 2 t, iblk m c 3 t, (dats m 0 c).before 4 t d4, ka, va, s0, s1, p, mm, acc⟩
  have hin : Same (tabF (grid0.coords t) ⟨iblk m c 0 t, iblk m c 1 t, iblk m c 2 t, iblk m c 3 t, (dats m 0 c).before 4 t d4, ka, va, s0, s1, p, mm, acc⟩)
      ⟨iblk m c 0 t, iblk m c 1 t, iblk m c 2 t, iblk m c 3 t, (dats m 0 c).before 4 t d4, kaAt m c t.val, vaAt m c t.val, s0, s1, p, mm, acc⟩ := by
    refine ⟨?_, ?_, ?_, ?_, hx.1, hx.2⟩ <;> (unfold tabF; split <;> rfl)
  generalize bodyF (grid0.coords t) ⟨iblk m c 0 t, iblk m c 1 t, iblk m c 2 t, iblk m c 3 t, (dats m 0 c).before 4 t d4, ka, va, s0, s1, p, mm, acc⟩ = y at hs ho hsp
  rw [hx.1, hx.2] at ho
  iapply (hsp _)
  isplitl [Hka Hva Hs0 Hs1 Hp Hm Hacc H0 H1 H2 H3 H4]
  · unfold St refs
    dsimp only
    isplitl [H0]; · iexact H0
    isplitl [H1]; · iexact H1
    isplitl [H2]; · iexact H2
    isplitl [H3]; · iexact H3
    isplitl [H4]; · iexact H4
    isplitl [Hka]; · iexact Hka
    isplitl [Hva]; · iexact Hva
    isplitl [Hs0]; · iexact Hs0
    isplitl [Hs1]; · iexact Hs1
    isplitl [Hp]; · iexact Hp
    isplitl [Hm]; · iexact Hm
    iexact Hacc
  · unfold St refs
    dsimp only
    rw [hs.q, hs.k, hs.v, hs.c3, hs.ka, hs.va, hin.q, hin.k, hin.v, hin.c3, hin.ka, hin.va, ho]
    iintro ⟨H0, H1, H2, H3, H4, Hka, Hva, Hs0, Hs1, Hp, Hm, Hacc⟩
    isplitl [Hka Hva Hs0 Hs1 Hp Hm Hacc Hg]
    · iexists (kaAt m c t.val), (vaAt m c t.val), y.s0, y.s1, y.p, y.m, y.acc
      isplitr
      · ipureintro
        intro h
        exact ⟨(tab_next m c t h).1.symm, (tab_next m c t h).2.symm⟩
      iframe
    · iframe
      iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 from rfl, PhiA0_eq]
  unfold PhiS
  iintro ⟨⟨⟨%ka, Hka⟩, ⟨%va, Hva⟩, ⟨%s0, Hs0⟩, ⟨%s1, Hs1⟩, ⟨%p, Hp⟩, ⟨%mm, Hm⟩, ⟨%acc, Hacc⟩⟩, Hg⟩
  iexists ka, va, s0, s1, p, mm, acc
  isplitr
  · ipureintro
    intro h
    exact absurd rfl h
  iframe

theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS
  iintro ⟨%ka, %va, %s0, %s1, %p, %mm, %acc, -, Hka, Hva, Hs0, Hs1, Hp, Hm, Hacc, Hg⟩
  isplitr [Hg]
  · isplitl [Hka]; · iexists ka; iexact Hka
    isplitl [Hva]; · iexists va; iexact Hva
    isplitl [Hs0]; · iexists s0; iexact Hs0
    isplitl [Hs1]; · iexists s1; iexact Hs1
    isplitl [Hp]; · iexists p; iexact Hp
    isplitl [Hm]; · iexists mm; iexact Hm
    iexists acc; iexact Hacc
  · iexact Hg

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The frame: every execution ends, the arguments unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.FoxIdeal.K

end
-- ==== Proof.Fox.Softmax.lean ====
/- A row of the attention over the reals: the softmax taken block by block in base two, the row's maximum and sums
   rescaled at every block, is the softmax of the whole row. -/
module

public import Idealize.ShloMosaic.PureOps.Ideal
public import Mathlib.Analysis.SpecialFunctions.Pow.Real

@[expose] public section

noncomputable section

namespace Cert.Fox

open Idealize.ShloMosaic

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over the positions of a block of which only the first `w` count. -/
theorem sum_prefix {n w : ℕ} (hw : w ≤ n) (g : ℕ → ℝ) : (∑ k : Fin n, if k.val < w then g k.val else 0) = ∑ k ∈ Finset.range w, g k := by
  rw [Fin.sum_univ_eq_sum_range (fun k => if k < w then g k else 0) n, ← Finset.sum_filter]
  congr 1
  ext k
  simp only [Finset.mem_filter, Finset.mem_range]
  omega

/-- Weights of two to the logits, in one column of the values. -/
def wsum (L : ℕ → ℝ) (V : ℕ → ℝ) (N : ℕ) (μ : ℝ) : ℝ := ∑ s ∈ Finset.range N, (2 : ℝ) ^ (L s - μ) * V s

theorem wsum_shift (L V : ℕ → ℝ) (N : ℕ) (μ μ' : ℝ) : (2 : ℝ) ^ (μ - μ') * wsum L V N μ = wsum L V N μ' := by
  unfold wsum
  rw [Finset.mul_sum]
  refine Finset.sum_congr rfl fun s _ => ?_
  rw [← mul_assoc, ← Real.rpow_add (by norm_num)]
  congr 2
  ring

theorem wsum_pos (L : ℕ → ℝ) (N : ℕ) (hN : 0 < N) (μ : ℝ) : 0 < wsum L (fun _ => 1) N μ :=
  Finset.sum_pos (fun s _ => by rw [mul_one]; exact Real.rpow_pos_of_pos (by norm_num) _) ⟨0, Finset.mem_range.mpr hN⟩

/-- The softmax of the first `N` logits, in base two, against a column of the values. -/
def soft (L V : ℕ → ℝ) (N : ℕ) : ℝ := wsum L V N 0 / wsum L (fun _ => 1) N 0

theorem soft_eq (L V : ℕ → ℝ) (N : ℕ) (μ : ℝ) : wsum L V N μ / wsum L (fun _ => 1) N μ = soft L V N := by
  unfold soft
  rw [← wsum_shift L V N 0 μ, ← wsum_shift L (fun _ => 1) N 0 μ, mul_div_mul_left]
  exact (Real.rpow_pos_of_pos (by norm_num) _).ne'

/-- A row's maxima and accumulator after its first `N` keys: the start, or the sums against some real. -/
def Rok (L : ℕ → ℝ) (V : ℕ → Fin 256 → ℝ) (N : ℕ) (m : Fin 128 → EReal) (a : Fin 256 → EReal) : Prop :=
  (N = 0 ∧ (∀ y, m y = ⊥) ∧ ∀ d, a d = 0) ∨
    ∃ μ : ℝ, (∀ y, m y = (μ : EReal)) ∧ ∀ d, a d = ((wsum L (fun s => V s d) N μ : ℝ) : EReal)

theorem exp2_sub (x y : ℝ) : Ideal.exp2 ((x : EReal) - (y : EReal)) = (((2 : ℝ) ^ (x - y) : ℝ) : EReal) := by
  rw [← EReal.coe_sub, Ideal.exp2_coe]; rfl

section
variable {n w : ℕ} (s : Fin n → EReal) (g : ℕ → ℝ) (hs : ∀ k, s k = if k.val < w then ((g k.val : ℝ) : EReal) else ⊥)
include hs

theorem fold_ne_top : (Finset.univ.fold max ⊥ s) ≠ ⊤ := by
  refine ne_of_lt ((Finset.fold_max_lt ⊤).mpr ⟨bot_lt_top, fun k _ => ?_⟩)
  rw [hs]; split
  · exact EReal.coe_lt_top _
  · exact bot_lt_top

theorem fold_ne_bot (hn : 0 < n) (hw : 0 < w) : (Finset.univ.fold max ⊥ s) ≠ ⊥ := by
  refine ne_of_gt ((Finset.lt_fold_max ⊥).mpr (.inr ⟨⟨0, hn⟩, Finset.mem_univ _, ?_⟩))
  rw [hs, if_pos hw]
  exact EReal.bot_lt_coe _

/-- The weighted sum of a block. -/
theorem block_sum (hw : w ≤ n) (μ : ℝ) (v : Fin n → EReal) (V : ℕ → ℝ) (hv : ∀ k, v k = ((V k.val : ℝ) : EReal)) :
    ∑ k, Ideal.exp2 (s k - (μ : EReal)) * v k = ((wsum g V w μ : ℝ) : EReal) := by
  unfold wsum
  rw [← sum_prefix hw fun k => (2 : ℝ) ^ (g k - μ) * V k, coe_sum]
  refine Finset.sum_congr rfl fun k _ => ?_
  rw [hs, hv]
  split
  · rw [exp2_sub, ← EReal.coe_mul]
  · rw [EReal.bot_sub, Ideal.exp2_bot, zero_mul, EReal.coe_zero]

end

theorem wsum_append (L V : ℕ → ℝ) (N w : ℕ) (μ : ℝ) : wsum L V (N + w) μ = wsum L V N μ + wsum (fun k => L (N + k)) (fun k => V (N + k)) w μ := by
  unfold wsum
  exact Finset.sum_range_add _ N w

/-- One block of 1024 keys, of which the first `w` are seen. -/
theorem Rok.step {L : ℕ → ℝ} {V : ℕ → Fin 256 → ℝ} {N w : ℕ} {m m' : Fin 128 → EReal} {a a' : Fin 256 → EReal} (h : Rok L V N m a) (hw : 0 < w) (hw' : w ≤ 1024)
    (s : Fin 1024 → EReal) (hs : ∀ k, s k = if k.val < w then ((L (N + k.val) : ℝ) : EReal) else ⊥)
    (v : Fin 1024 → Fin 256 → EReal) (hv : ∀ k d, v k d = ((V (N + k.val) d : ℝ) : EReal))
    (hm : ∀ y, m' y = max (m y) (Finset.univ.fold max ⊥ s))
    (y₁ : Fin 256 → Fin 128) (y₂ : Fin 1024 → Fin 128)
    (ha : ∀ d, a' d = Ideal.exp2 (m (y₁ d) - m' (y₁ d)) * a d + ∑ k, Ideal.exp2 (s k - m' (y₂ k)) * v k d) : Rok L V (N + w) m' a' := by
  have ht := fold_ne_top s (fun k => L (N + k)) hs
  have hb := fold_ne_bot s (fun k => L (N + k)) hs (by decide) hw
  have key : ∀ μ' : ℝ, (∀ y, m' y = (μ' : EReal)) → (∀ d, Ideal.exp2 (m (y₁ d) - (μ' : EReal)) * a d = ((wsum L (fun s => V s d) N μ' : ℝ) : EReal)) → Rok L V (N + w) m' a' := by
    intro μ' h1 h2
    refine .inr ⟨μ', h1, fun d => ?_⟩
    rw [ha, h1, h2, wsum_append, EReal.coe_add]
    congr 1
    refine Eq.trans ?_ (block_sum s (fun k => L (N + k)) hs hw' μ' (fun k => v k d) (fun k => V (N + k) d) (fun k => hv k d))
    exact Finset.sum_congr rfl fun k _ => by rw [h1]
  rcases h with ⟨rfl, h1, h2⟩ | ⟨μ, h1, h2⟩
  · obtain ⟨r, hr⟩ : ∃ r : ℝ, Finset.univ.fold max ⊥ s = (r : EReal) := ⟨_, (EReal.coe_toReal ht hb).symm⟩
    refine key r (fun y => ?_) fun d => ?_
    · rw [hm, h1, hr]; exact max_eq_right bot_le
    · rw [h2, mul_zero]; unfold wsum; rw [Finset.range_zero, Finset.sum_empty, EReal.coe_zero]
  · have hb' : max (μ : EReal) (Finset.univ.fold max ⊥ s) ≠ ⊥ := fun e => EReal.coe_ne_bot μ (eq_bot_iff.mpr (e ▸ le_max_left _ _))
    have ht' : max (μ : EReal) (Finset.univ.fold max ⊥ s) ≠ ⊤ := ne_of_lt (max_lt (EReal.coe_lt_top _) (lt_top_iff_ne_top.mpr ht))
    obtain ⟨r, hr⟩ : ∃ r : ℝ, max (μ : EReal) (Finset.univ.fold max ⊥ s) = (r : EReal) := ⟨_, (EReal.coe_toReal ht' hb').symm⟩
    refine key r (fun y => ?_) fun d => ?_
    · rw [hm, h1, hr]
    · rw [h2, h1, exp2_sub, ← EReal.coe_mul, wsum_shift]

/-- The row's result. -/
theorem Rok.out {L : ℕ → ℝ} {V : ℕ → Fin 256 → ℝ} {N : ℕ} {m : Fin 128 → EReal} {a : Fin 256 → EReal} (h : Rok L V N m a) (hN : 0 < N)
    (e : Fin 256) (h1 : ∀ s, V s e = 1) (d : Fin 256) : a d * Ideal.div 1 (a e) = ((soft L (fun s => V s d) N : ℝ) : EReal) := by
  rcases h with ⟨rfl, _⟩ | ⟨μ, -, h2⟩
  · exact absurd hN (lt_irrefl 0)
  · have e1 : (fun s => V s e) = fun _ => 1 := funext h1
    have hp := wsum_pos L N hN μ
    rw [h2, h2, e1, Ideal.div_coe hp.ne', one_mul, ← EReal.coe_mul, mul_one_div, soft_eq]

/-- The whole row's softmax, in base e, shifted by any real. -/
theorem soft_row {n N : ℕ} (hN : 0 < N) (hn : N ≤ n) (L V : ℕ → ℝ) (e : ℝ) (sc : Fin n → EReal)
    (hs : ∀ k, sc k = if k.val < N then (((L k.val - e) * Real.log 2 : ℝ) : EReal) else ⊥) (v : Fin n → EReal) (hv : ∀ k, v k = ((V k.val : ℝ) : EReal)) :
    ∑ k, Ideal.div (Ideal.exp (sc k - max ⊥ (Finset.univ.fold max ⊥ sc))) (0 + ∑ j, Ideal.exp (sc j - max ⊥ (Finset.univ.fold max ⊥ sc))) * v k
      = ((soft L V N : ℝ) : EReal) := by
  have ht := fold_ne_top sc (fun k => (L k - e) * Real.log 2) hs
  have hb := fold_ne_bot sc (fun k => (L k - e) * Real.log 2) hs (lt_of_lt_of_le hN hn) hN
  obtain ⟨M, hM⟩ : ∃ r : ℝ, Finset.univ.fold max ⊥ sc = (r : EReal) := ⟨_, (EReal.coe_toReal ht hb).symm⟩
  rw [hM, max_eq_right bot_le]
  have hx : ∀ k : Fin n, Ideal.exp (sc k - (M : EReal)) = (((if k.val < N then (2 : ℝ) ^ (L k.val - (e + M / Real.log 2)) else 0) : ℝ) : EReal) := by
    intro k
    rw [hs]
    split
    · rw [← EReal.coe_sub, Ideal.exp_coe, Real.rpow_def_of_pos (by norm_num : (0 : ℝ) < 2)]
      congr 2
      have : Real.log 2 ≠ 0 := (Real.log_pos (by norm_num)).ne'
      field_simp
      ring
    · rw [EReal.bot_sub, Ideal.exp_bot, EReal.coe_zero]
  generalize e + M / Real.log 2 = μ at hx
  have hz : (0 : EReal) + ∑ j, Ideal.exp (sc j - (M : EReal)) = ((wsum L (fun _ => 1) N μ : ℝ) : EReal) := by
    rw [zero_add, Finset.sum_congr rfl fun j _ => hx j, ← coe_sum, sum_prefix hn fun k => (2 : ℝ) ^ (L k - μ)]
    unfold wsum; simp only [mul_one]
  have hp := wsum_pos L N hN μ
  rw [hz, ← soft_eq L V N μ]
  generalize wsum L (fun _ => 1) N μ = z at hp
  unfold wsum
  rw [← sum_prefix hn fun k => (2 : ℝ) ^ (L k - μ) * V k, div_eq_mul_one_div, Finset.sum_mul, coe_sum]
  refine Finset.sum_congr rfl fun k _ => ?_
  rw [Ideal.div_coe hp.ne', hx, hv, ← EReal.coe_mul, ← EReal.coe_mul]
  congr 1
  split
  · ring
  · ring

end Cert.Fox

end
-- ==== Proof.Fox.Rows.lean ====
/- The attention kernel's operations over the reals, read at an index. -/
module

public import proofs.«01_k».proof.Proof.Fox.Dep
public import proofs.«01_k».proof.Proof.Fox.Softmax
public import Idealize.ShloMosaic.PureOps.Ideal.Laws
public import Idealize.ShloMosaic.Lib.Pointwise
public import Idealize.ShloMosaic.Lib.ValueIdx
public import Idealize.ShloMosaic.Lib.WordCmp

@[expose] public section

set_option maxRecDepth 16384

noncomputable section

namespace Cert.Fox

open Idealize.ShloMosaic Idealize.ShloMosaic.TcCoe
open Cert.Kernel (S1x2048x128 S1x8192x128 S8192x256 S8192x128 S2048x1024 S2048x128 S2048x256 S128x1024 S128x128 S128 S128x1
  S1024x256 S1024x1024 S2048x1)
open Cert.Kernel.Facts₀ Cert.Kernel.Facts
open VecWindow (window put)

theorem negInf_eq : Ideal.ofBits .f32 0xFF800000#32 = ⊥ := by simp [Ideal.ofBits, Ideal.ieee]

theorem lg_at (qa : Vec Ideal S2048x256 .bf16) (k : Vec Ideal S1024x256 .bf16) (r : Fin 2048) (c : Fin 1024) :
    lg qa k (ix2 r c) = ∑ j : Fin 256, qa (ix2 r j) * k (ix2 c j) := by
  pointwise [lg]

theorem lgHi_at (qa : Vec Ideal S2048x256 .bf16) (k : Vec Ideal S1024x256 .bf16) (r : Fin 1024) (c : Fin 1024) :
    lgHi qa k (ix2 r c) = ∑ j : Fin 256, qa (ix2 ⟨1024 + r.val, by omega⟩ j) * k (ix2 c j) := by
  pointwise [lgHi]

theorem pv_at (a : Vec Ideal S2048x256 .f32) (p : Vec Ideal S2048x1024 .bf16) (v : Vec Ideal S1024x256 .bf16) (r : Fin 2048) (d : Fin 256) :
    pv a p v (ix2 r d) = a (ix2 r d) + ∑ k : Fin 1024, p (ix2 r k) * v (ix2 k d) := by
  pointwise [pv]

theorem mx_at (s : Vec Ideal S128x1024 .f32) (m : Vec Ideal S128x128 .f32) (r c : Fin 128) :
    mx s m (ix2 r c) = max (m (ix2 r c)) (Finset.univ.fold max ⊥ fun k : Fin 1024 => s (ix2 r k)) := by
  pointwise [mx]
  rw [negInf_eq]

theorem pc_at (s : Vec Ideal S128x1024 .f32) (mn : Vec Ideal S128x128 .f32) (C : ℕ) (hC : C + 128 ≤ 1024) (r c : Fin 128) :
    pc s mn C hC (ix2 r c) = Ideal.exp2 (s (ix2 r ⟨C + c.val, by omega⟩) - mn (ix2 r c)) := by
  pointwise [pc]
  rfl

theorem mask_at (R C : ℕ) (hR : R + 128 ≤ 2048) (hC : C ≤ 1024) (s : Vec Ideal S128x1024 .f32) (r : Fin 128) (c : Fin 1024) :
    mask R C s (ix2 r c) = if C + c.val ≤ R + r.val then s (ix2 r c) else ⊥ := by
  pointwise [mask]
  rw [negInf_eq]
  have e1 : IntOp.addi (BitVec.ofNat 32 c.val) (BitVec.ofNat 32 C) = BitVec.ofNat 32 (C + c.val) := by
    show BitVec.ofNat 32 c.val + BitVec.ofNat 32 C = _
    rw [← BitVec.ofNat_add, add_comm]
  have e2 : IntOp.addi (BitVec.ofNat 32 r.val) (BitVec.ofNat 32 R) = BitVec.ofNat 32 (R + r.val) := by
    show BitVec.ofNat 32 r.val + BitVec.ofNat 32 R = _
    rw [← BitVec.ofNat_add, add_comm]
  rw [e1, e2, WordCmp.cmpi_sle_ofNat (by omega) (by omega), Scalar.select_ofBool]
  simp only [decide_eq_true_eq]

theorem outOf_at (a : Vec Ideal S2048x256 .f32) (r : Fin 2048) (d : Fin 128) :
    outOf a (ix3 0 r d) = a (ix2 r ⟨d.val, by omega⟩) * Ideal.div 1 (a (ix2 r ⟨128, by decide⟩)) := by
  pointwise [outOf]

/-- A bit widened and read as a number. -/
theorem bit_at (p : Prop) [Decidable p] : (((BitVec.setWidth 32 (BitVec.ofBool (decide p))).toInt : ℝ) : EReal) = if p then 1 else 0 := by
  by_cases h : p
  · rw [if_pos h, decide_eq_true h]; exact congrArg (fun x : ℝ => (x : EReal)) (by norm_num : (((1 : ℤ) : ℝ)) = 1)
  · rw [if_neg h, decide_eq_false h]; exact congrArg (fun x : ℝ => (x : EReal)) (by norm_num : (((0 : ℤ) : ℝ)) = 0)

theorem ones_at (s : Fin 8192) (c : Fin 128) : (ones (F := Ideal)) (ix2 s c) = if c.val = 0 then 1 else 0 := by
  pointwise [ones]
  rw [WordCmp.cmpi_eq_ofNat (w := 32) (a := c.val) (b := 0) (by omega) (by omega)]
  exact bit_at _

theorem qaug_lo (i : Cert.Kernel.grid0.Coords) (q : Vec Ideal S1x2048x128 .bf16) (r : Fin 2048) (c : Fin 128) :
    qaug i q (ix2 r ⟨c.val, by omega⟩) = q (ix3 0 r c) := by
  pointwise [qaug]

theorem qaug_hi (i : Cert.Kernel.grid0.Coords) (q : Vec Ideal S1x2048x128 .bf16) (r : Fin 2048) (c : Fin 128) :
    qaug i q (ix2 r ⟨128 + c.val, by omega⟩) = if c.val = (i 1).val ∨ c.val = (i 1).val + 8 ∨ c.val = (i 1).val + 16 then 1 else 0 := by
  have hi : (i 1).val < 8 := (i 1).isLt
  pointwise [qaug]
  generalize (i 1).val = h at hi
  have e1 : Scalar.addi (BitVec.ofNat 32 h) 8#32 = BitVec.ofNat 32 (h + 8) := (BitVec.ofNat_add ..).symm
  have e2 : Scalar.addi (BitVec.ofNat 32 h) 16#32 = BitVec.ofNat 32 (h + 16) := (BitVec.ofNat_add ..).symm
  rw [e1, e2, WordCmp.cmpi_eq_ofNat (by omega) (by omega), WordCmp.cmpi_eq_ofNat (by omega) (by omega), WordCmp.cmpi_eq_ofNat (by omega) (by omega)]
  have e3 : IntOp.ori (IntOp.ori (BitVec.ofBool (decide (c.val = h))) (BitVec.ofBool (decide (c.val = h + 8)))) (BitVec.ofBool (decide (c.val = h + 16)))
      = BitVec.ofBool (decide (c.val = h ∨ c.val = h + 8 ∨ c.val = h + 16)) := by
    by_cases h1 : c.val = h <;> by_cases h2 : c.val = h + 8 <;> by_cases h3 : c.val = h + 16 <;> simp only [h1, h2, h3] <;> simp <;> decide
  rw [e3]
  exact bit_at _

/-! ## Windows -/

theorem window_at {s₀ s₁ w₀ w₁ : ℕ} {α : Type} (x : (⟨2, ![s₀, s₁]⟩ : Shape).Idx → α) (R C : ℕ)
    (inb : ∀ a, (![R, C] : Fin 2 → ℕ) a + (![w₀, w₁] : Fin 2 → ℕ) a ≤ (⟨2, ![s₀, s₁]⟩ : Shape).size a) (r : Fin w₀) (c : Fin w₁) :
    window x ![R, C] ![w₀, w₁] inb (ix2 r c) = x (ix2 ⟨R + r.val, lt_of_lt_of_le (Nat.add_lt_add_left r.isLt R) (inb 0)⟩ ⟨C + c.val, lt_of_lt_of_le (Nat.add_lt_add_left c.isLt C) (inb 1)⟩) := by
  show x _ = x _
  congr 1
  funext a
  match a with
  | 0 => exact Fin.ext (by show R + 1 * r.val = R + r.val; omega)
  | 1 => exact Fin.ext (by show C + 1 * c.val = C + c.val; omega)

theorem put_in {s₀ s₁ w₀ w₁ : ℕ} {α : Type} (x : (⟨2, ![s₀, s₁]⟩ : Shape).Idx → α) (R C : ℕ) (w : (⟨2, ![w₀, w₁]⟩ : Shape).Idx → α)
    (r : Fin w₀) (c : Fin w₁) (r' : Fin s₀) (c' : Fin s₁) (hr : r'.val = R + r.val) (hc : c'.val = C + c.val) : put x ![R, C] ![w₀, w₁] w (ix2 r' c') = w (ix2 r c) := by
  have h : ∀ a : Fin 2, (![R, C] : Fin 2 → ℕ) a ≤ ((ix2 r' c' : (⟨2, ![s₀, s₁]⟩ : Shape).Idx) a).val ∧ ((ix2 r' c' : (⟨2, ![s₀, s₁]⟩ : Shape).Idx) a).val < (![R, C] : Fin 2 → ℕ) a + (![w₀, w₁] : Fin 2 → ℕ) a :=
    Fin.forall_fin_two.mpr ⟨⟨by show R ≤ r'.val; omega, by show r'.val < R + w₀; omega⟩, ⟨by show C ≤ c'.val; omega, by show c'.val < C + w₁; omega⟩⟩
  unfold put
  rw [dif_pos h]
  congr 1
  funext a
  match a with
  | 0 => exact Fin.ext (by show r'.val - R = r.val; omega)
  | 1 => exact Fin.ext (by show c'.val - C = c.val; omega)

theorem put_out {s₀ s₁ w₀ w₁ : ℕ} {α : Type} (x : (⟨2, ![s₀, s₁]⟩ : Shape).Idx → α) (R C : ℕ) (w : (⟨2, ![w₀, w₁]⟩ : Shape).Idx → α)
    (r' : Fin s₀) (c' : Fin s₁) (h' : r'.val < R ∨ c'.val < C ∨ C + w₁ ≤ c'.val) : put x ![R, C] ![w₀, w₁] w (ix2 r' c') = x (ix2 r' c') := by
  have h : ¬∀ a : Fin 2, (![R, C] : Fin 2 → ℕ) a ≤ ((ix2 r' c' : (⟨2, ![s₀, s₁]⟩ : Shape).Idx) a).val ∧ ((ix2 r' c' : (⟨2, ![s₀, s₁]⟩ : Shape).Idx) a).val < (![R, C] : Fin 2 → ℕ) a + (![w₀, w₁] : Fin 2 → ℕ) a := by
    intro h
    have h0 : R ≤ r'.val ∧ r'.val < R + w₀ := h 0
    have h1 : C ≤ c'.val ∧ c'.val < C + w₁ := h 1
    omega
  unfold put
  rw [dif_neg h]

theorem kb_at (t : Vec Ideal S8192x256 .bf16) (n : ℕ) (hn : n < 8) (k : Fin 1024) (j : Fin 256) :
    kb t n (ix2 k j) = t (ix2 ⟨1024 * n + k.val, by omega⟩ j) := by
  unfold kb
  refine (window_at t _ 0 _ k j).trans ?_
  congr 1
  funext a
  match a with
  | 0 => exact Fin.ext (by show 1024 * (n % 8) + k.val = 1024 * n + k.val; rw [Nat.mod_eq_of_lt hn])
  | 1 => exact Fin.ext (by show 0 + j.val = j.val; omega)

/-! ## An update -/

/-- A mask leaves the first `w` of each row's columns. -/
def Sees (mk : Mask Ideal) (w : ℕ → ℕ) : Prop := ∀ (s : Vec Ideal S128x1024 .f32) (R : ℕ), R + 128 ≤ 2048 → R % 128 = 0 → ∀ (r : Fin 128) (c : Fin 1024),
  mk R s (ix2 r c) = if c.val < w (R + r.val) then s (ix2 r c) else ⊥

theorem sees_noMask : Sees noMask fun _ => 1024 := fun s R hR h2 r c => (if_pos c.isLt).symm

theorem sees_mask0 : Sees mask0 fun r => if r < 1024 then r + 1 else 1024 := fun s R hR h2 r c => by
  unfold mask0
  beta_reduce
  by_cases h : R < 1024
  · rw [if_pos h, mask_at R 0 hR (by omega), if_pos (show R + r.val < 1024 by omega)]
    exact if_congr (by omega) rfl rfl
  · rw [if_neg h]
    exact (if_pos (by rw [if_neg (by omega)]; exact c.isLt)).symm

theorem sees_mask1 : Sees mask1 fun r => r + 1 - 1024 := fun s R hR h2 r c => by
  unfold mask1
  beta_reduce
  rw [mask_at R 1024 hR (by omega)]
  exact if_congr (by omega) rfl rfl

section
variable {mk : Mask Ideal} {w : ℕ → ℕ} (hm : Sees mk w) (s : Vec Ideal S2048x1024 .f32) (m : Vec Ideal S2048x128 .f32) (a : Vec Ideal S2048x256 .f32) (r : Fin 2048)

/-- A row of logits, masked. -/
def row (w : ℕ → ℕ) (s : Vec Ideal S2048x1024 .f32) (r : Fin 2048) (k : Fin 1024) : EReal := if k.val < w r.val then s (ix2 r k) else ⊥

include hm

theorem rowsS_at (R : ℕ) (hR : R + 128 ≤ 2048) (h2 : R % 128 = 0) (r' : Fin 128) (hr : r.val = R + r'.val) (k : Fin 1024) :
    rowsS mk s R hR (ix2 r' k) = row w s r k := by
  unfold rowsS row
  rw [hm _ R hR h2, hr]
  refine if_congr Iff.rfl ?_ rfl
  refine (window_at s R 0 _ r' k).trans ?_
  congr 1
  funext a
  match a with
  | 0 => exact Fin.ext hr.symm
  | 1 => exact Fin.ext (by show 0 + k.val = k.val; omega)

omit hm in
theorem rowsM_at (R : ℕ) (hR : R + 128 ≤ 2048) (r' : Fin 128) (hr : r.val = R + r'.val) (y : Fin 128) : rowsM m R hR (ix2 r' y) = m (ix2 r y) := by
  unfold rowsM
  refine (window_at m R 0 _ r' y).trans ?_
  congr 1
  funext a
  match a with
  | 0 => exact Fin.ext hr.symm
  | 1 => exact Fin.ext (by show 0 + y.val = y.val; omega)

theorem gM_at (R : ℕ) (hR : R + 128 ≤ 2048) (h2 : R % 128 = 0) (r' : Fin 128) (hr : r.val = R + r'.val) (y : Fin 128) :
    gM mk s m R hR (ix2 r' y) = max (m (ix2 r y)) (Finset.univ.fold max ⊥ (row w s r)) := by
  unfold gM
  rw [mx_at, rowsM_at m r R hR r' hr, show (fun k => rowsS mk s R hR (ix2 r' k)) = row w s r from funext fun k => rowsS_at hm s r R hR h2 r' hr k]

theorem upM_at (y : Fin 128) : upM mk s m (ix2 r y) = max (m (ix2 r y)) (Finset.univ.fold max ⊥ (row w s r)) := by
  unfold upM asm
  refine gM_at hm s m r _ _ (by show r.val / 128 * 128 % 128 = 0; omega) _ (by show r.val = r.val / 128 * 128 + r.val % 128; omega) _ |>.trans ?_
  congr 3
  exact Fin.ext (by show y.val % 128 = y.val; omega)

theorem upP_at (k : Fin 1024) : upP mk s m (ix2 r k) = Ideal.exp2 (row w s r k - upM mk s m (ix2 r ⟨k.val % 128, by omega⟩)) := by
  unfold upP asm gP
  beta_reduce
  rw [pc_at, rowsS_at hm s r _ _ (by show r.val / 128 * 128 % 128 = 0; omega) _ (by show r.val = r.val / 128 * 128 + r.val % 128; omega),
    gM_at hm s m r _ _ (by show r.val / 128 * 128 % 128 = 0; omega) _ (by show r.val = r.val / 128 * 128 + r.val % 128; omega), upM_at hm]
  congr 2
  refine congrArg (row w s r) (Fin.ext ?_)
  show k.val / 128 * 128 + k.val % 128 = k.val
  omega

theorem upA_at (d : Fin 256) : upA mk s m a (ix2 r d)
    = Ideal.exp2 (m (ix2 r ⟨d.val % 128, by omega⟩) - upM mk s m (ix2 r ⟨d.val % 128, by omega⟩)) * a (ix2 r d) := by
  have e : ∀ (R : ℕ) (hR : R + 128 ≤ 2048) (C : ℕ) (hC : C + 128 ≤ 256) (r' c' : Fin 128), gA mk s m a R hR C hC (ix2 r' c')
      = Ideal.exp2 (rowsM m R hR (ix2 r' c') - gM mk s m R hR (ix2 r' c')) * window a ![R, C] S128x128.size (inbA hR hC) (ix2 r' c') := fun _ _ _ _ _ _ => rfl
  unfold upA asm
  beta_reduce
  rw [e, rowsM_at m r _ _ _ (by show r.val = r.val / 128 * 128 + r.val % 128; omega),
    gM_at hm s m r _ _ (by show r.val / 128 * 128 % 128 = 0; omega) _ (by show r.val = r.val / 128 * 128 + r.val % 128; omega), upM_at hm]
  refine congrArg₂ (· * ·) rfl ((window_at a _ _ _ _ _).trans ?_)
  congr 1
  funext b
  match b with
  | 0 => exact Fin.ext (by show r.val / 128 * 128 + r.val % 128 = r.val; omega)
  | 1 => exact Fin.ext (by show d.val / 128 * 128 + d.val % 128 = d.val; omega)

end

end Cert.Fox

end
-- ==== Proof.Fox.Attend.lean ====
/- The attention kernel's result at a grid point, over the reals: each row is the softmax of its logits against the values. -/
module

public import proofs.«01_k».proof.Proof.Fox.Rows

@[expose] public section

set_option maxRecDepth 16384

noncomputable section

namespace Cert.Fox

open Idealize.ShloMosaic Idealize.ShloMosaic.TcCoe
open Cert.Kernel (S1x2048x128 S1x8192x128 S8192x256 S8192x128 S2048x1024 S2048x128 S2048x256 S128x1024 S128x128 S128 S128x1
  S1024x256 S1024x1024 S2048x1 dot_S1024x1024_S1024x256_S1024x256_1_0_0_1_n_n)
open Cert.Kernel.Facts₀ Cert.Kernel.Facts
open VecWindow (window put)

/-! ## The blocks of keys -/

/-- A row's state: its maxima and accumulator stand for its first `N` keys. -/
def At (L : ℕ → ℝ) (V : ℕ → Fin 256 → ℝ) (r : Fin 2048) (N : ℕ) (x : Vec Ideal S2048x128 .f32 × Vec Ideal S2048x256 .f32) : Prop :=
  Rok L V N (fun y => x.1 (ix2 r y)) (fun d => x.2 (ix2 r d))

theorem upd_at {L : ℕ → ℝ} {V : ℕ → Fin 256 → ℝ} {r : Fin 2048} {N : ℕ} {mk : Mask Ideal} {w : ℕ → ℕ} (hm : Sees mk w)
    (s : Vec Ideal S2048x1024 .f32) (v : Vec Ideal S1024x256 .bf16) (x : Vec Ideal S2048x128 .f32 × Vec Ideal S2048x256 .f32) (h : At L V r N x)
    (hw : 0 < w r.val) (hw' : w r.val ≤ 1024) (hs : ∀ k : Fin 1024, s (ix2 r k) = ((L (N + k.val) : ℝ) : EReal))
    (hv : ∀ (k : Fin 1024) d, v (ix2 k d) = ((V (N + k.val) d : ℝ) : EReal)) : At L V r (N + w r.val) (upd mk s v x) := by
  refine Rok.step h hw hw' (row w s r) (fun k => ?_) (fun k d => v (ix2 k d)) hv (fun y => upM_at hm s x.1 r y)
    (fun d => ⟨d.val % 128, Nat.mod_lt _ (by decide)⟩) (fun k => ⟨k.val % 128, Nat.mod_lt _ (by decide)⟩) (fun d => ?_)
  · unfold row; rw [hs]
  · show pv (upA mk s x.1 x.2) (upP mk s x.1) v (ix2 r d) = _
    rw [pv_at, upA_at hm]
    refine congrArg₂ (· + ·) rfl (Finset.sum_congr rfl fun k _ => ?_)
    rw [upP_at hm]
    rfl

section
variable {L : ℕ → ℝ} {V : ℕ → Fin 256 → ℝ} {r : Fin 2048} (qa : Vec Ideal S2048x256 .bf16) (ka va : Vec Ideal S8192x256 .bf16)
  (hL : ∀ s : Fin 8192, ∑ j : Fin 256, qa (ix2 r j) * ka (ix2 s j) = ((L s.val : ℝ) : EReal))
  (hV : ∀ (s : Fin 8192) d, va (ix2 s d) = ((V s.val d : ℝ) : EReal))

include hL in
theorem lg_kb (n : ℕ) (hn : n < 8) (k : Fin 1024) : lg qa (kb ka n) (ix2 r k) = ((L (1024 * n + k.val) : ℝ) : EReal) := by
  rw [lg_at, ← hL ⟨1024 * n + k.val, by omega⟩]
  exact Finset.sum_congr rfl fun j _ => by rw [kb_at ka n hn]

include hV in
theorem va_kb (n : ℕ) (hn : n < 8) (k : Fin 1024) (d : Fin 256) : kb va n (ix2 k d) = ((V (1024 * n + k.val) d : ℝ) : EReal) := by
  rw [kb_at va n hn, hV]

include hL hV

theorem full_at (n : ℕ) (hn : n ≤ 8) : At L V r (1024 * n) (full qa ka va n) := by
  induction n with
  | zero => exact .inl ⟨rfl, fun y => negInf_eq, fun d => Ideal.ofBits_zero_f32⟩
  | succ n ih =>
    have := upd_at sees_noMask (lg qa (kb ka n)) (kb va n) _ (ih (by omega)) (by decide) le_rfl (lg_kb qa ka hL n (by omega)) (va_kb va hV n (by omega))
    exact this

theorem low_at (n : ℕ) (hn : n < 4) : At L V r (2048 * n + if r.val < 1024 then r.val + 1 else 1024) (low n qa ka va) := by
  have e : 1024 * (2 * n) = 2048 * n := by omega
  have := upd_at sees_mask0 (lg qa (kb ka (2 * n))) (kb va (2 * n)) _ (full_at qa ka va hL hV (2 * n) (by omega)) (by beta_reduce; split <;> omega) (by beta_reduce; split <;> omega)
    (lg_kb qa ka hL (2 * n) (by omega)) (va_kb va hV (2 * n) (by omega))
  rw [e] at this
  exact this

theorem hiS_at (n : ℕ) (hn : n < 8) (hr : 1024 ≤ r.val) (k : Fin 1024) : hiS qa (kb ka n) (ix2 r k) = ((L (1024 * n + k.val) : ℝ) : EReal) := by
  unfold hiS
  refine (put_in _ 1024 0 _ ⟨r.val - 1024, by omega⟩ k r k (by show r.val = 1024 + (r.val - 1024); omega) (by omega)).trans ?_
  rw [lgHi_at, ← hL ⟨1024 * n + k.val, by omega⟩]
  refine Finset.sum_congr rfl fun j _ => ?_
  rw [kb_at ka n hn]
  refine congrArg (fun z => z * _) (congrArg qa ?_)
  funext b
  match b with
  | 0 => exact Fin.ext (by show 1024 + (r.val - 1024) = r.val; omega)
  | 1 => rfl

omit hL hV in
theorem lastA_low (n : ℕ) (hr : r.val < 1024) (d : Fin 256) : lastA n qa ka va (ix2 r d) = (low n qa ka va).2 (ix2 r d) := by
  unfold lastA pvHi
  refine (put_out _ 1024 0 _ r d (.inl hr)).trans ?_
  unfold bl
  rw [if_neg]
  show ¬(1024 ≤ r.val ∧ _)
  omega

omit hL hV in
theorem lastA_hi (n : ℕ) (hr : 1024 ≤ r.val) (d : Fin 256) :
    lastA n qa ka va (ix2 r d) = (upd mask1 (hiS qa (kb ka (2 * n + 1))) (kb va (2 * n + 1)) (low n qa ka va)).2 (ix2 r d) := by
  show _ = pv (upA mask1 (hiS qa (kb ka (2 * n + 1))) (low n qa ka va).1 (low n qa ka va).2) (upP mask1 (hiS qa (kb ka (2 * n + 1))) (low n qa ka va).1) (kb va (2 * n + 1)) (ix2 r d)
  rw [pv_at]
  unfold lastA
  generalize upA mask1 (hiS qa (kb ka (2 * n + 1))) (low n qa ka va).1 (low n qa ka va).2 = a
  generalize upP mask1 (hiS qa (kb ka (2 * n + 1))) (low n qa ka va).1 = p
  generalize (low n qa ka va).2 = a0
  generalize kb va (2 * n + 1) = v
  unfold pvHi
  have e0 : ∀ c : ℕ, c = r.val → ∀ h : c < 2048, (⟨c, h⟩ : Fin 2048) = r := fun c hc h => Fin.ext hc
  refine (put_in _ 1024 0 _ ⟨r.val - 1024, by omega⟩ d r d (by show r.val = 1024 + (r.val - 1024); omega) (by omega)).trans ?_
  refine congrArg₂ (· + ·) ?_ ?_
  · refine (window_at _ 1024 0 _ _ d).trans ?_
    have h2 : (ix2 (⟨1024 + (r.val - 1024), by omega⟩ : Fin 2048) (⟨0 + d.val, by omega⟩ : Fin 256) : S2048x256.Idx) = ix2 r d := by
      funext b
      match b with
      | 0 => exact Fin.ext (by show 1024 + (r.val - 1024) = r.val; omega)
      | 1 => exact Fin.ext (by show 0 + d.val = d.val; omega)
    refine (congrArg (bl 1024 2048 0 a a0) h2).trans ?_
    unfold bl
    rw [if_pos]
    show 1024 ≤ r.val ∧ (r.val < 2048 ∨ _)
    omega
  · have h3 : ∀ (p' : Vec Ideal S1024x1024 .bf16) (r' : Fin 1024), (matmul (F := Ideal) (φ₁ := .bf16) (φ₂ := .bf16) dot_S1024x1024_S1024x256_S1024x256_1_0_0_1_n_n none p' v (constant S1024x256 .f32 0x00000000#32) : Vec Ideal S1024x256 .f32) (ix2 r' d)
        = ∑ k : Fin 1024, p' (ix2 r' k) * v (ix2 k d) := fun p' r' => by pointwise []
    refine (h3 _ _).trans (Finset.sum_congr rfl fun k _ => congrArg (fun z => z * _) ((window_at _ 1024 0 _ _ k).trans (congrArg p ?_)))
    funext b
    match b with
    | 0 => exact Fin.ext (by show 1024 + (r.val - 1024) = r.val; omega)
    | 1 => exact Fin.ext (by show 0 + k.val = k.val; omega)

/-- After both masked blocks a row's accumulator stands for the keys up to the row's own. -/
theorem lastA_at (n : ℕ) (hn : n < 4) : ∃ m, Rok L V (2048 * n + r.val + 1) m (fun d => lastA n qa ka va (ix2 r d)) := by
  have h := low_at qa ka va hL hV n hn
  by_cases hr : r.val < 1024
  · rw [if_pos hr] at h
    refine ⟨fun y => (low n qa ka va).1 (ix2 r y), ?_⟩
    rw [show (fun d => lastA n qa ka va (ix2 r d)) = fun d => (low n qa ka va).2 (ix2 r d) from funext fun d => lastA_low qa ka va n hr d]
    exact h
  · rw [if_neg hr] at h
    have e : 2048 * n + 1024 = 1024 * (2 * n + 1) := by omega
    rw [e] at h
    have h2 := upd_at sees_mask1 (hiS qa (kb ka (2 * n + 1))) (kb va (2 * n + 1)) _ h (by beta_reduce; omega) (by beta_reduce; omega)
      (hiS_at qa ka va hL hV (2 * n + 1) (by omega) (by omega)) (va_kb va hV (2 * n + 1) (by omega))
    have e2 : 1024 * (2 * n + 1) + (r.val + 1 - 1024) = 2048 * n + r.val + 1 := by omega
    beta_reduce at h2
    rw [e2] at h2
    refine ⟨fun y => (upd mask1 (hiS qa (kb ka (2 * n + 1))) (kb va (2 * n + 1)) (low n qa ka va)).1 (ix2 r y), ?_⟩
    rw [show (fun d => lastA n qa ka va (ix2 r d)) = fun d => (upd mask1 (hiS qa (kb ka (2 * n + 1))) (kb va (2 * n + 1)) (low n qa ka va)).2 (ix2 r d) from
      funext fun d => lastA_hi qa ka va n (by omega) d]
    exact h2

end

/-! ## The tables -/

theorem kaT_lo (k c : Vec Ideal S1x8192x128 .bf16) (o : Vec Ideal S8192x256 .bf16) (s : Fin 8192) (j : Fin 128) :
    kaT k c o (ix2 s ⟨j.val, by omega⟩) = k (ix3 0 s j) := by
  unfold kaT
  refine (put_out (s₁ := 256) (w₀ := 8192) (w₁ := 128) _ 0 128 _ s ⟨j.val, by omega⟩ (.inr (.inl j.isLt))).trans ?_
  refine (put_in _ 0 0 _ s j s ⟨j.val, by omega⟩ (by omega) (by show j.val = 0 + j.val; omega)).trans ?_
  pointwise []

theorem kaT_hi (k c : Vec Ideal S1x8192x128 .bf16) (o : Vec Ideal S8192x256 .bf16) (s : Fin 8192) (j : Fin 128) :
    kaT k c o (ix2 s ⟨128 + j.val, by omega⟩) = c (ix3 0 s j) := by
  unfold kaT
  refine (put_in _ 0 128 _ s j s _ (by omega) rfl).trans ?_
  pointwise []

theorem vaT_lo (v : Vec Ideal S1x8192x128 .bf16) (o : Vec Ideal S8192x256 .bf16) (s : Fin 8192) (j : Fin 128) :
    vaT v o (ix2 s ⟨j.val, by omega⟩) = v (ix3 0 s j) := by
  unfold vaT
  refine (put_out (s₁ := 256) (w₀ := 8192) (w₁ := 128) _ 0 128 _ s ⟨j.val, by omega⟩ (.inr (.inl j.isLt))).trans ?_
  refine (put_in _ 0 0 _ s j s ⟨j.val, by omega⟩ (by omega) (by show j.val = 0 + j.val; omega)).trans ?_
  pointwise []

theorem vaT_hi (v : Vec Ideal S1x8192x128 .bf16) (o : Vec Ideal S8192x256 .bf16) (s : Fin 8192) (j : Fin 128) :
    vaT v o (ix2 s ⟨128 + j.val, by omega⟩) = if j.val = 0 then 1 else 0 := by
  unfold vaT
  exact (put_in _ 0 128 _ s j s _ (by omega) rfl).trans (ones_at s j)

/-- The sum over the three lanes of a head. -/
theorem lanes (h : ℕ) (hh : h < 8) (c : ℕ → ℝ) :
    ∑ j : Fin 128, (if j.val = h ∨ j.val = h + 8 ∨ j.val = h + 16 then (1 : EReal) else 0) * ((c j.val : ℝ) : EReal) = ((c h + c (h + 8) + c (h + 16) : ℝ) : EReal) := by
  have e : ∀ j : Fin 128, (if j.val = h ∨ j.val = h + 8 ∨ j.val = h + 16 then (1 : EReal) else 0) * ((c j.val : ℝ) : EReal)
      = (((if j.val = h then c j.val else 0) + (if j.val = h + 8 then c j.val else 0) + (if j.val = h + 16 then c j.val else 0) : ℝ) : EReal) := by
    intro j
    by_cases h1 : j.val = h
    · rw [if_pos (.inl h1), if_pos h1, if_neg (by omega), if_neg (by omega), one_mul, add_zero, add_zero]
    · by_cases h2 : j.val = h + 8
      · rw [if_pos (.inr (.inl h2)), if_neg h1, if_pos h2, if_neg (by omega), one_mul, zero_add, add_zero]
      · by_cases h3 : j.val = h + 16
        · rw [if_pos (.inr (.inr h3)), if_neg h1, if_neg h2, if_pos h3, one_mul, zero_add, zero_add]
        · rw [if_neg (by omega), if_neg h1, if_neg h2, if_neg h3, zero_mul, add_zero, add_zero, EReal.coe_zero]
  have one : ∀ g : ℕ, g < 128 → ∑ j : Fin 128, (if j.val = g then c j.val else 0) = c g := by
    intro g hg
    rw [Fin.sum_univ_eq_sum_range (fun j => if j = g then c j else 0) 128, Finset.sum_ite_eq', if_pos (Finset.mem_range.mpr hg)]
  rw [Finset.sum_congr rfl fun j _ => e j, ← coe_sum, Finset.sum_add_distrib, Finset.sum_add_distrib, one h (by omega), one (h + 8) (by omega), one (h + 16) (by omega)]

section
variable (i : Cert.Kernel.grid0.Coords) (q : Vec Ideal S1x2048x128 .bf16) (k c v : Vec Ideal S1x8192x128 .bf16) (o o' : Vec Ideal S8192x256 .bf16) (r : Fin 2048)
  (qr : ℕ → ℝ) (kr cr vr : ℕ → ℕ → ℝ)

/-- A row's logit against a key: the product of the two, and the key's three lanes of the head. -/
def logit (h : ℕ) (qr kr cr : ℕ → ℝ) : ℝ := (∑ d : Fin 128, qr d.val * kr d.val) + (cr h + cr (h + 8) + cr (h + 16))

theorem logit_at (hq : ∀ d : Fin 128, q (ix3 0 r d) = ((qr d.val : ℝ) : EReal)) (hk : ∀ (s : Fin 8192) (d : Fin 128), k (ix3 0 s d) = ((kr s.val d.val : ℝ) : EReal))
    (hc : ∀ (s : Fin 8192) (d : Fin 128), c (ix3 0 s d) = ((cr s.val d.val : ℝ) : EReal)) (s : Fin 8192) :
    ∑ j : Fin 256, qaug i q (ix2 r j) * kaT k c o (ix2 s j) = ((logit (i 1).val qr (kr s.val) (cr s.val) : ℝ) : EReal) := by
  have hi : (i 1).val < 8 := (i 1).isLt
  refine (Fin.sum_univ_add (a := 128) (b := 128) fun j : Fin 256 => qaug i q (ix2 r j) * kaT k c o (ix2 s j)).trans ?_
  unfold logit
  rw [EReal.coe_add, coe_sum]
  refine congrArg₂ (· + ·) (Finset.sum_congr rfl fun d _ => ?_) (Eq.trans (Finset.sum_congr rfl fun d _ => ?_) (lanes (i 1).val hi (cr s.val)))
  · refine (congrArg₂ (· * ·) (qaug_lo i q r d) (kaT_lo k c o s d)).trans ?_
    rw [hq, hk, EReal.coe_mul]
  · refine (congrArg₂ (· * ·) (qaug_hi i q r d) (kaT_hi k c o s d)).trans ?_
    rw [hc]

/-- The result at a row and a column: the softmax of the row's logits against that column of the values. -/
theorem outV_at (hq : ∀ d : Fin 128, q (ix3 0 r d) = ((qr d.val : ℝ) : EReal)) (hk : ∀ (s : Fin 8192) (d : Fin 128), k (ix3 0 s d) = ((kr s.val d.val : ℝ) : EReal))
    (hc : ∀ (s : Fin 8192) (d : Fin 128), c (ix3 0 s d) = ((cr s.val d.val : ℝ) : EReal)) (hv : ∀ (s : Fin 8192) (d : Fin 128), v (ix3 0 s d) = ((vr s.val d.val : ℝ) : EReal))
    (d : Fin 128) : outV i q (kaT k c o) (vaT v o') (ix3 0 r d)
      = ((soft (fun s => logit (i 1).val qr (kr s) (cr s)) (fun s => vr s d.val) (2048 * (i 2).val + r.val + 1) : ℝ) : EReal) := by
  have hi : (i 2).val < 4 := (i 2).isLt
  have hV : ∀ (s : Fin 8192) (j : Fin 256), vaT v o' (ix2 s j) = (((if j.val < 128 then vr s.val j.val else if j.val = 128 then 1 else 0) : ℝ) : EReal) := by
    intro s j
    by_cases hj : j.val < 128
    · rw [if_pos hj, ← hv s ⟨j.val, hj⟩]
      exact vaT_lo v o' s ⟨j.val, hj⟩
    · rw [if_neg hj]
      have e : j = ⟨128 + (⟨j.val - 128, by omega⟩ : Fin 128).val, by have := j.isLt; show 128 + (j.val - 128) < 256; omega⟩ := Fin.ext (by show j.val = 128 + (j.val - 128); omega)
      rw [e, vaT_hi]
      by_cases h0 : j.val = 128
      · rw [if_pos (by show j.val - 128 = 0; omega), if_pos (by show 128 + (j.val - 128) = 128; omega)]; rfl
      · rw [if_neg (by show ¬j.val - 128 = 0; omega), if_neg (by show ¬128 + (j.val - 128) = 128; omega)]; rfl
  obtain ⟨m, h⟩ := lastA_at (L := fun s => logit (i 1).val qr (kr s) (cr s)) (V := fun s j => if j.val < 128 then vr s j.val else if j.val = 128 then 1 else 0) (r := r)
    (qaug i q) (kaT k c o) (vaT v o') (logit_at i q k c o r qr kr cr hq hk hc) hV (i 2).val hi
  unfold outV
  rw [outOf_at]
  refine (Rok.out h (by omega) ⟨128, by decide⟩ (fun s => rfl) ⟨d.val, by omega⟩).trans ?_
  simp only [d.isLt, if_true]

end

end Cert.Fox

end
-- ==== Proof.Fox.Reference.lean ====
/- The attention reference over the reals, read at an index. -/
module

public import proofs.«01_k».proof.Proof.Gen.ReferenceIdeal.Read
public import proofs.«01_k».proof.Proof.Fox.Attend
public import Idealize.ShloMosaic.Lib.Pointwise
public import Idealize.ShloMosaic.Lib.ValueIdx
public import Idealize.ShloMosaic.Lib.WordCmp

@[expose] public section

set_option maxRecDepth 16384

noncomputable section

namespace Cert.FoxRef

open Idealize.ShloMosaic Idealize.ShloMosaic.TcCoe
open Cert.ReferenceIdeal Cert.ReferenceIdeal.Gen Cert.ReferenceIdeal.Read
open Cert.Fox (soft logit)

variable (x0 : FVec Ideal S2x8192x5120 .bf16) (x1 : FVec Ideal S2x8192x128 .bf16)

theorem q_at (b : Fin 2) (h : Fin 8) (t : Fin 8192) (d : Fin 128) :
    val_main_v4 (F := Ideal) x0 (ix4 b h t d) = x0 (ix3 b t ⟨2048 + (h.val * 128 + d.val), by omega⟩) := by
  pointwise [val_main_v4, val_main_v3, val_main_v2, val_main_v1]

theorem k_at (b : Fin 2) (h : Fin 8) (t : Fin 8192) (d : Fin 128) :
    val_main_v8 (F := Ideal) x0 (ix4 b h t d) = x0 (ix3 b t ⟨3072 + (h.val * 128 + d.val), by omega⟩) := by
  pointwise [val_main_v8, val_main_v7, val_main_v6, val_main_v5]

theorem v_at (b : Fin 2) (h : Fin 8) (t : Fin 8192) (d : Fin 128) :
    val_main_v12 (F := Ideal) x0 (ix4 b h t d) = x0 (ix3 b t ⟨4096 + (h.val * 128 + d.val), by omega⟩) := by
  pointwise [val_main_v12, val_main_v11, val_main_v10, val_main_v9]

theorem ln2_at (i : S_.Idx) : val_main_v0 (F := Ideal) i = ((Real.log 2 : ℝ) : EReal) := by
  have e : Ideal.ofBits .f32 0x40000000#32 = ((2 : ℝ) : EReal) := by
    simp only [Ideal.ofBits, Ideal.ieee]
    simp
    rw [← EReal.coe_mul]
    congr 1
    norm_num
  rw [val_main_v0_apply, val_main_cst_apply]
  show Ideal.log (Ideal.ofBits .f32 0x40000000#32) = _
  rw [e, Ideal.log_coe, if_neg (by norm_num)]

theorem cum_at (b : Fin 2) (h : Fin 8) (t : Fin 8192) :
    val_main_v22 (F := Ideal) x1 (ix3 b h t) = -(x1 (ix3 b t ⟨h.val, by omega⟩) + x1 (ix3 b t ⟨8 + h.val, by omega⟩) + x1 (ix3 b t ⟨16 + h.val, by omega⟩)) * ((Real.log 2 : ℝ) : EReal) := by
  rw [← ln2_at ix0]
  pointwise [val_main_v22, val_main_v21, val_main_v20, val_main_v19, val_main_v18, val_main_v17, val_main_v16, val_main_v15, val_main_v14, val_main_v13]

theorem qk_at (b : Fin 2) (h : Fin 8) (t s : Fin 8192) :
    val_main_v23 (F := Ideal) x0 (ix4 b h t s) = ∑ d : Fin 128, val_main_v4 (F := Ideal) x0 (ix4 b h t d) * val_main_v8 (F := Ideal) x0 (ix4 b h s d) := by
  pointwise [val_main_v23]

theorem sc_at (b : Fin 2) (h : Fin 8) (t s : Fin 8192) :
    val_main_v38 (F := Ideal) x0 x1 (ix4 b h t s) = if s.val < t.val + 1 then
      val_main_v23 (F := Ideal) x0 (ix4 b h t s) * ((Real.log 2 : ℝ) : EReal) + val_main_v22 (F := Ideal) x1 (ix3 b h t) - val_main_v22 (F := Ideal) x1 (ix3 b h s) else ⊥ := by
  rw [← ln2_at ix0]
  pointwise [val_main_v38, val_main_call0_v2, val_main_call0_v1, val_main_call0_v0, val_main_cst_0, val_main_v37, val_main_v36, val_main_v35, val_main_v34, val_main_v33, val_main_v32,
    val_main_v31, val_main_v30, val_main_v29, val_main_v28, val_main_v27, val_main_v26, val_main_v25, val_main_v24]
  rw [WordCmp.cmpi_sle_ofNat (by omega) (by omega), Scalar.select_ofBool]
  simp only [decide_eq_true_eq]
  exact if_congr (by omega) rfl Cert.Fox.negInf_eq

theorem out_at (b : Fin 2) (h : Fin 8) (t : Fin 8192) (d : Fin 128) :
    val_main_v53 (F := Ideal) x0 x1 (ix3 b t ⟨h.val * 128 + d.val, by omega⟩) = val_main_v50 (F := Ideal) x0 x1 (ix4 b h t d) := by
  pointwise [val_main_v53, val_main_v52, val_main_v51]

theorem reduces_d3 : S2x8x8192x8192.Reduces [3] S2x8x8192 := ⟨rfl, by decide, reducesTo_S2x8x8192x8192_S2x8x8192_d3.2⟩

theorem mx_at (b : Fin 2) (h : Fin 8) (t : Fin 8192) :
    val_main_v41 (F := Ideal) x0 x1 (ix3 b h t) = max ⊥ (Finset.univ.fold max ⊥ fun s : Fin 8192 => val_main_v38 (F := Ideal) x0 x1 (ix4 b h t s)) := by
  have e1 : val_main_v39 (F := Ideal) x0 x1 (ix3 b h t) = Finset.univ.fold max ⊥ fun s : Fin 8192 => val_main_v38 (F := Ideal) x0 x1 (ix4 b h t s) := by
    unfold val_main_v39
    generalize val_main_v38 (F := Ideal) x0 x1 = y
    refine (Host.reduce_eq_fold_single _ y _ reducesTo_S2x8x8192x8192_S2x8x8192_d3 reduces_d3 h_S_ (ix3 b h t)).trans ?_
    have e2 : y ∘ reduces_d3.lift (ix3 b h t) = fun s : Fin 8192 => y (ix4 b h t s) := by
      funext s
      refine congrArg y (funext fun a => ?_)
      match a with
      | 0 => rfl
      | 1 => rfl
      | 2 => rfl
      | 3 => rfl
    rw [e2]
    exact congrArg (fun z => Finset.fold max z _ _) Cert.Fox.negInf_eq
  rw [val_main_v41_apply, e1, val_main_v40_apply, val_main_cst_2_apply]
  exact congrArg (fun z => max z _) Cert.Fox.negInf_eq

theorem e_at (b : Fin 2) (h : Fin 8) (t s : Fin 8192) :
    val_main_v45 (F := Ideal) x0 x1 (ix4 b h t s) = Ideal.exp (val_main_v38 (F := Ideal) x0 x1 (ix4 b h t s) - val_main_v41 (F := Ideal) x0 x1 (ix3 b h t)) := by
  pointwise [val_main_v45, val_main_v44, val_main_v43, val_main_v42]

theorem p_at (b : Fin 2) (h : Fin 8) (t s : Fin 8192) :
    val_main_v49 (F := Ideal) x0 x1 (ix4 b h t s) = Ideal.div (val_main_v45 (F := Ideal) x0 x1 (ix4 b h t s)) (0 + ∑ j : Fin 8192, val_main_v45 (F := Ideal) x0 x1 (ix4 b h t j)) := by
  pointwise [val_main_v49, val_main_v48, val_main_v47, val_main_v46, val_main_cst_3]

theorem pv_at (b : Fin 2) (h : Fin 8) (t : Fin 8192) (d : Fin 128) :
    val_main_v50 (F := Ideal) x0 x1 (ix4 b h t d) = ∑ s : Fin 8192, val_main_v49 (F := Ideal) x0 x1 (ix4 b h t s) * val_main_v12 (F := Ideal) x0 (ix4 b h s d) := by
  pointwise [val_main_v50]

end Cert.FoxRef

end
-- ==== Proof.Fox.Value.lean ====
/- The attention's claim: from finite arguments the kernel's result over the reals is the reference's. -/
module

public import proofs.«01_k».proof.Proof.Fox.FrameIdeal
public import proofs.«01_k».proof.Proof.Fox.Reference
public import proofs.«01_k».proof.Proof.Gen.Pre_finite
public import proofs.«01_k».proof.Defs
public import Idealize.ShloMosaic.Lib.Pipeline.ValueKit
public import Idealize.ShloMosaic.Lib.Claim
public import Idealize.ShloMosaic.Lib.Quiescent
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FoxValue

open Cert.Fox (soft logit coe_sum)

/-! ## Finite arguments -/

/-- Every element is a real. -/
def AllReal {s : Shape} (x : s.Idx → EReal) : Prop := ∀ i, ((x i).toReal : EReal) = x i

/-- An array's element as a real, zero outside. -/
def rd {n : ℕ} (x : (⟨3, ![2, 8192, n]⟩ : Shape).Idx → EReal) (b : Fin 2) (s c : ℕ) : ℝ :=
  if h : s < 8192 ∧ c < n then (x (ix3 b ⟨s, h.1⟩ ⟨c, h.2⟩)).toReal else 0

theorem rd_eq {n : ℕ} {x : (⟨3, ![2, 8192, n]⟩ : Shape).Idx → EReal} (hx : AllReal x) (b : Fin 2) (s : Fin 8192) (c : Fin n) :
    x (ix3 b s c) = ((rd x b s.val c.val : ℝ) : EReal) := by
  unfold rd
  rw [dif_pos ⟨s.isLt, c.isLt⟩]
  exact (hx _).symm

theorem real_of_lt (x : EReal) (h : max x (-x) < ⊤) : ((x.toReal : ℝ) : EReal) = x := by
  refine EReal.coe_toReal (fun e => ?_) fun e => ?_
  · rw [e] at h; exact absurd h (by simp)
  · rw [e] at h; exact absurd h (by simp)

theorem posInf_eq : Ideal.ofBits .f32 0x7F800000#32 = ⊤ := by simp [Ideal.ofBits, Ideal.ieee]

theorem lt_of_bit {x : EReal} (h : BitVec.ofBool (decide (max x (-x) < Ideal.ofBits .f32 0x7F800000#32)) = 1#1) : max x (-x) < ⊤ := by
  rw [posInf_eq] at h
  by_contra hn
  rw [decide_eq_false hn] at h
  exact absurd h (by decide)

/-- The precondition says that every element is a real. -/
theorem real_of_pre [Cert.Pre_finite.Facts] (x0 : FVec Ideal Cert.Pre_finite.S2x8192x5120 .bf16) (x1 : FVec Ideal Cert.Pre_finite.S2x8192x128 .bf16)
    (h : (Cert.Pre_finite.fn (F := Ideal) x0 x1).1 = (fun _ => 1#1) ∧ (Cert.Pre_finite.fn (F := Ideal) x0 x1).2 = (fun _ => 1#1)) :
    AllReal x0 ∧ AllReal x1 := by
  refine ⟨fun i => real_of_lt _ ?_, fun i => real_of_lt _ ?_⟩
  · have e := congrFun h.1 i
    pointwise [Cert.Pre_finite.fn] at e
    exact lt_of_bit e
  · have e := congrFun h.2 i
    pointwise [Cert.Pre_finite.fn] at e
    exact lt_of_bit e

/-! ## The attention as a function of the arguments -/

section
variable (x0 : (⟨3, ![2, 8192, 5120]⟩ : Shape).Idx → EReal) (x1 : (⟨3, ![2, 8192, 128]⟩ : Shape).Idx → EReal)

/-- The attention's result for a batch, a head, a row and a column. -/
def attn (b : Fin 2) (h t d : ℕ) : ℝ :=
  soft (fun s => logit h (fun e => rd x0 b t (2048 + (h * 128 + e))) (fun e => rd x0 b s (3072 + (h * 128 + e))) (fun e => rd x1 b s e))
    (fun s => rd x0 b s (4096 + (h * 128 + d))) (t + 1)

end

section Reference
open Cert.ReferenceIdeal Cert.ReferenceIdeal.Gen Cert.ReferenceIdeal.Read
variable (x0 : FVec Ideal S2x8192x5120 .bf16) (x1 : FVec Ideal S2x8192x128 .bf16)

theorem reference_at (h0 : AllReal x0) (h1 : AllReal x1) (b : Fin 2) (h : Fin 8) (t : Fin 8192) (d : Fin 128) :
    val_main_v53 (F := Ideal) x0 x1 (ix3 b t ⟨h.val * 128 + d.val, by omega⟩) = ((attn x0 x1 b h.val t.val d.val : ℝ) : EReal) := by
  have hc : ∀ s : Fin 8192, val_main_v22 (F := Ideal) x1 (ix3 b h s)
      = ((-(rd x1 b s.val h.val + rd x1 b s.val (h.val + 8) + rd x1 b s.val (h.val + 16)) * Real.log 2 : ℝ) : EReal) := by
    intro s
    rw [Cert.FoxRef.cum_at, rd_eq h1, rd_eq h1, rd_eq h1, ← EReal.coe_add, ← EReal.coe_add, ← EReal.coe_neg, ← EReal.coe_mul]
    change ((-(rd x1 b s.val h.val + rd x1 b s.val (8 + h.val) + rd x1 b s.val (16 + h.val)) * Real.log 2 : ℝ) : EReal) = _
    rw [add_comm 8, add_comm 16]
  have hqk : ∀ s : Fin 8192, val_main_v23 (F := Ideal) x0 (ix4 b h t s)
      = ((∑ e : Fin 128, rd x0 b t.val (2048 + (h.val * 128 + e.val)) * rd x0 b s.val (3072 + (h.val * 128 + e.val)) : ℝ) : EReal) := by
    intro s
    rw [Cert.FoxRef.qk_at, coe_sum]
    refine Finset.sum_congr rfl fun e _ => ?_
    rw [Cert.FoxRef.q_at, Cert.FoxRef.k_at, rd_eq h0, rd_eq h0, EReal.coe_mul]
  rw [Cert.FoxRef.out_at, Cert.FoxRef.pv_at]
  refine Eq.trans (Finset.sum_congr rfl fun s _ => ?_) (Cert.Fox.soft_row (n := 8192) (N := t.val + 1) (by omega) (by omega)
    (fun s => logit h.val (fun e => rd x0 b t (2048 + (h.val * 128 + e))) (fun e => rd x0 b s (3072 + (h.val * 128 + e))) (fun e => rd x1 b s e))
    (fun s => rd x0 b s (4096 + (h.val * 128 + d.val))) (rd x1 b t.val h.val + rd x1 b t.val (h.val + 8) + rd x1 b t.val (h.val + 16))
    (fun s => val_main_v38 (F := Ideal) x0 x1 (ix4 b h t s)) (fun s => ?_) (fun s => val_main_v12 (F := Ideal) x0 (ix4 b h s d)) (fun s => ?_))
  · rw [Cert.FoxRef.p_at, Cert.FoxRef.e_at, Cert.FoxRef.mx_at, Finset.sum_congr rfl fun j _ => Cert.FoxRef.e_at x0 x1 b h t j, Cert.FoxRef.mx_at]
  · rw [Cert.FoxRef.sc_at, hc, hc, hqk, ← EReal.coe_mul, ← EReal.coe_add, ← EReal.coe_sub]
    refine if_congr Iff.rfl (congrArg _ ?_) rfl
    unfold logit
    ring
  · rw [Cert.FoxRef.v_at, rd_eq h0]

end Reference

/-! ## The kernel -/

section Kernel
open Cert.KernelIdeal Cert.KernelIdeal.Gen Cert.FoxIdeal.K

variable (m : (ℓ : Loc nD τ sig) → Buf (Elt Ideal) ℓ)

/-- The block of each window at a grid point. -/
theorem idx : ∀ t : Fin cfg0.N, win0_0.index t = ![t.val / 32, t.val % 4, 16 + t.val / 4 % 8] ∧ win0_1.index t = ![t.val / 32, 0, 24 + t.val / 4 % 8] ∧
    win0_2.index t = ![t.val / 32, 0, 32 + t.val / 4 % 8] ∧ win0_3.index t = ![t.val / 32, 0, 0] ∧ win0_4.index t = ![t.val / 32, t.val % 4, t.val / 4 % 8] :=
  (by decide +kernel : ∀ t : Fin grid0.N, _)

theorem coords : ∀ t : Fin cfg0.N, (grid0.coords t 1).val = t.val / 4 % 8 ∧ (grid0.coords t 2).val = t.val % 4 :=
  (by decide +kernel : ∀ t : Fin grid0.N, (grid0.coords t 1).val = t.val / 4 % 8 ∧ (grid0.coords t 2).val = t.val % 4)

variable (c : Dev nD) (t : Fin cfg0.N)

theorem lt64 : t.val < 64 := lt_of_lt_of_eq t.isLt N_0

theorem blk0 (r : Fin 2048) (d : Fin 128) : iblk m c 0 t (ix3 0 r d)
    = m ((c : Thread nD τ).loc main_arg0) (ix3 ⟨t.val / 32, by have := lt64 t; omega⟩ ⟨2048 * (t.val % 4) + r.val, by omega⟩ ⟨2048 + (t.val / 4 % 8 * 128 + d.val), by omega⟩) := by
  blk_point [iblk, V, idx t]

theorem blk1 (s : Fin 8192) (d : Fin 128) : iblk m c 1 t (ix3 0 s d)
    = m ((c : Thread nD τ).loc main_arg0) (ix3 ⟨t.val / 32, by have := lt64 t; omega⟩ s ⟨3072 + (t.val / 4 % 8 * 128 + d.val), by omega⟩) := by
  blk_point [iblk, V, idx t]

theorem blk2 (s : Fin 8192) (d : Fin 128) : iblk m c 2 t (ix3 0 s d)
    = m ((c : Thread nD τ).loc main_arg0) (ix3 ⟨t.val / 32, by have := lt64 t; omega⟩ s ⟨4096 + (t.val / 4 % 8 * 128 + d.val), by omega⟩) := by
  blk_point [iblk, V, idx t]

theorem blk3 (s : Fin 8192) (d : Fin 128) : iblk m c 3 t (ix3 0 s d)
    = m ((c : Thread nD τ).loc main_arg1) (ix3 ⟨t.val / 32, by have := lt64 t; omega⟩ s d) := by
  blk_point [iblk, V, idx t]

theorem emb4 (r : Fin 2048) (d : Fin 128) : (((cfg0.win 4).blk t).view.emb (ix3 0 r d))
    = (ix3 ⟨t.val / 32, by have := lt64 t; omega⟩ ⟨2048 * (t.val % 4) + r.val, by omega⟩ ⟨t.val / 4 % 8 * 128 + d.val, by omega⟩ : S2x8192x1024.Idx) := by
  blk_ext [idx t]

/-- What the kernel leaves at an element of a point's block. -/
theorem out_at (h0 : AllReal (m ((c : Thread nD τ).loc main_arg0))) (h1 : AllReal (m ((c : Thread nD τ).loc main_arg1))) (r : Fin 2048) (d : Fin 128) :
    outAt m c t (ix3 0 r d) = ((attn (m ((c : Thread nD τ).loc main_arg0)) (m ((c : Thread nD τ).loc main_arg1)) ⟨t.val / 32, by have := lt64 t; omega⟩
      (t.val / 4 % 8) (2048 * (t.val % 4) + r.val) d.val : ℝ) : EReal) := by
  have ht := lt64 t
  have hd0 : (hd t.val).val = t.val / 4 * 4 := by
    change t.val % 64 / 4 * 4 = _
    rw [Nat.mod_eq_of_lt ht]
  have e32 : (hd t.val).val / 32 = t.val / 32 := by rw [hd0]; omega
  have e8 : (hd t.val).val / 4 % 8 = t.val / 4 % 8 := by rw [hd0]; omega
  have hb : (⟨(hd t.val).val / 32, by have := lt64 (hd t.val); omega⟩ : Fin 2) = ⟨t.val / 32, by omega⟩ := Fin.ext e32
  refine Eq.trans (Cert.Fox.outV_at (grid0.coords t) (iblk m c 0 t) (iblk m c 1 (hd t.val)) (iblk m c 3 (hd t.val)) (iblk m c 2 (hd t.val)) _ _ r
    (fun e => rd (m ((c : Thread nD τ).loc main_arg0)) ⟨t.val / 32, by omega⟩ (2048 * (t.val % 4) + r.val) (2048 + (t.val / 4 % 8 * 128 + e)))
    (fun s e => rd (m ((c : Thread nD τ).loc main_arg0)) ⟨t.val / 32, by omega⟩ s (3072 + (t.val / 4 % 8 * 128 + e)))
    (fun s e => rd (m ((c : Thread nD τ).loc main_arg1)) ⟨t.val / 32, by omega⟩ s e)
    (fun s e => rd (m ((c : Thread nD τ).loc main_arg0)) ⟨t.val / 32, by omega⟩ s (4096 + (t.val / 4 % 8 * 128 + e)))
    (fun e => ?_) (fun s e => ?_) (fun s e => ?_) (fun s e => ?_) d) ?_
  · rw [blk0, rd_eq h0]
  · rw [blk1, rd_eq h0, hb]
    change ((rd _ _ _ (3072 + ((hd t.val).val / 4 % 8 * 128 + e.val)) : ℝ) : EReal) = _
    rw [e8]
  · rw [blk3, rd_eq h1, hb]
  · rw [blk2, rd_eq h0, hb]
    change ((rd _ _ _ (4096 + ((hd t.val).val / 4 % 8 * 128 + e.val)) : ℝ) : EReal) = _
    rw [e8]
  · rw [(coords t).1, (coords t).2]
    rfl

/-- The kernel's result is the reference's function of the arguments. -/
theorem final (h0 : AllReal (m ((c : Thread nD τ).loc main_arg0))) (h1 : AllReal (m ((c : Thread nD τ).loc main_arg1))) :
    (dats m 0 c).arrAt 4 (cfgs 0).N
      = Cert.ReferenceIdeal.Read.val_main_v53 (F := Ideal) (m ((c : Thread nD τ).loc main_arg0)) (m ((c : Thread nD τ).loc main_arg1)) := by
  refine (dats m 0 c).arrAt_eq_of_covers 4 _ (by decide +kernel) fun t _ y => ?_
  blk_simp
  rw [after0_4]
  frame_out
  idx_vars y
  obtain rfl : y0 = 0 := Subsingleton.elim _ _
  refine (out_at m c t h0 h1 y1 y2).trans ?_
  refine Eq.trans ?_ (congrArg (Cert.ReferenceIdeal.Read.val_main_v53 (F := Ideal) (m ((c : Thread nD τ).loc main_arg0)) (m ((c : Thread nD τ).loc main_arg1)))
    (emb4 t y1 y2)).symm
  have ht := lt64 t
  exact (reference_at _ _ h0 h1 ⟨t.val / 32, by omega⟩ ⟨t.val / 4 % 8, by omega⟩ ⟨2048 * (t.val % 4) + _, by omega⟩ _).symm

end Kernel

end Cert.FoxValue

set_option maxRecDepth 100000 in
theorem Cert.FoxValue.algebraic : Cert.algebraic_KernelIdeal_ReferenceIdeal_pre_finite := by
  pair_intro
  · run_from Cert.FoxIdeal.K.run_main m g
  · run_from Cert.ReferenceIdeal.Value.run m' g'
    have h := Cert.FoxValue.real_of_pre _ _ (hpre c)
    refine (Cert.ReferenceIdeal.Read.val_main_v53_eq m' c).trans ?_
    rw [(hagree c).1, (hagree c).2]
    exact (Cert.FoxValue.final m c h.1 h.2).symm

theorem Cert.FoxValue.frame_r : Cert.quiescent_ReferenceIdeal := by
  intro m ρ _
  exact (θ_run Cert.ReferenceIdeal.defs _ _).mono (fun r h => ⟨fun c => ⟨(h c).2.1, (h c).2.2⟩,
      sem_eq_zero_of_no_sems (by decide) r.2⟩) (Cert.ReferenceIdeal.Value.run (F := Ideal) m ρ)

theorem Cert.FoxValue.frame_r_finite : Cert.quiescent_ReferenceIdeal_pre_finite := by
  intro m ρ _
  exact (θ_run Cert.ReferenceIdeal.defs _ _).mono (fun r h => ⟨fun c => ⟨(h c).2.1, (h c).2.2⟩,
      sem_eq_zero_of_no_sems (by decide) r.2⟩) (Cert.ReferenceIdeal.Value.run (F := Ideal) m ρ)

end
-- ==== Proof.Ff1.lean ====
/- The first feed-forward product (`Kernel2`): what its two results hold, as terms of its arguments, and the
   equality with the reference's. -/
module

public import proofs.«01_k».proof.Proof.Gen.Kernel2Ideal.Value
public import proofs.«01_k».proof.Proof.Gen.Reference2Ideal.Run
public import proofs.«01_k».proof.Defs
public import Idealize.ShloMosaic.Lib.Pipeline.ValueKit
public import Idealize.ShloMosaic.Lib.Claim
public import Idealize.ShloMosaic.Lib.Quiescent
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Ff1

section Terms
open Cert.Reference2Ideal Cert.Reference2Ideal.Gen

/-- The product's result: the square of the positive part of `x · w`. -/
def prod (x : FVec Ideal S16384x4096 .bf16) (w : FVec Ideal S1x4096x16384 .bf16) : FVec Ideal S16384x16384 .bf16 :=
  truncf .bf16 (mulf (maximumf (Host.dotGeneral dot_S16384x4096_S4096x16384_S16384x16384_1_0_0_1_n_n none (extf .f32 x bitsLt_bf16_f32) (extf .f32 (shapeCast _ w shapeCasts_S1x4096x16384_S4096x16384) bitsLt_bf16_f32)) (broadcastInDim S16384x16384 ![] bcast_S_S16384x16384 (constant S_ .f32 0x00000000#32))) (maximumf (Host.dotGeneral dot_S16384x4096_S4096x16384_S16384x16384_1_0_0_1_n_n none (extf .f32 x bitsLt_bf16_f32) (extf .f32 (shapeCast _ w shapeCasts_S1x4096x16384_S4096x16384) bitsLt_bf16_f32)) (broadcastInDim S16384x16384 ![] bcast_S_S16384x16384 (constant S_ .f32 0x00000000#32)))) bitsLt_bf16_f32

/-- The side result: the first slice of the second weight, in bf16. -/
def side (w : FVec Ideal S2x16384x4096 .f32) : FVec Ideal S1x16384x4096 .bf16 :=
  truncf .bf16 (extractStridedSlice S1x16384x4096 ![0, 0, 0] w slices_S2x16384x4096_S1x16384x4096_0_0_0) bitsLt_bf16_f32

end Terms

open Cert.Kernel2Ideal Cert.Kernel2Ideal.Gen

variable (m : (ℓ : Loc nD τ sig) → Buf (Elt Ideal) ℓ)

/-- The block of each window at a grid point. -/
theorem idx : ∀ t : Fin cfg0.N, win0_0.index t = ![t.val / 16, 0] ∧ win0_1.index t = ![0, 0, t.val % 16] ∧
    win0_2.index t = ![0, t.val, 0] ∧ win0_3.index t = ![t.val / 16, t.val % 16] ∧ win0_4.index t = ![0, t.val, 0] :=
  (by decide +kernel : ∀ t : Fin grid0.N, _)

theorem point3 (c : Dev nD) (t : Fin cfg0.N) (y : S1024x1024.Idx) :
    k0_pay2 (F := Ideal) (iblk m c 0 t) (iblk m c 1 t) y =
      prod (m ((c : Thread nD τ).loc main_arg0)) (m ((c : Thread nD τ).loc main_arg1)) (((cfg0.win 3).blk t).view.emb y) := by
  pointwise [k0_pay2, prod]
  blk_point [iblk, V, idx t]

theorem point4 (c : Dev nD) (t : Fin cfg0.N) (y : S1x64x4096.Idx) :
    k0_pay1 (F := Ideal) (iblk m c 2 t) y =
      side (m ((c : Thread nD τ).loc main_arg2)) (((cfg0.win 4).blk t).view.emb y) := by
  pointwise [k0_pay1, side]
  blk_point [iblk, V, idx t]

theorem final3 (c : Dev nD) : (dats m 0 c).arrAt 3 (cfgs 0).N =
    prod (m ((c : Thread nD τ).loc main_arg0)) (m ((c : Thread nD τ).loc main_arg1)) := by
  refine (dats m 0 c).arrAt_eq_of_covers 3 _ (by decide +kernel) fun t _ y => ?_
  blk_simp
  rw [after0_3]
  frame_out
  exact point3 m c t y

theorem final4 (c : Dev nD) : (dats m 0 c).arrAt 4 (cfgs 0).N = side (m ((c : Thread nD τ).loc main_arg2)) := by
  refine (dats m 0 c).arrAt_eq_of_covers 4 _ (by decide +kernel) fun t _ y => ?_
  blk_simp
  rw [after0_4]
  frame_out
  exact point4 m c t y

end Cert.Ff1

theorem Cert.Ff1.algebraic : Cert.algebraic_Kernel2Ideal_Reference2Ideal := by
  pair_intro
  · run_from Cert.Kernel2Ideal.Gen.run_main m g
  · run_from Cert.Reference2Ideal.Value.run m' g'
    · exact (Cert.Ff1.final3 m c).symm
    · exact (Cert.Ff1.final4 m c).symm

theorem Cert.Ff1.frame_r : Cert.quiescent_Reference2Ideal := by
  intro m ρ _
  exact (θ_run Cert.Reference2Ideal.defs _ _).mono (fun r h => ⟨fun c => ⟨(h c).2.2.1, (h c).2.2.2.1, (h c).2.2.2.2⟩,
      sem_eq_zero_of_no_sems (by decide) r.2⟩) (Cert.Reference2Ideal.Value.run (F := Ideal) m ρ)

end
-- ==== Proof.Ff2.lean ====
/- The second feed-forward product (`Kernel3`): what its result holds, as a term of its arguments, and the
   equality with the reference's. -/
module

public import proofs.«01_k».proof.Proof.Gen.Kernel3Ideal.Value
public import proofs.«01_k».proof.Proof.Gen.Reference3Ideal.Run
public import proofs.«01_k».proof.Defs
public import Idealize.ShloMosaic.Lib.Pipeline.ValueKit
public import Idealize.ShloMosaic.Lib.Claim
public import Idealize.ShloMosaic.Lib.Quiescent
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Ff2

section Terms
open Cert.Reference3Ideal Cert.Reference3Ideal.Gen

/-- The product's result: `x · w`. -/
def prod (x : FVec Ideal S16384x16384 .bf16) (w : FVec Ideal S1x16384x4096 .bf16) : FVec Ideal S16384x4096 .bf16 :=
  truncf .bf16 (Host.dotGeneral dot_S16384x16384_S16384x4096_S16384x4096_1_0_0_1_n_n none (extf .f32 x bitsLt_bf16_f32) (extf .f32 (shapeCast _ w shapeCasts_S1x16384x4096_S16384x4096) bitsLt_bf16_f32)) bitsLt_bf16_f32

theorem prod_apply (x : FVec Ideal S16384x16384 .bf16) (w : FVec Ideal S1x16384x4096 .bf16) (j : S16384x4096.Idx) :
    prod x w j = ∑ k : Fin 16384, x (ix2 (j 0) k) * w (ix3 0 k (j 1)) := by
  pointwise [prod]

end Terms

open Cert.Kernel3Ideal Cert.Kernel3Ideal.Gen

variable (m : (ℓ : Loc nD τ sig) → Buf (Elt Ideal) ℓ)

/-- The block of each window at a grid point. -/
theorem idx : ∀ t : Fin cfg0.N, win0_0.index t = ![t.val / 16, t.val % 4] ∧
    win0_1.index t = ![0, t.val % 4, t.val / 4 % 4] ∧ win0_2.index t = ![t.val / 16, t.val / 4 % 4] :=
  (by decide +kernel : ∀ t : Fin grid0.N, _)

/-- The zero fill. -/
theorem zero_apply (j : S1024x1024.Idx) : k0_pay1 (F := Ideal) j = 0 := by
  pointwise [k0_pay1]

/-- One step adds one part of the contraction. -/
theorem step_apply (acc : FVec Ideal S1024x1024 .f32) (x : FVec Ideal S1024x4096 .bf16) (w : FVec Ideal S1x4096x1024 .bf16)
    (j : S1024x1024.Idx) :
    k0_pay3 (F := Ideal) acc x w j = acc j + ∑ k : Fin 4096, x (ix2 (j 0) k) * w (ix3 0 k (j 1)) := by
  pointwise [k0_pay3, k0_pay2]

/-- What is written back is the accumulator. -/
theorem out_eq (acc : FVec Ideal S1024x1024 .f32) (x : FVec Ideal S1024x4096 .bf16) (w : FVec Ideal S1x4096x1024 .bf16)
    (j : S1024x1024.Idx) :
    k0_pay4 (F := Ideal) acc x w j = acc j + ∑ k : Fin 4096, x (ix2 (j 0) k) * w (ix3 0 k (j 1)) := by
  pointwise [k0_pay4, k0_pay2]

theorem out_eq_acc (c : Dev nD) (t : Fin cfg0.N) (j : S1024x1024.Idx) :
    (outsAt0 m c t.val t.isLt).1 j = (outsAt0 m c t.val t.isLt).2 j := by
  by_cases h : t.val % 4 = 0
  · rw [outsAt0_A m c t h]; frame_out; rw [out_eq, step_apply]
  · rw [outsAt0_B m c t h]; frame_out; rw [out_eq, step_apply]

theorem final (c : Dev nD) : (dats m 0 c).arrAt 2 (cfgs 0).N =
    prod (m ((c : Thread nD τ).loc main_arg0)) (m ((c : Thread nD τ).loc main_arg1)) := by
  refine (dats m 0 c).arrAt_eq_of_covers 2 _ (by decide +kernel) fun t hf y => ?_
  blk_simp
  rw [after0_2, out_eq_acc, Pipeline.eq_sum_fin_of_reset_step_apply_of_flush (fun n h => (outsAt0 m c n h).2) 4 (fun _ => 0) _
    (fun t h j => by rw [outsAt0_A m c t h]; frame_out; rw [step_apply, zero_apply])
    (fun t h j => by rw [outsAt0_B m c t h]; frame_out; rw [step_apply, read_unread_whole])
    t ((flush0_2 t).mp hf) _, zero_add, prod_apply]
  refine Fin.sum_mul_add_congr fun s k hl => ?_
  blk_point [iblk, V, idx t, idx ⟨_, Pipeline.run_point_lt_of_flush t ((flush0_2 t).mp hf) s⟩]

end Cert.Ff2

set_option maxRecDepth 100000 in
theorem Cert.Ff2.algebraic : Cert.algebraic_Kernel3Ideal_Reference3Ideal := by
  pair_intro
  · run_from Cert.Kernel3Ideal.Gen.run_main m g
  · run_from Cert.Reference3Ideal.Value.run m' g'
    exact (Cert.Ff2.final m c).symm

set_option maxRecDepth 100000 in
theorem Cert.Ff2.frame_r : Cert.quiescent_Reference3Ideal := by
  intro m ρ _
  exact (θ_run Cert.Reference3Ideal.defs _ _).mono (fun r h => ⟨fun c => ⟨(h c).2.1, (h c).2.2⟩,
      sem_eq_zero_of_no_sems (by decide) r.2⟩) (Cert.Reference3Ideal.Value.run (F := Ideal) m ρ)

end
-- ==== Proof.InLo.lean ====
/- The lower rows of the input projection (`Kernel4`): what its two results hold, as terms of its arguments, and the
   equality with the reference's. -/
module

public import proofs.«01_k».proof.Proof.Gen.Kernel4Ideal.Value
public import proofs.«01_k».proof.Proof.Gen.Reference4Ideal.Run
public import proofs.«01_k».proof.Defs
public import Idealize.ShloMosaic.Lib.Pipeline.ValueKit
public import Idealize.ShloMosaic.Lib.Claim
public import Idealize.ShloMosaic.Lib.Quiescent
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InLo

section Terms
open Cert.Reference4Ideal Cert.Reference4Ideal.Gen

/-- The product's result: `x` times the transpose of the first slice of `w`. -/
def prod (x : FVec Ideal S16384x4096 .bf16) (w : FVec Ideal S2x5120x4096 .bf16) : FVec Ideal S16384x5120 .bf16 :=
  truncf .bf16 (Host.dotGeneral dot_S16384x4096_S4096x5120_S16384x5120_1_0_0_1_n_n none (extf .f32 x bitsLt_bf16_f32) (transpose S4096x5120 [1, 0] (extf .f32 (shapeCast _ (extractStridedSlice S1x5120x4096 ![0, 0, 0] w slices_S2x5120x4096_S1x5120x4096_0_0_0) shapeCasts_S1x5120x4096_S5120x4096) bitsLt_bf16_f32) transposes_S5120x4096_S4096x5120_1_0)) bitsLt_bf16_f32

/-- The side result: the first slice of another weight, in bf16. -/
def side (w : FVec Ideal S2x4096x4096 .f32) : FVec Ideal S1x4096x4096 .bf16 :=
  truncf .bf16 (extractStridedSlice S1x4096x4096 ![0, 0, 0] w slices_S2x4096x4096_S1x4096x4096_0_0_0) bitsLt_bf16_f32

end Terms

open Cert.Kernel4Ideal Cert.Kernel4Ideal.Gen

variable (m : (ℓ : Loc nD τ sig) → Buf (Elt Ideal) ℓ)

/-- The block of each window at a grid point. -/
theorem idx : ∀ t : Fin cfg0.N, win0_0.index t = ![t.val / 5, 0] ∧ win0_1.index t = ![0, t.val % 5, 0] ∧
    win0_2.index t = ![0, min t.val 63, 0] ∧ win0_3.index t = ![t.val / 5, t.val % 5] ∧ win0_4.index t = ![0, min t.val 63, 0] :=
  (by decide +kernel : ∀ t : Fin grid0.N, _)

theorem point3 (c : Dev nD) (t : Fin cfg0.N) (y : S1024x1024.Idx) :
    k0_pay2 (F := Ideal) (iblk m c 0 t) (iblk m c 1 t) y =
      prod (m ((c : Thread nD τ).loc main_arg0)) (m ((c : Thread nD τ).loc main_arg1)) (((cfg0.win 3).blk t).view.emb y) := by
  pointwise [k0_pay2, prod]
  blk_point [iblk, V, idx t]

theorem point4 (c : Dev nD) (t : Fin cfg0.N) (y : S1x64x4096.Idx) :
    k0_pay1 (F := Ideal) (iblk m c 2 t) y =
      side (m ((c : Thread nD τ).loc main_arg2)) (((cfg0.win 4).blk t).view.emb y) := by
  pointwise [k0_pay1, side]
  blk_point [iblk, V, idx t]

theorem final3 (c : Dev nD) : (dats m 0 c).arrAt 3 (cfgs 0).N =
    prod (m ((c : Thread nD τ).loc main_arg0)) (m ((c : Thread nD τ).loc main_arg1)) := by
  refine (dats m 0 c).arrAt_eq_of_covers 3 _ (by decide +kernel) fun t _ y => ?_
  blk_simp
  rw [after0_3]
  frame_out
  exact point3 m c t y

theorem final4 (c : Dev nD) : (dats m 0 c).arrAt 4 (cfgs 0).N = side (m ((c : Thread nD τ).loc main_arg2)) := by
  refine (dats m 0 c).arrAt_eq_of_covers 4 _ (by decide +kernel) fun t _ y => ?_
  blk_simp
  rw [after0_4]
  frame_out
  exact point4 m c t y

end Cert.InLo

theorem Cert.InLo.algebraic : Cert.algebraic_Kernel4Ideal_Reference4Ideal := by
  pair_intro
  · run_from Cert.Kernel4Ideal.Gen.run_main m g
  · run_from Cert.Reference4Ideal.Value.run m' g'
    · exact (Cert.InLo.final3 m c).symm
    · exact (Cert.InLo.final4 m c).symm

theorem Cert.InLo.frame_r : Cert.quiescent_Reference4Ideal := by
  intro m ρ _
  exact (θ_run Cert.Reference4Ideal.defs _ _).mono (fun r h => ⟨fun c => ⟨(h c).2.2.1, (h c).2.2.2.1, (h c).2.2.2.2⟩,
      sem_eq_zero_of_no_sems (by decide) r.2⟩) (Cert.Reference4Ideal.Value.run (F := Ideal) m ρ)

end
-- ==== Proof.InHi.lean ====
/- The upper rows of the input projection (`Kernel5`): what its two results hold, as terms of its arguments, and the
   equality with the reference's. -/
module

public import proofs.«01_k».proof.Proof.Gen.Kernel5Ideal.Value
public import proofs.«01_k».proof.Proof.Gen.Reference5Ideal.Run
public import proofs.«01_k».proof.Defs
public import Idealize.ShloMosaic.Lib.Pipeline.ValueKit
public import Idealize.ShloMosaic.Lib.Claim
public import Idealize.ShloMosaic.Lib.Quiescent
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InHi

section Terms
open Cert.Reference5Ideal Cert.Reference5Ideal.Gen

/-- The product's result: `x` times the transpose of the first slice of `w`. -/
def prod (x : FVec Ideal S16384x4096 .bf16) (w : FVec Ideal S2x5120x4096 .bf16) : FVec Ideal S16384x5120 .bf16 :=
  truncf .bf16 (Host.dotGeneral dot_S16384x4096_S4096x5120_S16384x5120_1_0_0_1_n_n none (extf .f32 x bitsLt_bf16_f32) (transpose S4096x5120 [1, 0] (extf .f32 (shapeCast _ (extractStridedSlice S1x5120x4096 ![0, 0, 0] w slices_S2x5120x4096_S1x5120x4096_0_0_0) shapeCasts_S1x5120x4096_S5120x4096) bitsLt_bf16_f32) transposes_S5120x4096_S4096x5120_1_0)) bitsLt_bf16_f32

/-- The side result: the first slice of another weight, in bf16. -/
def side (w : FVec Ideal S2x4096x16384 .f32) : FVec Ideal S1x4096x16384 .bf16 :=
  truncf .bf16 (extractStridedSlice S1x4096x16384 ![0, 0, 0] w slices_S2x4096x16384_S1x4096x16384_0_0_0) bitsLt_bf16_f32

end Terms

open Cert.Kernel5Ideal Cert.Kernel5Ideal.Gen

variable (m : (ℓ : Loc nD τ sig) → Buf (Elt Ideal) ℓ)

/-- The block of each window at a grid point. -/
theorem idx : ∀ t : Fin cfg0.N, win0_0.index t = ![t.val / 5, 0] ∧ win0_1.index t = ![0, t.val % 5, 0] ∧
    win0_2.index t = ![0, min t.val 63, 0] ∧ win0_3.index t = ![t.val / 5, t.val % 5] ∧ win0_4.index t = ![0, min t.val 63, 0] :=
  (by decide +kernel : ∀ t : Fin grid0.N, _)

theorem point3 (c : Dev nD) (t : Fin cfg0.N) (y : S1024x1024.Idx) :
    k0_pay2 (F := Ideal) (iblk m c 0 t) (iblk m c 1 t) y =
      prod (m ((c : Thread nD τ).loc main_arg0)) (m ((c : Thread nD τ).loc main_arg1)) (((cfg0.win 3).blk t).view.emb y) := by
  pointwise [k0_pay2, prod]
  blk_point [iblk, V, idx t]

theorem point4 (c : Dev nD) (t : Fin cfg0.N) (y : S1x64x16384.Idx) :
    k0_pay1 (F := Ideal) (iblk m c 2 t) y =
      side (m ((c : Thread nD τ).loc main_arg2)) (((cfg0.win 4).blk t).view.emb y) := by
  pointwise [k0_pay1, side]
  blk_point [iblk, V, idx t]

theorem final3 (c : Dev nD) : (dats m 0 c).arrAt 3 (cfgs 0).N =
    prod (m ((c : Thread nD τ).loc main_arg0)) (m ((c : Thread nD τ).loc main_arg1)) := by
  refine (dats m 0 c).arrAt_eq_of_covers 3 _ (by decide +kernel) fun t _ y => ?_
  blk_simp
  rw [after0_3]
  frame_out
  exact point3 m c t y

theorem final4 (c : Dev nD) : (dats m 0 c).arrAt 4 (cfgs 0).N = side (m ((c : Thread nD τ).loc main_arg2)) := by
  refine (dats m 0 c).arrAt_eq_of_covers 4 _ (by decide +kernel) fun t _ y => ?_
  blk_simp
  rw [after0_4]
  frame_out
  exact point4 m c t y

end Cert.InHi

set_option maxRecDepth 100000 in
theorem Cert.InHi.algebraic : Cert.algebraic_Kernel5Ideal_Reference5Ideal := by
  pair_intro
  · run_from Cert.Kernel5Ideal.Gen.run_main m g
  · run_from Cert.Reference5Ideal.Value.run m' g'
    · exact (Cert.InHi.final3 m c).symm
    · exact (Cert.InHi.final4 m c).symm

set_option maxRecDepth 100000 in
theorem Cert.InHi.frame_r : Cert.quiescent_Reference5Ideal := by
  intro m ρ _
  exact (θ_run Cert.Reference5Ideal.defs _ _).mono (fun r h => ⟨fun c => ⟨(h c).2.2.1, (h c).2.2.2.1, (h c).2.2.2.2⟩,
      sem_eq_zero_of_no_sems (by decide) r.2⟩) (Cert.Reference5Ideal.Value.run (F := Ideal) m ρ)

end
-- ==== Proof.Out.lean ====
/- The output projection (`Kernel6`): what its result holds, as a term of its arguments, and the
   equality with the reference's. -/
module

public import proofs.«01_k».proof.Proof.Gen.Kernel6Ideal.Value
public import proofs.«01_k».proof.Proof.Gen.Reference6Ideal.Run
public import proofs.«01_k».proof.Defs
public import Idealize.ShloMosaic.Lib.Pipeline.ValueKit
public import Idealize.ShloMosaic.Lib.Claim
public import Idealize.ShloMosaic.Lib.Quiescent
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Out

section Terms
open Cert.Reference6Ideal Cert.Reference6Ideal.Gen

/-- The product's result: the four parts side by side, times `w`. -/
def prod (x₀ x₁ x₂ x₃ : FVec Ideal S16384x1024 .bf16) (w : FVec Ideal S1x4096x4096 .bf16) : FVec Ideal S16384x4096 .bf16 :=
  truncf .bf16 (Host.dotGeneral dot_S16384x4096_S4096x4096_S16384x4096_1_0_0_1_n_n none (extf .f32 ((concatenate S16384x4096 1 [⟨S16384x1024, (x₀ : FVec Ideal S16384x1024 .bf16)⟩, ⟨S16384x1024, (x₁ : FVec Ideal S16384x1024 .bf16)⟩, ⟨S16384x1024, (x₂ : FVec Ideal S16384x1024 .bf16)⟩, ⟨S16384x1024, (x₃ : FVec Ideal S16384x1024 .bf16)⟩] concatenates_S16384x1024_S16384x1024_S16384x1024_S16384x1024_S16384x4096_d1 : FVec Ideal S16384x4096 .bf16)) bitsLt_bf16_f32) (extf .f32 (shapeCast _ w shapeCasts_S1x4096x4096_S4096x4096) bitsLt_bf16_f32)) bitsLt_bf16_f32

/-- A sum over the four parts' columns, part by part. -/
theorem sum_parts (f : Fin 4096 → EReal) :
    ∑ k, f k = ∑ k : Fin 1024, f ⟨k.val, by omega⟩ + ∑ k : Fin 1024, f ⟨1024 + k.val, by omega⟩ +
      ∑ k : Fin 1024, f ⟨2048 + k.val, by omega⟩ + ∑ k : Fin 1024, f ⟨3072 + k.val, by omega⟩ := by
  rw [Fin.sum_univ_tiles 4 1024 rfl f, Fin.sum_univ_four]
  refine congrArg₂ _ (congrArg₂ _ (congrArg₂ _ ?_ ?_) ?_) ?_ <;>
    exact Finset.sum_congr rfl fun k _ => congrArg f (Fin.ext (by simp))

/-- The product read at an index: one sum for each of the four parts. -/
theorem prod_apply (x₀ x₁ x₂ x₃ : FVec Ideal S16384x1024 .bf16) (w : FVec Ideal S1x4096x4096 .bf16) (j : S16384x4096.Idx) :
    prod x₀ x₁ x₂ x₃ w j =
      ∑ k : Fin 1024, x₀ (ix2 (j 0) k) * w (ix3 0 ⟨k.val, by omega⟩ (j 1)) +
      ∑ k : Fin 1024, x₁ (ix2 (j 0) k) * w (ix3 0 ⟨1024 + k.val, by omega⟩ (j 1)) +
      ∑ k : Fin 1024, x₂ (ix2 (j 0) k) * w (ix3 0 ⟨2048 + k.val, by omega⟩ (j 1)) +
      ∑ k : Fin 1024, x₃ (ix2 (j 0) k) * w (ix3 0 ⟨3072 + k.val, by omega⟩ (j 1)) := by
  idx_vars j
  pointwise [prod]
  rw [sum_parts]
  refine congrArg₂ _ (congrArg₂ _ (congrArg₂ _ ?_ ?_) ?_) ?_ <;> refine Finset.sum_congr rfl fun k _ => ?_ <;>
    simp only [show ((k : Fin 1024) : ℕ) < 1024 from k.isLt, show ¬ 1024 + (k : ℕ) < 1024 by omega,
      show ¬ 2048 + (k : ℕ) < 1024 by omega, show ¬ 3072 + (k : ℕ) < 1024 by omega,
      show ¬ 2048 + (k : ℕ) - 1024 < 1024 by omega, show ¬ 3072 + (k : ℕ) - 1024 < 1024 by omega,
      show 1024 + (k : ℕ) - 1024 < 1024 by omega, show 2048 + (k : ℕ) - 1024 - 1024 < 1024 by omega,
      show ¬ 3072 + (k : ℕ) - 1024 - 1024 < 1024 by omega, dif_pos, dif_neg, not_false_eq_true] <;>
    refine congrArg₂ _ (congrArg _ ?_) rfl <;> idx_ext <;> (try simp) <;> omega

end Terms

open Cert.Kernel6Ideal Cert.Kernel6Ideal.Gen

variable (m : (ℓ : Loc nD τ sig) → Buf (Elt Ideal) ℓ)

/-- The block of each window at a grid point. -/
theorem idx : ∀ t : Fin cfg0.N, win0_0.index t = ![t.val / 4, 0] ∧ win0_1.index t = ![t.val / 4, 0] ∧
    win0_2.index t = ![t.val / 4, 0] ∧ win0_3.index t = ![t.val / 4, 0] ∧ win0_4.index t = ![0, 0, t.val % 4] ∧
    win0_5.index t = ![t.val / 4, t.val % 4] :=
  (by decide +kernel : ∀ t : Fin grid0.N, _)

theorem final (c : Dev nD) : (dats m 0 c).arrAt 5 (cfgs 0).N =
    prod (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  frame_out
  refine Eq.trans ?_ (prod_apply _ _ _ _ _ _).symm
  pointwise [k0_pay1]
  blk_point [iblk, V, idx t]

end Cert.Out

theorem Cert.Out.algebraic : Cert.algebraic_Kernel6Ideal_Reference6Ideal := by
  pair_intro
  · run_from Cert.Kernel6Ideal.Gen.run_main m g
  · run_from Cert.Reference6Ideal.Value.run m' g'
    exact (Cert.Out.final m c).symm

theorem Cert.Out.frame_r : Cert.quiescent_Reference6Ideal := by
  intro m ρ _
  exact (θ_run Cert.Reference6Ideal.defs _ _).mono (fun r h => ⟨fun c => ⟨(h c).2.1, (h c).2.2.1, (h c).2.2.2.1, (h c).2.2.2.2.1, (h c).2.2.2.2.2⟩,
      sem_eq_zero_of_no_sems (by decide) r.2⟩) (Cert.Reference6Ideal.Value.run (F := Ideal) m ρ)

end
-- ==== Proof.Gating.lean ====
/- The chunked spatial gating: a lower triangular product over each chunk of 128 positions and each group of 128 lanes. -/
module

public import proofs.«01_k».proof.Proof.Gen.Kernel7Ideal.Value
public import proofs.«01_k».proof.Proof.Gen.Reference7Ideal.Read
public import proofs.«01_k».proof.Defs
public import Idealize.ShloMosaic.Lib.Pipeline.ValueKit
public import Idealize.ShloMosaic.Lib.Claim
public import Idealize.ShloMosaic.Lib.Quiescent
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Gating

/-- The gaussian unit by its hyperbolic tangent. -/
def gelu (x : EReal) : EReal :=
  x * (Ideal.ofBits FTy.f32 0x3F000000#32 * (Ideal.ofBits FTy.f32 0x3F800000#32 +
    Ideal.tanh (Ideal.ofBits FTy.f32 0x3F4C422A#32 * (x + Ideal.ofBits FTy.f32 0x3D372713#32 * (x * x * x)))))

/-- The mean over the lanes. -/
def mean (x : Fin 1024 → EReal) : EReal := Ideal.div (∑ k, x k) (Ideal.ofBits FTy.f32 0x44800000#32)

/-- The centred row over its deviation, scaled and shifted. -/
def lnorm (x g b : Fin 1024 → EReal) (d : Fin 1024) : EReal :=
  (x d - mean x) * Ideal.rsqrt (mean (fun k => (x k - mean x) * (x k - mean x)) + Ideal.ofBits FTy.f32 0x358637BD#32) * g d + b d

section Reference
open Cert.Reference7Ideal Cert.Reference7Ideal.Read
variable (x0 : FVec Ideal S2x8192x5120 .bf16) (x1 : FVec Ideal S8x128x128 .f32) (x2 : FVec Ideal S8x128 .f32) (x3 x4 : FVec Ideal S1024 .f32)

theorem ref_gelu (b : Fin 2) (s : Fin 8192) (d : Fin 2048) :
    val_main_v14 (F := Ideal) x0 (ix3 b s d) = gelu (x0 (ix3 b s ⟨3072 + d.val, by omega⟩)) := by
  pointwise [gelu, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]

theorem ref_u (b : Fin 2) (s : Fin 8192) (d : Fin 1024) :
    val_main_v15 (F := Ideal) x0 (ix3 b s d) = gelu (x0 (ix3 b s ⟨3072 + d.val, by omega⟩)) := by
  pointwise [val_main_v15]
  rw [ref_gelu]

theorem ref_v (b : Fin 2) (s : Fin 8192) (d : Fin 1024) :
    val_main_v16 (F := Ideal) x0 (ix3 b s d) = gelu (x0 (ix3 b s ⟨4096 + d.val, by omega⟩)) := by
  pointwise [val_main_v16]
  rw [ref_gelu]
  exact congrArg (fun e => gelu (x0 (ix3 b s e))) (Fin.ext (by dsimp only; omega))

theorem ref_norm (b : Fin 2) (s : Fin 8192) (d : Fin 1024) :
    val_main_v40 (F := Ideal) x0 x3 x4 (ix3 b s d) = lnorm (fun k => val_main_v16 (F := Ideal) x0 (ix3 b s k)) (fun k => x3 (ix1 k)) (fun k => x4 (ix1 k)) d := by
  unfold val_main_v40 val_main_v39 val_main_v38 val_main_v37 val_main_v36 val_main_v35 val_main_v34 val_main_v33 val_main_v32 val_main_v31 val_main_v30 val_main_v29 val_main_v28 val_main_v27 val_main_v26 val_main_v25 val_main_v24 val_main_v23 val_main_v22 val_main_v21 val_main_v20 val_main_v19 val_main_v18 val_main_v17 val_main_cst_3 val_main_cst_4 val_main_cst_5 val_main_cst_6 val_main_cst_7
  generalize val_main_v16 (F := Ideal) x0 = z
  pointwise [lnorm, mean]

theorem ref_mask (t k : Fin 128) : val_main_v43 (F := Ideal) (ix2 t k) = if k.val ≤ t.val then 1 else 0 := by
  pointwise [val_main_v43, val_main_call0_v5, val_main_call0_cst, val_main_call0_v4, val_main_call0_v3, val_main_call0_v2, val_main_call0_v1, val_main_call0_c, val_main_call0_v0, val_main_v42, val_main_cst_8]
  have h : ∀ t k : Fin 128, IntOp.cmpi .sge (IntOp.addi (BitVec.ofNat 32 t.val) 0#32) (BitVec.ofNat 32 k.val) = if k.val ≤ t.val then 1#1 else 0#1 := by decide +kernel
  rw [h]
  split <;> rfl

theorem ref_mixed (b : Fin 2) (n : Fin 64) (t : Fin 128) (g : Fin 8) (c : Fin 128) :
    val_main_v48 (F := Ideal) x0 x1 x3 x4 (ix5 b n t g c) =
      ∑ k : Fin 128, if k.val ≤ t.val then x1 (ix3 g t k) * val_main_v40 (F := Ideal) x0 x3 x4 (ix3 b ⟨n.val * 128 + k.val, by omega⟩ ⟨g.val * 128 + c.val, by omega⟩) else 0 := by
  unfold val_main_v48 val_main_v47 val_main_v46 val_main_v45 val_main_v44 val_main_v41
  have hm := ref_mask
  generalize val_main_v40 (F := Ideal) x0 x3 x4 = z
  generalize val_main_v43 (F := Ideal) = q at hm ⊢
  pointwise
  refine Finset.sum_congr rfl fun k _ => ?_
  rw [hm]
  split
  · rw [mul_one, mul_comm]
  · rw [mul_zero, mul_zero]

theorem ref_at (b : Fin 2) (s : Fin 8192) (d : Fin 1024) :
    val_main_v55 (F := Ideal) x0 x1 x2 x3 x4 (ix3 b s d) = gelu (x0 (ix3 b s ⟨3072 + d.val, by omega⟩)) *
      (∑ k : Fin 128, (if k.val ≤ s.val % 128 then x1 (ix3 ⟨d.val / 128, by omega⟩ ⟨s.val % 128, by omega⟩ k) *
        lnorm (fun e => gelu (x0 (ix3 b ⟨s.val / 128 * 128 + k.val, by omega⟩ ⟨4096 + e.val, by omega⟩))) (fun e => x3 (ix1 e)) (fun e => x4 (ix1 e)) d else 0) +
      x2 (ix2 ⟨d.val / 128, by omega⟩ ⟨s.val % 128, by omega⟩)) := by
  have e : val_main_v55 (F := Ideal) x0 x1 x2 x3 x4 (ix3 b s d) = val_main_v15 (F := Ideal) x0 (ix3 b s d) *
      (val_main_v48 (F := Ideal) x0 x1 x3 x4 (ix5 b ⟨s.val / 128, by omega⟩ ⟨s.val % 128, by omega⟩ ⟨d.val / 128, by omega⟩ ⟨d.val % 128, by omega⟩) +
      x2 (ix2 ⟨d.val / 128, by omega⟩ ⟨s.val % 128, by omega⟩)) := by
    unfold val_main_v55 val_main_v54 val_main_v53 val_main_v52 val_main_v51 val_main_v50 val_main_v49
    generalize val_main_v48 (F := Ideal) x0 x1 x3 x4 = z
    generalize val_main_v15 (F := Ideal) x0 = q
    pointwise
  have hd : (⟨d.val / 128 * 128 + d.val % 128, by omega⟩ : Fin 1024) = d := Fin.ext (Nat.div_add_mod' d.val 128)
  rw [e, ref_u, ref_mixed]
  simp only [ref_norm, ref_v, hd]

end Reference

open Cert.Kernel7Ideal Cert.Kernel7Ideal.Gen

/-- The gated product at position `s` and lane `d` of a block: the lane's group mixes the positions of the chunk up to `s`. -/
def tileOut (U V : Vec Ideal S512x1024 .f32) (w : Vec Ideal S8x128x128 .f32) (bt : Vec Ideal S128x8 .f32) (s : Fin 512) (d : Fin 1024) : EReal :=
  U (ix2 s d) * (∑ k : Fin 128, (if k.val ≤ s.val % 128 then w (ix3 ⟨d.val / 128, by omega⟩ ⟨s.val % 128, by omega⟩ k) *
    V (ix2 ⟨s.val / 128 * 128 + k.val, by omega⟩ d) else 0) + bt (ix2 ⟨s.val % 128, by omega⟩ ⟨d.val / 128, by omega⟩))

/-- The kernel's mask: the column is at most the row. -/
theorem mask (i k : Fin 128) (a : EReal) :
    Scalar.select (IntOp.cmpi .sle (BitVec.ofNat 32 k.val) (BitVec.ofNat 32 i.val)) a 0 = if k.val ≤ i.val then a else 0 := by
  have h : ∀ i k : Fin 128, IntOp.cmpi .sle (BitVec.ofNat 32 k.val) (BitVec.ofNat 32 i.val) = if k.val ≤ i.val then 1#1 else 0#1 := by decide +kernel
  rw [h]
  split <;> rfl

/-- One stored piece's value, its indices given by their coordinates. -/
theorem tile_eq {U V : Vec Ideal S512x1024 .f32} {w : Vec Ideal S8x128x128 .f32} {bt : Vec Ideal S128x8 .f32} {s s' : Fin 512} {d d' : Fin 1024}
    {i : Fin 128} {g : Fin 8} {p : Fin 128 → Fin 512} (h1 : s'.val = s.val) (h2 : d'.val = d.val) (h3 : i.val = s.val % 128) (h4 : g.val = d.val / 128)
    (h5 : ∀ k, (p k).val = s.val / 128 * 128 + k.val) :
    U (ix2 s' d') * (∑ k : Fin 128, Scalar.select (IntOp.cmpi .sle (BitVec.ofNat 32 k.val) (BitVec.ofNat 32 i.val)) (w (ix3 g i k) * V (ix2 (p k) d')) 0 + bt (ix2 i g)) =
      tileOut U V w bt s d := by
  obtain rfl := Fin.ext h1
  obtain rfl := Fin.ext h2
  simp only [mask, tileOut, ← h3, ← h4, ← h5, Fin.eta]

theorem block (x0 x1 : Vec Ideal S1x512x1024 .bf16) (x2 : Vec Ideal S8x128x128 .f32) (x3 : Vec Ideal S128x8 .f32) (x4 x5 : Vec Ideal S1x1024 .f32)
    (s : Fin 512) (d : Fin 1024) :
    out0_6 (F := Ideal) x0 x1 x2 x3 x4 x5 (ix3 0 s d) =
      tileOut (k0_pay65 (F := Ideal) x0 x1 x2 x3 x4 x5) (k0_pay7 (k0_pay66 (F := Ideal) x0 x1 x2 x3 x4 x5) (k0_pay67 x0 x1 x2 x3 x4 x5)
        (k0_pay68 x0 x1 x2 x3 x4 x5) (k0_pay69 x0 x1 x2 x3 x4 x5) (Scalar.ofBits .f32 0x44800000#32)) x2 x3 s d := by
  unfold out0_6
  canon_tiles y hy
  all_goals
    open_payloads
    idx_vars y
    change s.val = _ at hy1
    change d.val = _ at hy2
    pointwise
    refine tile_eq ?_ ?_ ?_ ?_ ?_
    all_goals first | (dsimp only; omega) | omega | (intro k; dsimp only; omega)

theorem u_at (x0 x1 : Vec Ideal S1x512x1024 .bf16) (x2 : Vec Ideal S8x128x128 .f32) (x3 : Vec Ideal S128x8 .f32) (x4 x5 : Vec Ideal S1x1024 .f32)
    (s : Fin 512) (d : Fin 1024) : k0_pay65 (F := Ideal) x0 x1 x2 x3 x4 x5 (ix2 s d) = gelu (x0 (ix3 0 s d)) := by
  unfold k0_pay65
  frame_out
  pointwise [k0_pay2, gelu]
  rw [mul_comm (Ideal.ofBits FTy.f32 _) (x0 _), mul_assoc]

theorem v_at (x0 x1 : Vec Ideal S1x512x1024 .bf16) (x2 : Vec Ideal S8x128x128 .f32) (x3 : Vec Ideal S128x8 .f32) (x4 x5 : Vec Ideal S1x1024 .f32)
    (s : Fin 512) (d : Fin 1024) : k0_pay66 (F := Ideal) x0 x1 x2 x3 x4 x5 (ix2 s d) = gelu (x1 (ix3 0 s d)) := by
  unfold k0_pay66
  frame_out
  pointwise [k0_pay3, gelu]
  rw [mul_comm (Ideal.ofBits FTy.f32 _) (x1 _), mul_assoc]

theorem n_at (x0 x1 : Vec Ideal S1x512x1024 .bf16) (x2 : Vec Ideal S8x128x128 .f32) (x3 : Vec Ideal S128x8 .f32) (x4 x5 : Vec Ideal S1x1024 .f32)
    (s : Fin 512) (d : Fin 1024) : k0_pay7 (k0_pay66 (F := Ideal) x0 x1 x2 x3 x4 x5) (k0_pay67 x0 x1 x2 x3 x4 x5)
        (k0_pay68 x0 x1 x2 x3 x4 x5) (k0_pay69 x0 x1 x2 x3 x4 x5) (Scalar.ofBits .f32 0x44800000#32) (ix2 s d) =
      lnorm (fun e => gelu (x1 (ix3 0 s e))) (fun e => x4 (ix2 0 e)) (fun e => x5 (ix2 0 e)) d := by
  have h := v_at x0 x1 x2 x3 x4 x5
  unfold k0_pay67 k0_pay68 k0_pay69
  unfold k0_pay66 at h ⊢
  frame_out
  frame_out at h
  unfold k0_pay4 k0_pay5 k0_pay6
  generalize k0_pay3 (F := Ideal) x1 = z at h ⊢
  simp only [← h]
  pointwise [k0_pay7, lnorm, mean]

variable (m : (ℓ : Loc nD τ sig) → Buf (Elt Ideal) ℓ)

/-- The block of each window at a grid point. -/
theorem idx : ∀ t : Fin cfg0.N, win0_0.index t = ![t.val / 16, t.val % 16, 3] ∧ win0_1.index t = ![t.val / 16, t.val % 16, 4] ∧
    win0_2.index t = ![0, 0, 0] ∧ win0_3.index t = ![0, 0] ∧ win0_4.index t = ![0, 0] ∧ win0_5.index t = ![0, 0] ∧
    win0_6.index t = ![t.val / 16, t.val % 16, 0] :=
  (by decide +kernel : ∀ t : Fin grid0.N, _)

theorem final (c : Dev nD) : (dats m 0 c).arrAt 6 (cfgs 0).N = Cert.Reference7Ideal.Read.val_main_v55 (F := Ideal)
    (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  idx_vars y
  have ht : t.val < 32 := lt_of_lt_of_eq t.isLt N_0
  have e : (((cfg0.win 6).blk t).view.emb (ix3 y0 y1 y2)) =
      (ix3 (⟨t.val / 16, by omega⟩ : Fin 2) (⟨512 * (t.val % 16) + y1.val, by omega⟩ : Fin 8192) (y2 : Fin 1024) : Cert.Reference7Ideal.S2x8192x1024.Idx) := by
    blk_ext [idx t]
  refine Eq.trans ?_ (congrArg (Cert.Reference7Ideal.Read.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4))) e).symm
  rw [ref_at]
  obtain rfl : y0 = 0 := Subsingleton.elim _ _
  rw [block, tileOut]
  simp only [u_at, n_at]
  blk_point [iblk, V, idx t]
  omega

end Cert.Gating

theorem Cert.Gating.algebraic : Cert.algebraic_Kernel7Ideal_Reference7Ideal := by
  pair_intro
  · run_from Cert.Kernel7Ideal.Gen.run_main m g
  · run_from Cert.Reference7Ideal.Value.run m' g'
    obtain ⟨h0, h1, h2, h3, h4⟩ := hagree c
    refine Eq.trans ?_ (Cert.Gating.final m c).symm
    rw [← h0, ← h1, ← h2, ← h3, ← h4]
    rfl

theorem Cert.Gating.frame_r : Cert.quiescent_Reference7Ideal := by
  intro m ρ _
  exact (θ_run Cert.Reference7Ideal.defs _ _).mono (fun r h => ⟨fun c => ⟨(h c).2.1, (h c).2.2.1, (h c).2.2.2.1, (h c).2.2.2.2.1, (h c).2.2.2.2.2⟩,
      sem_eq_zero_of_no_sems (by decide) r.2⟩) (Cert.Reference7Ideal.Value.run (F := Ideal) m ρ)

end
-- ==== Proof.RowsMid.lean ====
/- The rows' step between the two halves of a layer: the product's norm, scaled and gated, added to the input, and the
   sum's norm, scaled and shifted. -/
module

public import proofs.«01_k».proof.Proof.Gen.Kernel8Ideal.Value
public import proofs.«01_k».proof.Proof.Gen.Reference8Ideal.Read
public import proofs.«01_k».proof.Defs
public import Idealize.ShloMosaic.Lib.Pipeline.ValueKit
public import Idealize.ShloMosaic.Lib.Claim
public import Idealize.ShloMosaic.Lib.Quiescent
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.RowsMid

section Terms

/-- The new row: the input plus the gated and scaled norm of the product. -/
def res (x y : Fin 4096 → EReal) (g gate : Fin 4096 → EReal) (d : Fin 4096) : EReal :=
  x d + gate d * (y d * Ideal.rsqrt (Ideal.div (∑ k, y k * y k) (Ideal.ofBits FTy.f32 0x45800000#32) + Ideal.ofBits FTy.f32 0x358637BD#32) * g d)

/-- The scaled and shifted norm of a row. -/
def nrm (x g sc sh : Fin 4096 → EReal) (d : Fin 4096) : EReal :=
  x d * Ideal.rsqrt (Ideal.div (∑ k, x k * x k) (Ideal.ofBits FTy.f32 0x45800000#32) + Ideal.ofBits FTy.f32 0x358637BD#32) * (g d * (Ideal.ofBits FTy.f32 0x3F800000#32 + sc d)) + sh d

end Terms

section Reference
open Cert.Reference8Ideal Cert.Reference8Ideal.Read
variable (x0 : FVec Ideal S16384x4096 .f32) (x1 : FVec Ideal S16384x4096 .bf16) (x2 : FVec Ideal S4096 .f32)
  (x3 : FVec Ideal S2x1x4096 .f32) (x4 : FVec Ideal S4096 .f32) (x5 x6 : FVec Ideal S2x1x4096 .f32)

theorem sum_at (b : Fin 2) (s : Fin 8192) (d : Fin 4096) : val_main_v18 (F := Ideal) x0 x1 x2 x3 (ix3 b s d) =
    res (fun k => x0 (ix2 ⟨b.val * 8192 + s.val, by omega⟩ k)) (fun k => x1 (ix2 ⟨b.val * 8192 + s.val, by omega⟩ k)) (fun k => x2 (ix1 k)) (fun k => x3 (ix3 b 0 k)) d := by
  pointwise [res, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]

theorem ref1_at (r : Fin 16384) (d : Fin 4096) : val_main_v38 (F := Ideal) x0 x1 x2 x3 (ix2 r d) =
    res (fun k => x0 (ix2 r k)) (fun k => x1 (ix2 r k)) (fun k => x2 (ix1 k)) (fun k => x3 (ix3 ⟨r.val / 8192, by omega⟩ 0 k)) d := by
  have e : val_main_v38 (F := Ideal) x0 x1 x2 x3 (ix2 r d) =
      val_main_v18 (F := Ideal) x0 x1 x2 x3 (ix3 ⟨r.val / 8192, by omega⟩ ⟨r.val % 8192, by omega⟩ d) := by
    unfold val_main_v38
    generalize val_main_v18 (F := Ideal) x0 x1 x2 x3 = z
    pointwise
  have h : (⟨r.val / 8192 * 8192 + r.val % 8192, by omega⟩ : Fin 16384) = r := Fin.ext (Nat.div_add_mod' r.val 8192)
  rw [e, sum_at]
  simp only [h]

theorem nrm_at (b : Fin 2) (s : Fin 8192) (d : Fin 4096) : val_main_v39 (F := Ideal) x0 x1 x2 x3 x4 x5 x6 (ix3 b s d) =
    nrm (fun k => val_main_v18 (F := Ideal) x0 x1 x2 x3 (ix3 b s k)) (fun k => x4 (ix1 k)) (fun k => x5 (ix3 b 0 k)) (fun k => x6 (ix3 b 0 k)) d := by
  unfold nrm val_main_v39 val_main_v37 val_main_v36 val_main_v35 val_main_v34 val_main_v33 val_main_v32 val_main_v31 val_main_v30 val_main_v29 val_main_v28 val_main_v27 val_main_v26 val_main_v25 val_main_v24 val_main_v23 val_main_v22 val_main_v21 val_main_v20 val_main_v19 val_main_cst_2 val_main_cst_3 val_main_cst_4 val_main_cst_5
  generalize val_main_v18 (F := Ideal) x0 x1 x2 x3 = z
  pointwise
  rw [mul_assoc _ (x4 (ix1 d))]

theorem ref2_at (r : Fin 16384) (d : Fin 4096) : val_main_v40 (F := Ideal) x0 x1 x2 x3 x4 x5 x6 (ix2 r d) =
    nrm (res (fun k => x0 (ix2 r k)) (fun k => x1 (ix2 r k)) (fun k => x2 (ix1 k)) (fun k => x3 (ix3 ⟨r.val / 8192, by omega⟩ 0 k)))
      (fun k => x4 (ix1 k)) (fun k => x5 (ix3 ⟨r.val / 8192, by omega⟩ 0 k)) (fun k => x6 (ix3 ⟨r.val / 8192, by omega⟩ 0 k)) d := by
  have e : val_main_v40 (F := Ideal) x0 x1 x2 x3 x4 x5 x6 (ix2 r d) =
      val_main_v39 (F := Ideal) x0 x1 x2 x3 x4 x5 x6 (ix3 ⟨r.val / 8192, by omega⟩ ⟨r.val % 8192, by omega⟩ d) := by
    unfold val_main_v40
    generalize val_main_v39 (F := Ideal) x0 x1 x2 x3 x4 x5 x6 = z
    pointwise
  have h : (⟨r.val / 8192 * 8192 + r.val % 8192, by omega⟩ : Fin 16384) = r := Fin.ext (Nat.div_add_mod' r.val 8192)
  rw [e, nrm_at]
  simp only [sum_at, h]

end Reference

open Cert.Kernel8Ideal Cert.Kernel8Ideal.Gen

variable (m : (ℓ : Loc nD τ sig) → Buf (Elt Ideal) ℓ)

/-- The block of each window at a grid point. -/
theorem idx : ∀ t : Fin cfg0.N, win0_0.index t = ![t.val, 0] ∧ win0_1.index t = ![t.val, 0] ∧ win0_2.index t = ![0, 0] ∧
    win0_3.index t = ![t.val / 32, 0, 0] ∧ win0_4.index t = ![0, 0] ∧ win0_5.index t = ![t.val / 32, 0, 0] ∧
    win0_6.index t = ![t.val / 32, 0, 0] ∧ win0_7.index t = ![t.val, 0] ∧ win0_8.index t = ![t.val, 0] :=
  (by decide +kernel : ∀ t : Fin grid0.N, _)

theorem pay2_at (x0 : Vec Ideal S256x4096 .f32) (x1 : Vec Ideal S256x4096 .bf16) (x3 : Vec Ideal S1x1x4096 .f32) (x2 : Vec Ideal S1x4096 .f32) (r : Fin 256) (d : Fin 4096) :
    k0_pay2 (F := Ideal) x0 x1 x3 x2 (ix2 r d) = res (fun k => x0 (ix2 r k)) (fun k => x1 (ix2 r k)) (fun k => x2 (ix2 0 k)) (fun k => x3 (ix3 0 0 k)) d := by
  pointwise [k0_pay2, res]

theorem pay1_at (x0 : Vec Ideal S256x4096 .f32) (x1 : Vec Ideal S256x4096 .bf16) (x3 : Vec Ideal S1x1x4096 .f32) (x2 : Vec Ideal S1x4096 .f32)
    (x4 : Vec Ideal S1x4096 .f32) (x5 x6 : Vec Ideal S1x1x4096 .f32) (r : Fin 256) (d : Fin 4096) :
    k0_pay1 (F := Ideal) (k0_pay3 x0 x1 x3 x2) (k0_pay4 x4) x5 x6 (ix2 r d) =
      nrm (fun k => k0_pay2 (F := Ideal) x0 x1 x3 x2 (ix2 r k)) (fun k => x4 (ix2 0 k)) (fun k => x5 (ix3 0 0 k)) (fun k => x6 (ix3 0 0 k)) d := by
  unfold k0_pay1 k0_pay3 k0_pay4 nrm
  generalize k0_pay2 (F := Ideal) x0 x1 x3 x2 = z
  pointwise

theorem final7 (c : Dev nD) : (dats m 0 c).arrAt 7 (cfgs 0).N = Cert.Reference8Ideal.Read.val_main_v38 (F := Ideal)
    (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7]
  frame_out
  idx_vars y
  have ht : t.val < 64 := t.isLt
  have e : ((View.whole main_v2_0).slice (win0_7.rect t)).emb (ix2 y0 y1) = (ix2 (⟨256 * t.val + y0.val, by omega⟩ : Fin 16384) (y1 : Fin 4096) : Cert.Reference8Ideal.S16384x4096.Idx) := by
    blk_ext [idx t]
  refine Eq.trans ?_ (congrArg (Cert.Reference8Ideal.Read.val_main_v38 (F := Ideal) (m ((c : Thread nD τ).loc main_arg0)) (m ((c : Thread nD τ).loc main_arg1)) (m ((c : Thread nD τ).loc main_arg2)) (m ((c : Thread nD τ).loc main_arg3))) e).symm
  rw [ref1_at, pay2_at]
  blk_point [iblk, V, idx t]

theorem final8 (c : Dev nD) : (dats m 0 c).arrAt 8 (cfgs 0).N = Cert.Reference8Ideal.Read.val_main_v40 (F := Ideal)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t _ y => ?_
  blk_simp
  rw [after0_8]
  frame_out
  idx_vars y
  have ht : t.val < 64 := t.isLt
  have e : ((View.whole main_v2_1).slice (win0_8.rect t)).emb (ix2 y0 y1) = (ix2 (⟨256 * t.val + y0.val, by omega⟩ : Fin 16384) (y1 : Fin 4096) : Cert.Reference8Ideal.S16384x4096.Idx) := by
    blk_ext [idx t]
  refine Eq.trans ?_ (congrArg (Cert.Reference8Ideal.Read.val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) e).symm
  rw [ref2_at, pay1_at, funext (pay2_at _ _ _ _ y0)]
  blk_point [iblk, V, idx t]

end Cert.RowsMid

theorem Cert.RowsMid.algebraic : Cert.algebraic_Kernel8Ideal_Reference8Ideal := by
  pair_intro
  · run_from Cert.Kernel8Ideal.Gen.run_main m g
  · run_from Cert.Reference8Ideal.Value.run m' g'
    · exact (Cert.RowsMid.final7 m c).symm
    · obtain ⟨h0, h1, h2, h3, h4, h5, h6⟩ := hagree c
      refine Eq.trans ?_ (Cert.RowsMid.final8 m c).symm
      rw [← h0, ← h1, ← h2, ← h3, ← h4, ← h5, ← h6]
      rfl

theorem Cert.RowsMid.frame_r : Cert.quiescent_Reference8Ideal := by
  intro m ρ _
  exact (θ_run Cert.Reference8Ideal.defs _ _).mono (fun r h => ⟨fun c => ⟨(h c).2.2.1, (h c).2.2.2.1, (h c).2.2.2.2.1, (h c).2.2.2.2.2.1, (h c).2.2.2.2.2.2.1, (h c).2.2.2.2.2.2.2.1, (h c).2.2.2.2.2.2.2.2⟩,
      sem_eq_zero_of_no_sems (by decide) r.2⟩) (Cert.Reference8Ideal.Value.run (F := Ideal) m ρ)

end
-- ==== Proof.RowsLast.lean ====
/- The rows' last step: the product's norm, scaled and gated, added to the input. -/
module

public import proofs.«01_k».proof.Proof.Gen.Kernel9Ideal.Value
public import proofs.«01_k».proof.Proof.Gen.Reference9Ideal.Read
public import proofs.«01_k».proof.Defs
public import Idealize.ShloMosaic.Lib.Pipeline.ValueKit
public import Idealize.ShloMosaic.Lib.Claim
public import Idealize.ShloMosaic.Lib.Quiescent
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.RowsLast

open Cert.Kernel9Ideal Cert.Kernel9Ideal.Gen

variable (m : (ℓ : Loc nD τ sig) → Buf (Elt Ideal) ℓ)

/-- The block of each window at a grid point. -/
theorem idx : ∀ t : Fin cfg0.N, win0_0.index t = ![t.val, 0] ∧ win0_1.index t = ![t.val, 0] ∧ win0_2.index t = ![0, 0] ∧
    win0_3.index t = ![t.val / 32, 0, 0] ∧ win0_4.index t = ![t.val, 0] :=
  (by decide +kernel : ∀ t : Fin grid0.N, _)

open Cert.Reference9Ideal.Read in
theorem ref_at (x0 : FVec Ideal Cert.Reference9Ideal.S16384x4096 .f32) (x1 : FVec Ideal Cert.Reference9Ideal.S16384x4096 .bf16) (x2 : FVec Ideal Cert.Reference9Ideal.S4096 .f32) (x3 : FVec Ideal Cert.Reference9Ideal.S2x1x4096 .f32) (r : Fin 16384) (d : Fin 4096) :
    val_main_v19 (F := Ideal) x0 x1 x2 x3 (ix2 r d) = x0 (ix2 r d) + x3 (ix3 ⟨r.val / 8192, by omega⟩ 0 d) * (x1 (ix2 r d) * Ideal.rsqrt
              (Ideal.div (∑ x, x1 (ix2 r x) * x1 (ix2 r x)) (Ideal.ofBits FTy.f32 0x45800000#32) + Ideal.ofBits FTy.f32 0x358637BD#32) * x2 (ix1 d)) := by
  pointwise [val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]

theorem final (c : Dev nD) : (dats m 0 c).arrAt 4 (cfgs 0).N = Cert.Reference9Ideal.Read.val_main_v19 (F := Ideal)
    (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  idx_vars y
  have ht : t.val < 64 := lt_of_lt_of_eq t.isLt N_0
  have e : (((cfg0.win 4).blk t).view.emb (ix2 y0 y1)) = (ix2 ⟨256 * t.val + y0.val, by omega⟩ y1 : S16384x4096.Idx) := by
    blk_ext [idx t]
  refine Eq.trans ?_ (congrArg (Cert.Reference9Ideal.Read.val_main_v19 (F := Ideal) (m ((c : Thread nD τ).loc main_arg0)) (m ((c : Thread nD τ).loc main_arg1))
    (m ((c : Thread nD τ).loc main_arg2)) (m ((c : Thread nD τ).loc main_arg3))) e).symm
  rw [ref_at]
  pointwise [k0_pay1]
  blk_point [iblk, V, idx t]

end Cert.RowsLast

theorem Cert.RowsLast.algebraic : Cert.algebraic_Kernel9Ideal_Reference9Ideal := by
  pair_intro
  · run_from Cert.Kernel9Ideal.Gen.run_main m g
  · run_from Cert.Reference9Ideal.Value.run m' g'
    exact (Cert.RowsLast.final m c).symm

theorem Cert.RowsLast.frame_r : Cert.quiescent_Reference9Ideal := by
  intro m ρ _
  exact (θ_run Cert.Reference9Ideal.defs _ _).mono (fun r h => ⟨fun c => ⟨(h c).2.1, (h c).2.2.1, (h c).2.2.2.1, (h c).2.2.2.2⟩,
      sem_eq_zero_of_no_sems (by decide) r.2⟩) (Cert.Reference9Ideal.Value.run (F := Ideal) m ρ)

end
-- ==== Proof.Ret.Math.lean ====
/- The retention over the reals: one row against all positions at once, and the same row from the position's own chunk and a state carried over the chunks before. -/
module

public import Mathlib.Analysis.SpecialFunctions.Exp
public import Mathlib.Analysis.SpecialFunctions.Pow.Real
public import Mathlib.Algebra.BigOperators.Fin

@[expose] public section

noncomputable section

namespace Cert.Ret

/-- The logarithm of a head's decay. -/
def lgR (h : ℕ) : ℝ := Real.log (1 - (2 : ℝ) ^ (-5 - (h : ℝ)))

/-- One element of a row: every position up to the row's own, its score times its decay times its value. -/
def yR (L : ℝ) (q : ℕ → ℝ) (k : ℕ → ℕ → ℝ) (v : ℕ → ℝ) (t : ℕ) : ℝ :=
  ∑ s ∈ Finset.range 8192, (∑ d ∈ Finset.range 64, q d * (k s d * (1 / 8))) * (if s ≤ t then Real.exp (L * ((t : ℝ) - s)) else 0) * v s

/-- One element of the state after `n` chunks. -/
def stR (L : ℝ) (k v : ℕ → ℝ) (n : ℕ) : ℝ :=
  ∑ j ∈ Finset.range (256 * n), k j * (Real.exp (L * (256 * (n : ℝ) - 1 - j)) * (1 / 8)) * v j

theorem stR_zero (L : ℝ) (k v : ℕ → ℝ) : stR L k v 0 = 0 := by simp [stR]

theorem stR_succ (L : ℝ) (k v : ℕ → ℝ) (n : ℕ) : stR L k v (n + 1) = stR L k v n * Real.exp (L * 256) +
    ∑ j ∈ Finset.range 256, k (256 * n + j) * (Real.exp (L * (255 - (j : ℝ))) * (1 / 8)) * v (256 * n + j) := by
  unfold stR
  rw [show 256 * (n + 1) = 256 * n + 256 from by ring, Finset.sum_range_add, Finset.sum_mul]
  refine congrArg₂ _ (Finset.sum_congr rfl fun j _ => ?_) (Finset.sum_congr rfl fun j _ => ?_)
  · rw [show L * (256 * ((n + 1 : ℕ) : ℝ) - 1 - j) = L * (256 * (n : ℝ) - 1 - j) + L * 256 from by push_cast; ring, Real.exp_add]
    ring
  · rw [show L * (256 * ((n + 1 : ℕ) : ℝ) - 1 - ((256 * n + j : ℕ) : ℝ)) = L * (255 - (j : ℝ)) from by push_cast; ring]

/-- The row from its own chunk and the state before. -/
theorem row_real (L : ℝ) (q : ℕ → ℝ) (k : ℕ → ℕ → ℝ) (v : ℕ → ℝ) (n r : ℕ) (hn : n < 32) (hr : r < 256) :
    (∑ j ∈ Finset.range 256, (∑ d ∈ Finset.range 64, q d * k (256 * n + j) d) * ((if j ≤ r then Real.exp (L * ((r : ℝ) - j)) else 0) * (1 / 8)) * v (256 * n + j)) +
      ∑ d ∈ Finset.range 64, q d * Real.exp (L * ((r : ℝ) + 1)) * stR L (fun j => k j d) v n = yR L q k v (256 * n + r) := by
  unfold yR stR
  rw [show 8192 = 256 * n + (256 + (8192 - (256 * n + 256))) from by omega, Finset.sum_range_add, Finset.sum_range_add,
    Finset.sum_eq_zero (s := Finset.range (8192 - (256 * n + 256))), add_zero, add_comm]
  · refine congrArg₂ _ ?_ (Finset.sum_congr rfl fun j _ => ?_)
    · simp only [Finset.mul_sum, Finset.sum_mul]
      rw [Finset.sum_comm]
      refine Finset.sum_congr rfl fun j hj => Finset.sum_congr rfl fun d _ => ?_
      have hj' := Finset.mem_range.mp hj
      rw [if_pos (by omega), show L * (((256 * n + r : ℕ) : ℝ) - j) = L * ((r : ℝ) + 1) + L * (256 * (n : ℝ) - 1 - j) from by push_cast; ring, Real.exp_add]
      ring
    · simp only [Finset.sum_mul]
      refine Finset.sum_congr rfl fun d _ => ?_
      simp only [show (256 * n + j ≤ 256 * n + r) = (j ≤ r) from propext (by omega),
        show L * (((256 * n + r : ℕ) : ℝ) - ((256 * n + j : ℕ) : ℝ)) = L * ((r : ℝ) - j) from by push_cast; ring]
      ring
  · intro j _
    rw [if_neg (by omega)]
    ring

/-- The lanes of one head among the lanes of its pair. -/
theorem head_sum (F : ℕ → ℝ) (h : ℕ) : (∑ l : Fin 128, if l.val / 64 = h % 2 then F (h / 2 * 128 + l.val) else 0) = ∑ d ∈ Finset.range 64, F (h * 64 + d) := by
  rw [Fin.sum_univ_eq_sum_range (fun l => if l / 64 = h % 2 then F (h / 2 * 128 + l) else 0) 128, show 128 = 64 + 64 from rfl, Finset.sum_range_add]
  rcases Nat.mod_two_eq_zero_or_one h with e | e
  · rw [Finset.sum_eq_zero (s := Finset.range 64) (f := fun x => if (64 + x) / 64 = h % 2 then F (h / 2 * (64 + 64) + (64 + x)) else 0), add_zero]
    · refine Finset.sum_congr rfl fun d hd => ?_
      have hd' := Finset.mem_range.mp hd
      rw [if_pos (by omega)]
      exact congrArg F (by omega)
    · intro d hd
      have hd' := Finset.mem_range.mp hd
      rw [if_neg (by omega)]
  · rw [Finset.sum_eq_zero (s := Finset.range 64) (f := fun x => if x / 64 = h % 2 then F (h / 2 * (64 + 64) + x) else 0), zero_add]
    · refine Finset.sum_congr rfl fun d hd => ?_
      have hd' := Finset.mem_range.mp hd
      rw [if_pos (by omega)]
      exact congrArg F (by omega)
    · intro d hd
      have hd' := Finset.mem_range.mp hd
      rw [if_neg (by omega)]

end Cert.Ret
-- ==== Proof.Ret.Reference.lean ====
/- The retention reference over the reals, read at an index. -/
module

public import proofs.«01_k».proof.Proof.Gen.Reference10Ideal.Read
public import proofs.«01_k».proof.Proof.Ret.Math
public import proofs.«01_k».proof.Proof.Fox.Value
public import Idealize.ShloMosaic.Lib.Pointwise
public import Idealize.ShloMosaic.Lib.ValueIdx
public import Idealize.ShloMosaic.Lib.WordCmp

@[expose] public section

set_option maxRecDepth 16384
set_option maxHeartbeats 1000000

noncomputable section

namespace Cert.Ret

open Idealize.ShloMosaic Idealize.ShloMosaic.TcCoe
open Cert.Fox (coe_sum)
open Cert.FoxValue (AllReal rd rd_eq)

/-! ## Scalars -/

theorem word_real {n : ℕ} (h : n < 2 ^ 31) : (FloatOps.sitofp (F := Ideal) .f32 (BitVec.ofNat 32 n) : EReal) = ((n : ℝ) : EReal) := by
  show (((BitVec.ofNat 32 n).toInt : ℝ) : EReal) = _
  rw [BitVec.toInt_eq_toNat_of_lt (by rw [BitVec.toNat_ofNat]; omega), BitVec.toNat_ofNat, Nat.mod_eq_of_lt (by omega)]
  rfl

theorem c1 : Ideal.ofBits .f32 0x3F800000#32 = ((1 : ℝ) : EReal) := by
  simp only [Ideal.ofBits, Ideal.ieee]
  simp
  rw [← EReal.coe_mul, ← EReal.coe_one]
  congr 1
  norm_num

theorem c0 : Ideal.ofBits .f32 0x00000000#32 = ((0 : ℝ) : EReal) := by simp [Ideal.ofBits, Ideal.ieee]

theorem c2 : Ideal.ofBits .f32 0x40000000#32 = ((2 : ℝ) : EReal) := by
  simp only [Ideal.ofBits, Ideal.ieee]
  simp
  rw [← EReal.coe_mul]
  congr 1
  norm_num

theorem c5 : Ideal.ofBits .f32 0xC0A00000#32 = ((-5 : ℝ) : EReal) := by
  simp only [Ideal.ofBits, Ideal.ieee]
  simp
  rw [← EReal.coe_mul]
  norm_num

theorem c31 : Ideal.ofBits .f32 0x41F80000#32 = ((31 : ℝ) : EReal) := by
  simp only [Ideal.ofBits, Ideal.ieee]
  simp
  rw [← EReal.coe_mul]
  congr 1
  norm_num

theorem c10000 : Ideal.ofBits .f32 0x461C4000#32 = ((10000 : ℝ) : EReal) := by
  simp only [Ideal.ofBits, Ideal.ieee]
  simp
  rw [← EReal.coe_mul]
  congr 1
  norm_num

theorem c255 : Ideal.ofBits .f32 0x437F0000#32 = ((255 : ℝ) : EReal) := by
  simp only [Ideal.ofBits, Ideal.ieee]
  simp
  rw [← EReal.coe_mul]
  congr 1
  norm_num

theorem c256 : Ideal.ofBits .f32 0x43800000#32 = ((256 : ℝ) : EReal) := by
  simp only [Ideal.ofBits, Ideal.ieee]
  simp
  rw [← EReal.coe_mul]
  congr 1
  norm_num

theorem c8 : Ideal.ofBits .f32 0x3E000000#32 = ((1 / 8 : ℝ) : EReal) := by
  simp only [Ideal.ofBits, Ideal.ieee]
  simp
  rw [← EReal.coe_mul]
  congr 1
  norm_num

/-- The logarithm of a head's decay, as both programs compute it. -/
theorem lg_eq (h : ℕ) (hh : h < 8) : Ideal.log ((1 : EReal) - Ideal.pow ((2 : ℝ) : EReal) (((-5 : ℝ) : EReal) - ((h : ℝ) : EReal))) = ((lgR h : ℝ) : EReal) := by
  have hp : (2 : ℝ) ^ (-5 - (h : ℝ)) < 1 := Real.rpow_lt_one_of_one_lt_of_neg (by norm_num) (by have : (0 : ℝ) ≤ h := Nat.cast_nonneg h; linarith)
  rw [← EReal.coe_sub, Ideal.pow_coe_coe, ← EReal.coe_one, ← EReal.coe_sub, Ideal.log_coe, if_neg]
  · rfl
  · show ¬ (1 - (2 : ℝ) ^ (-5 - (h : ℝ)) ≤ 0)
    linarith

/-- A row's normed element. -/
def normed (y : Fin 128 → EReal) (e : Fin 128) : EReal :=
  (y e - Ideal.div (∑ e, y e) (Ideal.ofBits .f32 0x43000000#32)) * Ideal.rsqrt (Ideal.div (∑ e, (y e - Ideal.div (∑ e, y e) (Ideal.ofBits .f32 0x43000000#32)) *
    (y e - Ideal.div (∑ e, y e) (Ideal.ofBits .f32 0x43000000#32))) (Ideal.ofBits .f32 0x43000000#32) + Ideal.ofBits .f32 0x3727C5AC#32)

/-- A gate's factor. -/
def silu (g : EReal) : EReal := g * Ideal.logistic g

/-! ## The reference -/

open Cert.Reference10Ideal Cert.Reference10Ideal.Gen Cert.Reference10Ideal.Read

theorem lin_at (f : Fin 32) : ∃ r : ℝ, val_main_v7 (F := Ideal) (ix1 f) = (r : EReal) := by
  have e0 : val_main_call0_v0 (F := Ideal) ix0 = ((0 : ℝ) : EReal) := c0
  have e1 : val_main_call0_v1 (F := Ideal) ix0 = ((1 : ℝ) : EReal) := c1
  have e2 : val_main_call0_cst_1 (F := Ideal) ix0 = ((1 : ℝ) : EReal) := c1
  have e3 : val_main_call0_cst_0 (F := Ideal) ix0 = ((31 : ℝ) : EReal) := c31
  pointwise [val_main_v7, val_main_call0_v15, val_main_call0_v14, val_main_call0_v13, val_main_call0_v12, val_main_call0_v11, val_main_call0_v10,
    val_main_call0_v9, val_main_call0_v8, val_main_call0_v7, val_main_call0_v6, val_main_call0_v5, val_main_call0_v4, val_main_call0_v3, val_main_call0_v16]
  rw [e0, e1, e2, e3, word_real (by omega), Ideal.div_coe (by norm_num)]
  split
  · exact ⟨_, by rw [← EReal.coe_mul, ← EReal.coe_sub, ← EReal.coe_mul, ← EReal.coe_mul, ← EReal.coe_add]⟩
  · exact ⟨_, rfl⟩

theorem ang_at (s : Fin 8192) (f : Fin 32) : ∃ r : ℝ, val_main_v17 (F := Ideal) (ix2 s f) = (r : EReal) := by
  obtain ⟨r, hr⟩ := lin_at f
  have e2 : val_main_cst_2 (F := Ideal) ix0 = ((1 : ℝ) : EReal) := c1
  have e3 : val_main_cst_1 (F := Ideal) ix0 = ((10000 : ℝ) : EReal) := c10000
  pointwise [val_main_v17, val_main_v16, val_main_v15, val_main_v14, val_main_v13, val_main_v12, val_main_v11, val_main_v10, val_main_v9, val_main_v8, val_main_v5]
  rw [hr, e2, e3, word_real (by omega), Ideal.pow_coe_coe, Ideal.div_coe (y := Real.rpow 10000 r) (Real.rpow_pos_of_pos (by norm_num) r).ne']
  exact ⟨_, by rw [← EReal.coe_mul, ← EReal.coe_mul]⟩

/-- The rotation's cosine and sine for a position and a frequency, zero outside. -/
def cosR (s f : ℕ) : ℝ := if h : s < 8192 ∧ f < 32 then (val_main_v18 (F := Ideal) (ix2 ⟨s, h.1⟩ ⟨f, h.2⟩)).toReal else 0
def sinR (s f : ℕ) : ℝ := if h : s < 8192 ∧ f < 32 then (val_main_v20 (F := Ideal) (ix2 ⟨s, h.1⟩ ⟨f, h.2⟩)).toReal else 0

theorem cos_real (s : Fin 8192) (f : Fin 32) : val_main_v18 (F := Ideal) (ix2 s f) = ((cosR s.val f.val : ℝ) : EReal) := by
  obtain ⟨r, hr⟩ := ang_at s f
  have e : val_main_v18 (F := Ideal) (ix2 s f) = ((Real.cos r : ℝ) : EReal) := by
    rw [val_main_v18_apply, hr]
    rfl
  rw [cosR, dif_pos ⟨s.isLt, f.isLt⟩, e, EReal.toReal_coe]

theorem sin_real (s : Fin 8192) (f : Fin 32) : val_main_v20 (F := Ideal) (ix2 s f) = ((sinR s.val f.val : ℝ) : EReal) := by
  obtain ⟨r, hr⟩ := ang_at s f
  have e : val_main_v20 (F := Ideal) (ix2 s f) = ((Real.sin r : ℝ) : EReal) := by
    rw [val_main_v20_apply, hr]
    rfl
  rw [sinR, dif_pos ⟨s.isLt, f.isLt⟩, e, EReal.toReal_coe]

/-- A rotated lane: `c` counts the lanes of all heads, `o` is the first of them in the argument. -/
def ro (x : (⟨3, ![2, 8192, 5120]⟩ : Shape).Idx → EReal) (b : Fin 2) (o s c : ℕ) : ℝ :=
  rd x b s (o + c) * cosR s (c % 32) + (if c % 64 < 32 then rd x b s (o + (c + 32)) * -(sinR s (c % 32)) else rd x b s (o + (c - 32)) * sinR s (c % 32))

variable (x0 : FVec Ideal S2x8192x5120 .bf16) (hx : AllReal x0)
include hx

theorem q_at (b : Fin 2) (h : Fin 8) (t : Fin 8192) (d : Fin 64) : val_main_v35 (F := Ideal) x0 (ix4 b h t d) = ((ro x0 b 0 t.val (h.val * 64 + d.val) : ℝ) : EReal) := by
  pointwise [val_main_v35, val_main_v34, val_main_v33, val_main_v32, val_main_v31, val_main_v30, val_main_v29, val_main_v28, val_main_v27, val_main_v26,
    val_main_v25, val_main_v24, val_main_v23, val_main_v22, val_main_v21, val_main_v19, val_main_v6, val_main_v1, val_main_v0]
  unfold ro
  split
  · rename_i hd
    replace hd : d.val < 32 := hd
    have e : (h.val * 64 + d.val) % 64 < 32 := by omega
    rw [if_pos e, rd_eq hx, rd_eq hx, cos_real, sin_real, ← EReal.coe_mul, ← EReal.coe_mul, ← EReal.coe_sub, mul_neg, ← sub_eq_add_neg]
    dsimp only
    rw [show (h.val * 64 + d.val) % 32 = d.val from by omega, show h.val * 64 + (32 + d.val) = 0 + (h.val * 64 + d.val + 32) from by omega, Nat.zero_add (h.val * 64 + d.val)]
  · rename_i hd
    replace hd : ¬ d.val < 32 := hd
    have e : ¬ (h.val * 64 + d.val) % 64 < 32 := by omega
    rw [if_neg e, rd_eq hx, rd_eq hx, cos_real, sin_real, ← EReal.coe_mul, ← EReal.coe_mul, ← EReal.coe_add]
    dsimp only
    rw [show (h.val * 64 + d.val) % 32 = d.val - 32 from by omega, show h.val * 64 + (32 + (d.val - 32)) = 0 + (h.val * 64 + d.val) from by omega,
      show h.val * 64 + (d.val - 32) = 0 + (h.val * 64 + d.val - 32) from by omega]

theorem k_at (b : Fin 2) (h : Fin 8) (t : Fin 8192) (d : Fin 64) :
    val_main_v67 (F := Ideal) x0 (ix4 b h t d) = ((ro x0 b 512 t.val (h.val * 64 + d.val) * (1 / 8) : ℝ) : EReal) := by
  have e8 : val_main_cst_7 (F := Ideal) ix0 = ((1 / 8 : ℝ) : EReal) := c8
  have ec : val_main_v48 (F := Ideal) = val_main_v18 (F := Ideal) := rfl
  have es : val_main_v50 (F := Ideal) = val_main_v20 (F := Ideal) := rfl
  pointwise [val_main_v67, val_main_v66, val_main_v65, val_main_v64, val_main_v63, val_main_v62, val_main_v61, val_main_v60, val_main_v59, val_main_v58,
    val_main_v57, val_main_v56, val_main_v55, val_main_v54, val_main_v53, val_main_v52, val_main_v51, val_main_v49, val_main_v36, val_main_v2, val_main_v0]
  rw [e8, ec, es, EReal.coe_mul]
  refine congrArg (· * _) ?_
  unfold ro
  split
  · rename_i hd
    replace hd : d.val < 32 := hd
    have e : (h.val * 64 + d.val) % 64 < 32 := by omega
    rw [if_pos e, rd_eq hx, rd_eq hx, cos_real, sin_real, ← EReal.coe_mul, ← EReal.coe_mul, ← EReal.coe_sub, mul_neg, ← sub_eq_add_neg]
    dsimp only
    rw [show (h.val * 64 + d.val) % 32 = d.val from by omega, show h.val * 64 + (32 + d.val) = h.val * 64 + d.val + 32 from by omega]
  · rename_i hd
    replace hd : ¬ d.val < 32 := hd
    have e : ¬ (h.val * 64 + d.val) % 64 < 32 := by omega
    rw [if_neg e, rd_eq hx, rd_eq hx, cos_real, sin_real, ← EReal.coe_mul, ← EReal.coe_mul, ← EReal.coe_add]
    dsimp only
    rw [show (h.val * 64 + d.val) % 32 = d.val - 32 from by omega, show h.val * 64 + (32 + (d.val - 32)) = h.val * 64 + d.val from by omega,
      show h.val * 64 + (d.val - 32) = h.val * 64 + d.val - 32 from by omega]

omit hx in
theorem decay_at (h : Fin 8) (t s : Fin 8192) :
    val_main_v94 (F := Ideal) (ix3 h t s) = (((if s.val ≤ t.val then Real.exp (lgR h.val * ((t.val : ℝ) - s.val)) else 0) : ℝ) : EReal) := by
  have e1 : val_main_cst_10 (F := Ideal) ix0 = (1 : EReal) := c1
  have e2 : val_main_cst_9 (F := Ideal) ix0 = ((2 : ℝ) : EReal) := c2
  have e3 : val_main_cst_8 (F := Ideal) ix0 = ((-5 : ℝ) : EReal) := c5
  have e4 : val_main_cst_12 (F := Ideal) ix0 = ((0 : ℝ) : EReal) := c0
  pointwise [val_main_v94, val_main_v93, val_main_v92, val_main_v91, val_main_v90, val_main_v89, val_main_v88, val_main_v87, val_main_v86, val_main_v85,
    val_main_v84, val_main_v83, val_main_v82, val_main_v81, val_main_v80, val_main_v79, val_main_v78, val_main_v77, val_main_v76, val_main_v75, val_main_v74,
    val_main_v73, val_main_v72, val_main_v71, val_main_v70, val_main_call2_v1, val_main_call2_v2, val_main_call2_v0]
  have e11 : val_main_cst_11 (F := Ideal) ix0 = ((0 : ℝ) : EReal) := c0
  have e13 : id (val_main_cst_13 (F := Ideal)) ix0 = ((0 : ℝ) : EReal) := c0
  rw [e1, e2, e3, e4, e11, e13, word_real (by omega), word_real (by omega), word_real (by omega), lg_eq _ h.isLt, ← EReal.coe_sub]
  by_cases hs : s.val ≤ t.val
  · have hr : (0 : ℝ) ≤ (t.val : ℝ) - s.val := sub_nonneg.mpr (Nat.cast_le.mpr hs)
    rw [if_pos (EReal.coe_le_coe_iff.mpr hr), if_pos hs, max_eq_left (EReal.coe_le_coe_iff.mpr hr), ← EReal.coe_mul, Ideal.exp_coe]
  · have hr : ¬ (0 : ℝ) ≤ (t.val : ℝ) - s.val := fun h => hs (Nat.cast_le.mp (sub_nonneg.mp h))
    rw [if_neg (fun h => hr (EReal.coe_le_coe_iff.mp h)), if_neg hs]

omit hx in
theorem v_at (b : Fin 2) (h : Fin 8) (t : Fin 8192) (d : Fin 128) : val_main_v69 (F := Ideal) x0 (ix4 b h t d) = x0 (ix3 b t ⟨1024 + (h.val * 128 + d.val), by omega⟩) := by
  pointwise [val_main_v69, val_main_v68, val_main_v3, val_main_v0]

theorem y_at (b : Fin 2) (h : Fin 8) (t : Fin 8192) (e : Fin 128) : val_main_v99 (F := Ideal) x0 (ix4 b h t e) =
    ((yR (lgR h.val) (fun d => ro x0 b 0 t.val (h.val * 64 + d)) (fun s d => ro x0 b 512 s (h.val * 64 + d)) (fun s => rd x0 b s (1024 + (h.val * 128 + e.val))) t.val : ℝ) : EReal) := by
  have hs : ∀ s : Fin 8192, val_main_v98 (F := Ideal) x0 (ix4 b h t s) =
      (∑ d : Fin 64, val_main_v35 (F := Ideal) x0 (ix4 b h t d) * val_main_v67 (F := Ideal) x0 (ix4 b h s d)) * val_main_v94 (F := Ideal) (ix3 h t s) := by
    intro s
    pointwise [val_main_v98, val_main_v97, val_main_v96, val_main_v95]
  have hy : val_main_v99 (F := Ideal) x0 (ix4 b h t e) = ∑ s : Fin 8192, val_main_v98 (F := Ideal) x0 (ix4 b h t s) * val_main_v69 (F := Ideal) x0 (ix4 b h s e) := by
    pointwise [val_main_v99]
  rw [hy, yR, Finset.sum_range, coe_sum]
  refine Finset.sum_congr rfl fun s _ => ?_
  rw [hs, decay_at, v_at, rd_eq hx, EReal.coe_mul, EReal.coe_mul, Finset.sum_range, coe_sum]
  refine congrArg (· * _ * _) (Finset.sum_congr rfl fun d _ => ?_)
  rw [q_at x0 hx, k_at x0 hx, EReal.coe_mul, EReal.coe_mul, EReal.coe_mul]

omit hx in
theorem out_at (b : Fin 2) (h : Fin 8) (t : Fin 8192) (e : Fin 128) :
    val_main_v122 (F := Ideal) x0 (ix3 b t ⟨h.val * 128 + e.val, by omega⟩) = silu (x0 (ix3 b t ⟨2048 + (h.val * 128 + e.val), by omega⟩)) *
      normed (fun e => val_main_v99 (F := Ideal) x0 (ix4 b h t e)) e := by
  have e14 : val_main_cst_14 (F := Ideal) (Shape.Idx.first h_S_) = 0 := c0
  have e16 : val_main_cst_16 (F := Ideal) (Shape.Idx.first h_S_) = 0 := c0
  pointwise [val_main_v122, val_main_v121, val_main_v120, val_main_v119, val_main_v118, val_main_v117, val_main_v116, val_main_v115, val_main_v114, val_main_v113,
    val_main_v112, val_main_v111, val_main_v110, val_main_v109, val_main_v108, val_main_v107, val_main_v106, val_main_v105, val_main_v104, val_main_v103,
    val_main_v102, val_main_v101, val_main_v100, val_main_v4, val_main_v0, val_main_call3_v5, val_main_call3_v4, val_main_call3_v3, val_main_call3_v2, val_main_call3_v1, val_main_call3_v0]
  have e15 : val_main_cst_15 (F := Ideal) ix0 = Ideal.ofBits .f32 0x43000000#32 := rfl
  have e17 : val_main_cst_17 (F := Ideal) ix0 = Ideal.ofBits .f32 0x43000000#32 := rfl
  have e18 : val_main_cst_18 (F := Ideal) ix0 = Ideal.ofBits .f32 0x3727C5AC#32 := rfl
  have f0 : val_main_call3_cst (F := Ideal) ix0 = 1 := c1
  have f1 : val_main_call3_cst_0 (F := Ideal) ix0 = 1 := c1
  rw [e14, e15, e16, e17, e18, f0, f1]
  simp only [zero_add, silu, normed, Ideal.logistic]

end Cert.Ret
-- ==== Proof.Ret.Block.lean ====
/- One chunk of the retention's kernel: what the body leaves in its state and in its result block, as functions of the blocks it reads
   and of the state before. -/
module

public import proofs.«01_k».proof.Proof.Gen.Kernel10Ideal.Value
public import proofs.«01_k».proof.Proof.Ret.Reference
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384
set_option maxHeartbeats 2000000

noncomputable section

open Idealize.ShloMosaic Idealize.ShloMosaic.TcCoe Idealize.SL.Sem
open Idealize.ShloMosaic.Pipeline (Dat)

namespace Cert.Ret
open Cert.Kernel10Ideal Cert.Kernel10Ideal.Gen

/-- The body's mask: the lane lies in the first half of its head. -/
theorem sel (l : Fin 128) (a b : EReal) :
    Scalar.select (IntOp.cmpi .eq (IntOp.andi (BitVec.ofNat 32 l.val) 32#32) 0#32) a b = if l.val % 64 < 32 then a else b := by
  have h : ∀ l : Fin 128, IntOp.cmpi .eq (IntOp.andi (BitVec.ofNat 32 l.val) 32#32) 0#32 = if l.val % 64 < 32 then 1#1 else 0#1 := by decide +kernel
  rw [h]
  split <;> rfl

/-- A lane of a pair of heads among the lanes of all heads. -/
def col (p : Fin 4) (l : Fin 128) : Fin 512 := ⟨p.val * 128 + l.val, by omega⟩

/-- A lane of a pair's values among the values of all heads. -/
def vcol (p : Fin 4) (e : Fin 256) : Fin 1024 := ⟨p.val * 256 + e.val, by omega⟩

/-- The rotated block at a row and a lane of a pair of heads. -/
def rot (x : Vec Ideal S1x256x512 .bf16) (cs sn : Vec Ideal S256x128 .f32) (r : Fin 256) (p : Fin 4) (l : Fin 128) : EReal :=
  x (ix3 0 r (col p l)) * cs (ix2 r l) + (if l.val % 64 < 32 then x (ix3 0 r (col p ⟨(l.val + 128 - 96) % 128, Nat.mod_lt _ (by decide)⟩))
    else x (ix3 0 r (col p ⟨(l.val + 128 - 32) % 128, Nat.mod_lt _ (by decide)⟩))) * sn (ix2 r l)

/-- The state after a chunk. -/
def stepS (x1 : Vec Ideal S1x256x512 .bf16) (x2 : Vec Ideal S1x256x1024 .bf16) (x4 x5 : Vec Ideal S256x128 .f32) (x8 : Vec Ideal S256x512 .f32)
    (x9 : Vec Ideal S4x128x256 .f32) (x10 : Vec Ideal S128x256 .f32) (S : Fin 4 → Fin 128 → Fin 256 → EReal) (p : Fin 4) (l : Fin 128) (e : Fin 256) : EReal :=
  S p l e * x9 (ix3 p l e) + (∑ j : Fin 256, rot x1 x4 x5 j p l * x8 (ix2 j (col p l)) * x2 (ix3 0 j (vcol p e))) * x10 (ix2 l e)

/-- One of two values, by whether two numbers agree. -/
def pick (i j : ℕ) (a b : EReal) : EReal := if i = j then a else b

/-- The head's mask, for the first and for the second head of a pair. -/
theorem selLow (l : Fin 128) (a b : EReal) :
    Scalar.select (IntOp.cmpi .slt (BitVec.ofNat 32 l.val) 64#32) a b = pick (l.val / 64) 0 a b := by
  have h : ∀ l : Fin 128, IntOp.cmpi .slt (BitVec.ofNat 32 l.val) 64#32 = if l.val / 64 = 0 then 1#1 else 0#1 := by decide +kernel
  rw [h]
  unfold pick
  split <;> rfl

theorem selHigh (l : Fin 128) (a b : EReal) :
    Scalar.select (IntOp.xori (IntOp.cmpi .slt (BitVec.ofNat 32 l.val) 64#32) 1#1) a b = pick (l.val / 64) 1 a b := by
  have h : ∀ l : Fin 128, IntOp.xori (IntOp.cmpi .slt (BitVec.ofNat 32 l.val) 64#32) 1#1 = if l.val / 64 = 1 then 1#1 else 0#1 := by decide +kernel
  rw [h]
  unfold pick
  split <;> rfl

/-- The score of a row and a row of the same chunk, for a head. -/
def score (x0 x1 : Vec Ideal S1x256x512 .bf16) (x4 x5 : Vec Ideal S256x128 .f32) (h : Fin 8) (r j : Fin 256) : EReal :=
  ∑ l : Fin 128, pick (l.val / 64) (h.val % 2) (rot x0 x4 x5 r ⟨h.val / 2, by omega⟩ l * rot x1 x4 x5 j ⟨h.val / 2, by omega⟩ l) 0

/-- A head's row before the norm: the part from the row's own chunk, and the part from the state before. -/
def row (x0 x1 : Vec Ideal S1x256x512 .bf16) (x2 : Vec Ideal S1x256x1024 .bf16) (x4 x5 : Vec Ideal S256x128 .f32) (x6 : Vec Ideal S8x256x256 .f32)
    (x7 : Vec Ideal S256x512 .f32) (S : Fin 4 → Fin 128 → Fin 256 → EReal) (h : Fin 8) (r : Fin 256) (e : Fin 128) : EReal :=
  (∑ j : Fin 256, score x0 x1 x4 x5 h r j * x6 (ix3 h r j) * x2 (ix3 0 j ⟨h.val / 2 * 256 + (h.val % 2 * 128 + e.val), by omega⟩)) +
    ∑ l : Fin 128, rot x0 x4 x5 r ⟨h.val / 2, by omega⟩ l * x7 (ix2 r (col ⟨h.val / 2, by omega⟩ l)) * S ⟨h.val / 2, by omega⟩ l ⟨h.val % 2 * 128 + e.val, by omega⟩

end Cert.Ret
-- ==== Proof.Ret.State.lean ====
/- The state that a point of the retention's grid leaves. -/
module

public import proofs.«01_k».proof.Proof.Ret.Block
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384
set_option maxHeartbeats 2000000

noncomputable section

open Idealize.ShloMosaic Idealize.ShloMosaic.TcCoe Idealize.SL.Sem
open Idealize.ShloMosaic.Pipeline (Dat)

namespace Cert.Ret
open Cert.Kernel10Ideal Cert.Kernel10Ideal.Gen

variable (m : (ℓ : Loc nD τ sig) → Buf (Elt Ideal) ℓ)

theorem stepB (c : Dev nD) (t : Fin cfg0.N) (h : ¬ t.val % 32 = 0) (l : Fin 128) (e : Fin 256) (p : Fin 4) : (outsAt0 m c t.val t.isLt).2 (ix3 p l e) =
    stepS (iblk m c 1 t) (iblk m c 2 t) (iblk m c 4 t) (iblk m c 5 t) (iblk m c 8 t) (iblk m c 9 t) (iblk m c 10 t)
      (fun p l e => (outsAt0 m c (t.val - 1) (Nat.lt_of_le_of_lt (Nat.sub_le _ _) t.isLt)).2 (ix3 p l e)) p l e := by
  rw [outsAt0_B m c t h]
  frame_out
  generalize (outsAt0 m c (t.val - 1) (Nat.lt_of_le_of_lt (Nat.sub_le _ _) t.isLt)).2 = S
  generalize iblk m c 1 t = x1, iblk m c 2 t = x2, iblk m c 4 t = x4, iblk m c 5 t = x5, iblk m c 8 t = x8, iblk m c 9 t = x9, iblk m c 10 t = x10
  canon_tiles y hy
  all_goals
    open_payloads
    rw [read_unread_whole]
    idx_vars y
    change p.val = _ at hy0
    change l.val = _ at hy1
    change e.val = _ at hy2
    pointwise
    simp only [sel]
    obtain ⟨p, hp⟩ := p
    obtain rfl : y1 = l := Fin.ext hy1.symm
    obtain rfl : y2 = e := Fin.ext hy2.symm
    simp only [Fin.val_zero, Nat.add_zero, Nat.zero_add, Fin.val_eq_zero] at hy0
    subst hy0
    simp only [stepS, rot, col, vcol, Nat.reduceMul, Nat.zero_mul, Nat.zero_add, Fin.reduceFinMk, Fin.zero_eta, Fin.mk_one]

/-- Stores older than a list of stores do not show where the list covers. -/
theorem canon_append_covered {s : Shape} {e : EltTy} {Val : EltTy → Type} [∀ e, Nonempty (Val e)] (L' : List (View.Piece Val s e)) :
    ∀ (L : List (View.Piece Val s e)) (y : s.Idx) (_ : ∃ p ∈ L, y ∈ p.1.set), View.canon (L ++ L') y = View.canon L y
  | [], _, hy => by obtain ⟨p, hp, _⟩ := hy; simp at hp
  | p :: L, y, hy => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_append_covered L' L y ?_
      obtain ⟨q, hq, hyq⟩ := hy
      rcases List.mem_cons.mp hq with rfl | hq'
      · exact absurd hyq hm
      · exact ⟨q, hq', hyq⟩

theorem slab_mem (o : Nat) (inb : ∀ a, (![o, 0, 0] : Fin 3 → Nat) a + (![1, 128, 256] : Fin 3 → Nat) a ≤ S4x128x256.size a) (p : Fin 4) (hp : p.val = o)
    (l : Fin 128) (e : Fin 256) : (ix3 p l e : S4x128x256.Idx) ∈ (Rect.unit (s := S4x128x256) ![o, 0, 0] ![1, 128, 256] inb).set := by
  rw [Rect.mem_set_unit]
  subst hp
  intro a
  have h1 := l.isLt
  have h2 := e.isLt
  match a with
  | ⟨0, _⟩ => exact ⟨Nat.le_refl _, Nat.lt_succ_self _⟩
  | ⟨1, _⟩ => exact ⟨Nat.zero_le _, (by omega : l.val < 0 + 128)⟩
  | ⟨2, _⟩ => exact ⟨Nat.zero_le _, (by omega : e.val < 0 + 256)⟩

theorem stepA (c : Dev nD) (t : Fin cfg0.N) (h : t.val % 32 = 0) (l : Fin 128) (e : Fin 256) (p : Fin 4) : (outsAt0 m c t.val t.isLt).2 (ix3 p l e) =
    stepS (iblk m c 1 t) (iblk m c 2 t) (iblk m c 4 t) (iblk m c 5 t) (iblk m c 8 t) (iblk m c 9 t) (iblk m c 10 t)
      (fun p l e => 0) p l e := by
  rw [outsAt0_A m c t h]
  frame_out
  generalize iblk m c 1 t = x1, iblk m c 2 t = x2, iblk m c 4 t = x4, iblk m c 5 t = x5, iblk m c 8 t = x8, iblk m c 9 t = x9, iblk m c 10 t = x10
  simp (disch := decide) only [↓View.readCov_skip, View.readCov_fill]
  refine (canon_append_covered [_] [_, _, _, _] _ ?_).trans ?_
  · obtain ⟨p, hp⟩ := p
    have : p = 0 ∨ p = 1 ∨ p = 2 ∨ p = 3 := by omega
    rcases this with rfl | rfl | rfl | rfl
    · exact ⟨_, .tail _ (.tail _ (.tail _ (.head _))), slab_mem 0 inb_S4x128x256_S1x128x256_0_0_0 _ rfl _ _⟩
    · exact ⟨_, .tail _ (.tail _ (.head _)), slab_mem 1 inb_S4x128x256_S1x128x256_1_0_0 _ rfl _ _⟩
    · exact ⟨_, .tail _ (.head _), slab_mem 2 inb_S4x128x256_S1x128x256_2_0_0 _ rfl _ _⟩
    · exact ⟨_, .head _, slab_mem 3 inb_S4x128x256_S1x128x256_3_0_0 _ rfl _ _⟩
  canon_tiles y hy
  all_goals
    open_payloads
    idx_vars y
    change p.val = _ at hy0
    change l.val = _ at hy1
    change e.val = _ at hy2
    pointwise
    simp only [sel]
    obtain ⟨p, hp⟩ := p
    obtain rfl : y1 = l := Fin.ext hy1.symm
    obtain rfl : y2 = e := Fin.ext hy2.symm
    simp only [Fin.val_zero, Nat.add_zero, Nat.zero_add, Fin.val_eq_zero] at hy0
    subst hy0
    simp only [stepS, rot, col, vcol, Nat.reduceMul, Nat.zero_mul, Nat.zero_add, Fin.reduceFinMk, Fin.zero_eta, Fin.mk_one]

end Cert.Ret
-- ==== Proof.Ret.OutA.lean ====
/- The result block that a point of the retention's grid leaves where a sequence starts. -/
module

public import proofs.«01_k».proof.Proof.Ret.Block
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384
set_option maxHeartbeats 2000000

noncomputable section

open Idealize.ShloMosaic Idealize.ShloMosaic.TcCoe Idealize.SL.Sem
open Idealize.ShloMosaic.Pipeline (Dat)

namespace Cert.Ret
open Cert.Kernel10Ideal Cert.Kernel10Ideal.Gen

variable (m : (ℓ : Loc nD τ sig) → Buf (Elt Ideal) ℓ)

theorem outA (c : Dev nD) (t : Fin cfg0.N) (ht : t.val % 32 = 0) (r : Fin 256) (h : Fin 8) (e : Fin 128) :
    (outsAt0 m c t.val t.isLt).1 (ix3 0 r ⟨h.val * 128 + e.val, by omega⟩) = silu (iblk m c 3 t (ix3 0 r ⟨h.val * 128 + e.val, by omega⟩)) *
      normed (row (iblk m c 0 t) (iblk m c 1 t) (iblk m c 2 t) (iblk m c 4 t) (iblk m c 5 t) (iblk m c 6 t) (iblk m c 7 t)
        (fun p l e => 0) h r) e := by
  rw [outsAt0_A m c t ht]
  frame_out
  generalize iblk m c 0 t = x0, iblk m c 1 t = x1, iblk m c 2 t = x2, iblk m c 3 t = x3, iblk m c 4 t = x4, iblk m c 5 t = x5, iblk m c 6 t = x6, iblk m c 7 t = x7
  simp (disch := decide) only [↓View.readCov_skip, View.readCov_fill]
  canon_tiles y hy
  all_goals
    open_payloads
    idx_vars y
    change r.val = _ at hy1
    change h.val * 128 + e.val = _ at hy2
    pointwise
    simp only [sel, selLow, selHigh]
    obtain ⟨h, h'⟩ := h
    obtain rfl : y1 = r := Fin.ext hy1.symm
    obtain rfl : y2 = e := Fin.ext (by dsimp only at hy2; omega)
    dsimp only at hy2
    have hh : h = 0 ∨ h = 1 ∨ h = 2 ∨ h = 3 ∨ h = 4 ∨ h = 5 ∨ h = 6 ∨ h = 7 := by omega
    rcases hh with rfl | rfl | rfl | rfl | rfl | rfl | rfl | rfl <;> first | (exfalso; omega) | skip
    simp only [silu, normed, row, score, rot, col, vcol, Nat.reduceMul, Nat.reduceDiv, Nat.reduceMod, Nat.zero_mul, Nat.zero_add, Fin.reduceFinMk, Fin.zero_eta, Fin.mk_one]

end Cert.Ret
-- ==== Proof.Ret.OutB.lean ====
/- The result block that a point of the retention's grid leaves inside a sequence. -/
module

public import proofs.«01_k».proof.Proof.Ret.Block
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384
set_option maxHeartbeats 2000000

noncomputable section

open Idealize.ShloMosaic Idealize.ShloMosaic.TcCoe Idealize.SL.Sem
open Idealize.ShloMosaic.Pipeline (Dat)

namespace Cert.Ret
open Cert.Kernel10Ideal Cert.Kernel10Ideal.Gen

variable (m : (ℓ : Loc nD τ sig) → Buf (Elt Ideal) ℓ)

theorem outB (c : Dev nD) (t : Fin cfg0.N) (ht : ¬ t.val % 32 = 0) (r : Fin 256) (h : Fin 8) (e : Fin 128) :
    (outsAt0 m c t.val t.isLt).1 (ix3 0 r ⟨h.val * 128 + e.val, by omega⟩) = silu (iblk m c 3 t (ix3 0 r ⟨h.val * 128 + e.val, by omega⟩)) *
      normed (row (iblk m c 0 t) (iblk m c 1 t) (iblk m c 2 t) (iblk m c 4 t) (iblk m c 5 t) (iblk m c 6 t) (iblk m c 7 t)
        (fun p l e => (outsAt0 m c (t.val - 1) (Nat.lt_of_le_of_lt (Nat.sub_le _ _) t.isLt)).2 (ix3 p l e)) h r) e := by
  rw [outsAt0_B m c t ht]
  frame_out
  generalize (outsAt0 m c (t.val - 1) (Nat.lt_of_le_of_lt (Nat.sub_le _ _) t.isLt)).2 = S
  generalize iblk m c 0 t = x0, iblk m c 1 t = x1, iblk m c 2 t = x2, iblk m c 3 t = x3, iblk m c 4 t = x4, iblk m c 5 t = x5, iblk m c 6 t = x6, iblk m c 7 t = x7
  canon_tiles y hy
  all_goals
    open_payloads
    rw [read_unread_whole]
    idx_vars y
    change r.val = _ at hy1
    change h.val * 128 + e.val = _ at hy2
    pointwise
    simp only [sel, selLow, selHigh]
    obtain ⟨h, h'⟩ := h
    obtain rfl : y1 = r := Fin.ext hy1.symm
    obtain rfl : y2 = e := Fin.ext (by dsimp only at hy2; omega)
    dsimp only at hy2
    have hh : h = 0 ∨ h = 1 ∨ h = 2 ∨ h = 3 ∨ h = 4 ∨ h = 5 ∨ h = 6 ∨ h = 7 := by omega
    rcases hh with rfl | rfl | rfl | rfl | rfl | rfl | rfl | rfl <;> first | (exfalso; omega) | skip
    simp only [silu, normed, row, score, rot, col, vcol, Nat.reduceMul, Nat.reduceDiv, Nat.reduceMod, Nat.zero_mul, Nat.zero_add, Fin.reduceFinMk, Fin.zero_eta, Fin.mk_one]

end Cert.Ret
-- ==== Proof.Ret.Real.lean ====
/- One point of the retention's grid over the reals: the rotated lanes, the state it leaves and its rows. -/
module

public import proofs.«01_k».proof.Proof.Ret.Block
public import proofs.«01_k».proof.Proof.Ret.Math

@[expose] public section

set_option maxRecDepth 16384
set_option maxHeartbeats 1000000

noncomputable section

open Idealize.ShloMosaic Idealize.ShloMosaic.TcCoe Idealize.SL.Sem

namespace Cert.Ret
open Cert.Kernel10Ideal Cert.Kernel10Ideal.Gen
open Cert.FoxValue (AllReal rd rd_eq)
open Cert.Fox (coe_sum)

/-- A block's rotated lane, from the block's and the tables' elements. -/
theorem rot_real (z : (⟨3, ![2, 8192, 5120]⟩ : Shape).Idx → EReal) (b : Fin 2) (o n : ℕ) (x : Vec Ideal S1x256x512 .bf16) (cs sn : Vec Ideal S256x128 .f32)
    (hx : ∀ (r : Fin 256) (c : Fin 512), x (ix3 0 r c) = ((rd z b (256 * n + r.val) (o + c.val) : ℝ) : EReal))
    (hc : ∀ (r : Fin 256) (l : Fin 128), cs (ix2 r l) = ((cosR (256 * n + r.val) (l.val % 32) : ℝ) : EReal))
    (hs : ∀ (r : Fin 256) (l : Fin 128), sn (ix2 r l)
      = (((if l.val % 64 < 32 then -(sinR (256 * n + r.val) (l.val % 32)) else sinR (256 * n + r.val) (l.val % 32)) : ℝ) : EReal))
    (r : Fin 256) (p : Fin 4) (l : Fin 128) : rot x cs sn r p l = ((ro z b o (256 * n + r.val) (p.val * 128 + l.val) : ℝ) : EReal) := by
  have e1 : (p.val * 128 + l.val) % 32 = l.val % 32 := by omega
  have e2 : (p.val * 128 + l.val) % 64 = l.val % 64 := by omega
  unfold rot ro
  rw [e1, e2, hx, hc, hs]
  by_cases h : l.val % 64 < 32
  · have e3 : (col p ⟨(l.val + 128 - 96) % 128, Nat.mod_lt _ (by decide)⟩).val = p.val * 128 + l.val + 32 := by
      simp only [col]
      omega
    rw [if_pos h, if_pos h, if_pos h, hx, e3, ← EReal.coe_mul, ← EReal.coe_mul, ← EReal.coe_add]
    rfl
  · have e3 : (col p ⟨(l.val + 128 - 32) % 128, Nat.mod_lt _ (by decide)⟩).val = p.val * 128 + l.val - 32 := by
      simp only [col]
      omega
    rw [if_neg h, if_neg h, if_neg h, hx, e3, ← EReal.coe_mul, ← EReal.coe_mul, ← EReal.coe_add]
    rfl

/-- The state's element after `n` chunks of a batch: nothing outside a pair's two diagonal blocks. -/
def stV (z : (⟨3, ![2, 8192, 5120]⟩ : Shape).Idx → EReal) (b : Fin 2) (n p l e : ℕ) : ℝ :=
  if l / 64 = e / 128 then stR (lgR ((p * 128 + l) / 64)) (fun j => ro z b 512 j (p * 128 + l)) (fun j => rd z b j (1024 + (p * 256 + e))) n else 0

theorem stV_zero (z : (⟨3, ![2, 8192, 5120]⟩ : Shape).Idx → EReal) (b : Fin 2) (p l e : ℕ) : stV z b 0 p l e = 0 := by
  unfold stV
  rw [stR_zero, ite_self]

variable (z : (⟨3, ![2, 8192, 5120]⟩ : Shape).Idx → EReal) (b : Fin 2) (n : ℕ) (x0 x1 : Vec Ideal S1x256x512 .bf16) (x2 : Vec Ideal S1x256x1024 .bf16)
  (x4 x5 : Vec Ideal S256x128 .f32) (x6 : Vec Ideal S8x256x256 .f32) (x7 x8 : Vec Ideal S256x512 .f32) (x9 : Vec Ideal S4x128x256 .f32)
  (x10 : Vec Ideal S128x256 .f32) (S : Fin 4 → Fin 128 → Fin 256 → EReal)
  (hk : ∀ (j : Fin 256) (p : Fin 4) (l : Fin 128), rot x1 x4 x5 j p l = ((ro z b 512 (256 * n + j.val) (p.val * 128 + l.val) : ℝ) : EReal))
  (h2 : ∀ (j : Fin 256) (c : Fin 1024), x2 (ix3 0 j c) = ((rd z b (256 * n + j.val) (1024 + c.val) : ℝ) : EReal))
  (hS : ∀ (p : Fin 4) (l : Fin 128) (e : Fin 256), S p l e = ((stV z b n p.val l.val e.val : ℝ) : EReal))
include hk h2 hS

theorem step_real (h8 : ∀ (j : Fin 256) (c : Fin 512), x8 (ix2 j c) = ((Real.exp (lgR (c.val / 64) * (255 - (j.val : ℝ))) * (1 / 8) : ℝ) : EReal))
    (h9 : ∀ (p : Fin 4) (l : Fin 128) (e : Fin 256), x9 (ix3 p l e) = ((Real.exp (lgR ((p.val * 128 + l.val) / 64) * 256) : ℝ) : EReal))
    (h10 : ∀ (l : Fin 128) (e : Fin 256), x10 (ix2 l e) = (((if l.val / 64 = e.val / 128 then 1 else 0) : ℝ) : EReal))
    (p : Fin 4) (l : Fin 128) (e : Fin 256) : stepS x1 x2 x4 x5 x8 x9 x10 S p l e = ((stV z b (n + 1) p.val l.val e.val : ℝ) : EReal) := by
  have hs : (∑ j : Fin 256, rot x1 x4 x5 j p l * x8 (ix2 j (col p l)) * x2 (ix3 0 j (vcol p e)))
      = ((∑ j ∈ Finset.range 256, ro z b 512 (256 * n + j) (p.val * 128 + l.val) *
        (Real.exp (lgR ((p.val * 128 + l.val) / 64) * (255 - (j : ℝ))) * (1 / 8)) * rd z b (256 * n + j) (1024 + (p.val * 256 + e.val)) : ℝ) : EReal) := by
    rw [Finset.sum_range, coe_sum]
    refine Finset.sum_congr rfl fun j _ => ?_
    rw [hk, h8, h2, ← EReal.coe_mul, ← EReal.coe_mul]
    rfl
  unfold stepS
  rw [hs, hS, h9, h10, ← EReal.coe_mul, ← EReal.coe_mul, ← EReal.coe_add]
  refine congrArg _ ?_
  unfold stV
  by_cases h : l.val / 64 = e.val / 128
  · rw [if_pos h, if_pos h, if_pos h, stR_succ, mul_one]
  · rw [if_neg h, if_neg h, if_neg h, mul_zero, zero_mul, add_zero]

theorem row_at (hn : n < 32)
    (hq : ∀ (r : Fin 256) (p : Fin 4) (l : Fin 128), rot x0 x4 x5 r p l = ((ro z b 0 (256 * n + r.val) (p.val * 128 + l.val) : ℝ) : EReal))
    (h6 : ∀ (h : Fin 8) (i j : Fin 256), x6 (ix3 h i j)
      = (((if j.val ≤ i.val then Real.exp (lgR h.val * ((i.val : ℝ) - j.val)) else 0) * (1 / 8) : ℝ) : EReal))
    (h7 : ∀ (r : Fin 256) (c : Fin 512), x7 (ix2 r c) = ((Real.exp (lgR (c.val / 64) * ((r.val : ℝ) + 1)) : ℝ) : EReal))
    (h : Fin 8) (r : Fin 256) (e : Fin 128) : row x0 x1 x2 x4 x5 x6 x7 S h r e
      = ((yR (lgR h.val) (fun d => ro z b 0 (256 * n + r.val) (h.val * 64 + d)) (fun s d => ro z b 512 s (h.val * 64 + d))
        (fun s => rd z b s (1024 + (h.val * 128 + e.val))) (256 * n + r.val) : ℝ) : EReal) := by
  have hs : ∀ j : Fin 256, score x0 x1 x4 x5 h r j
      = ((∑ d ∈ Finset.range 64, ro z b 0 (256 * n + r.val) (h.val * 64 + d) * ro z b 512 (256 * n + j.val) (h.val * 64 + d) : ℝ) : EReal) := by
    intro j
    unfold score pick
    rw [← head_sum (fun c => ro z b 0 (256 * n + r.val) c * ro z b 512 (256 * n + j.val) c) h.val, coe_sum]
    refine Finset.sum_congr rfl fun l _ => ?_
    rw [hq, hk]
    by_cases hl : l.val / 64 = h.val % 2
    · rw [if_pos hl, if_pos hl]
      exact (EReal.coe_mul _ _).symm
    · rw [if_neg hl, if_neg hl]
      rfl
  have hv : h.val / 2 * 256 + (h.val % 2 * 128 + e.val) = h.val * 128 + e.val := by omega
  rw [← row_real _ _ _ _ n r.val hn r.isLt, EReal.coe_add]
  unfold row
  refine congrArg₂ (· + ·) ?_ ?_
  · rw [Finset.sum_range, coe_sum]
    refine Finset.sum_congr rfl fun j _ => ?_
    rw [hs, h6, h2, ← EReal.coe_mul, ← EReal.coe_mul]
    change ((_ * rd z b (256 * n + j.val) (1024 + (h.val / 2 * 256 + (h.val % 2 * 128 + e.val))) : ℝ) : EReal) = _
    rw [hv]
  · have he : ∀ d ∈ Finset.range 64, ro z b 0 (256 * n + r.val) (h.val * 64 + d) * Real.exp (lgR h.val * ((r.val : ℝ) + 1)) *
        stR (lgR h.val) (fun j => ro z b 512 j (h.val * 64 + d)) (fun s => rd z b s (1024 + (h.val * 128 + e.val))) n
        = (fun c => ro z b 0 (256 * n + r.val) c * Real.exp (lgR (c / 64) * ((r.val : ℝ) + 1)) *
          stR (lgR (c / 64)) (fun j => ro z b 512 j c) (fun s => rd z b s (1024 + (h.val * 128 + e.val))) n) (h.val * 64 + d) := by
      intro d hd
      have hd := Finset.mem_range.mp hd
      have e1 : (h.val * 64 + d) / 64 = h.val := by omega
      dsimp only
      rw [e1]
    rw [Finset.sum_congr rfl he, ← head_sum (fun c => ro z b 0 (256 * n + r.val) c * Real.exp (lgR (c / 64) * ((r.val : ℝ) + 1)) *
      stR (lgR (c / 64)) (fun j => ro z b 512 j c) (fun s => rd z b s (1024 + (h.val * 128 + e.val))) n) h.val, coe_sum]
    refine Finset.sum_congr rfl fun l _ => ?_
    rw [hq, h7, hS, ← EReal.coe_mul, ← EReal.coe_mul]
    refine congrArg _ ?_
    have hm : (h.val % 2 * 128 + e.val) / 128 = h.val % 2 := by omega
    unfold stV
    simp only [hm, hv, col]
    by_cases hl : l.val / 64 = h.val % 2
    · rw [if_pos hl, if_pos hl]
    · rw [if_neg hl, if_neg hl, mul_zero]

end Cert.Ret
-- ==== Proof.Ret.Tables.lean ====
/- The retention kernel's decay tables, read at an index. -/
module

public import proofs.«01_k».proof.Proof.Ret.Reference
public import proofs.«01_k».proof.Proof.Gen.Kernel10Ideal.Frame
public import Idealize.ShloMosaic.Lib.StableHlo.ReadAt
public import Idealize.ShloMosaic.Lib.Claim
public import Idealize.ShloMosaic.Lib.Pointwise

@[expose] public section

set_option maxRecDepth 16384
set_option maxHeartbeats 1000000

noncomputable section

open Idealize.ShloMosaic Idealize.ShloMosaic.TcCoe Idealize.SL.Sem
open Idealize.ShloMosaic.Pipeline (Dat)

namespace Cert.Ret
open Cert.Kernel10Ideal Cert.Kernel10Ideal.Gen

variable (m : (ℓ : Loc nD τ sig) → Buf (Elt Ideal) ℓ) (c : Dev nD)

theorem one_real : (1 : EReal) = ((1 : ℝ) : EReal) := rfl

theorem cd_at (p : Fin 4) (l : Fin 128) (e : Fin 256) : V m c main_v70 (ix3 p l e) = ((Real.exp (lgR ((p.val * 128 + l.val) / 64) * 256) : ℝ) : EReal) := by
  unfold V
  after_reads_at
  rw [c2, c5, c256, word_real (by omega), lg_eq _ (by omega), ← EReal.coe_mul, Ideal.exp_coe]

theorem qw_at (r : Fin 256) (l : Fin 512) : V m c main_v85 (ix2 r l) = ((Real.exp (lgR (l.val / 64) * ((r.val : ℝ) + 1)) : ℝ) : EReal) := by
  unfold V
  after_reads_at
  rw [c2, c5, word_real (n := l.val / 64) (by omega), lg_eq _ (by omega), word_real (n := r.val) (by omega), one_real, ← EReal.coe_add, ← EReal.coe_mul, Ideal.exp_coe]

theorem kw_at (r : Fin 256) (l : Fin 512) :
    V m c main_v90 (ix2 r l) = ((Real.exp (lgR (l.val / 64) * (255 - (r.val : ℝ))) * (1 / 8) : ℝ) : EReal) := by
  unfold V
  after_reads_at
  rw [c2, c5, c255, c8, word_real (n := l.val / 64) (by omega), lg_eq _ (by omega), word_real (n := r.val) (by omega), ← EReal.coe_sub, ← EReal.coe_mul, Ideal.exp_coe,
    ← EReal.coe_mul]

theorem dec_at (h : Fin 8) (i j : Fin 256) :
    V m c main_v82 (ix3 h i j) = (((if j.val ≤ i.val then Real.exp (lgR h.val * ((i.val : ℝ) - j.val)) else 0) * (1 / 8) : ℝ) : EReal) := by
  unfold V
  after_reads_at
  rw [c2, c5, c8, word_real (n := h.val) (by omega), lg_eq _ (by omega), word_real (n := i.val) (by omega), word_real (n := j.val) (by omega), ← EReal.coe_sub]
  by_cases hij : j.val ≤ i.val
  · have h0 : (0 : ℝ) ≤ (i.val : ℝ) - j.val := sub_nonneg.mpr (Nat.cast_le.mpr hij)
    rw [if_pos (EReal.coe_nonneg.mpr h0), if_pos hij, max_eq_left (EReal.coe_nonneg.mpr h0), ← EReal.coe_mul, Ideal.exp_coe, ← EReal.coe_mul]
  · have h0 : ¬ (0 : ℝ) ≤ (i.val : ℝ) - j.val := fun h => hij (Nat.cast_le.mp (sub_nonneg.mp h))
    rw [if_neg (fun h => h0 (EReal.coe_nonneg.mp h)), if_neg hij, EReal.coe_mul]
    exact congrArg (· * _) c0

/-- The floor division of a lane by a head's width, in words. -/
theorem lane_word : ∀ l : Fin 128, Scalar.select
      (IntOp.andi
        (IntOp.cmpi CmpIPredicate.ne (if BitVec.ofNat 32 l.val = 0 then (0 : BitVec 32) else if (BitVec.ofNat 32 l.val).msb = true then -1 else 1)
          (if 64#32 = 0 then (0 : BitVec 32) else if (64#32).msb = true then -1 else 1))
        (IntOp.cmpi CmpIPredicate.ne (IntOp.remsi ArithUnit.host (BitVec.ofNat 32 l.val) 64#32) 0#32))
      (IntOp.subi (IntOp.divsi ArithUnit.host (BitVec.ofNat 32 l.val) 64#32) 1#32)
      (IntOp.divsi ArithUnit.host (BitVec.ofNat 32 l.val) 64#32) = BitVec.ofNat 32 (l.val / 64) := by
  decide +kernel

/-- The floor division of a column by a head's width, in words. -/
theorem column_word : ∀ e : Fin 256, Scalar.select
      (IntOp.andi
        (IntOp.cmpi CmpIPredicate.ne (if BitVec.ofNat 32 e.val = 0 then (0 : BitVec 32) else if (BitVec.ofNat 32 e.val).msb = true then -1 else 1)
          (if 128#32 = 0 then (0 : BitVec 32) else if (128#32).msb = true then -1 else 1))
        (IntOp.cmpi CmpIPredicate.ne (IntOp.remsi ArithUnit.host (BitVec.ofNat 32 e.val) 128#32) 0#32))
      (IntOp.subi (IntOp.divsi ArithUnit.host (BitVec.ofNat 32 e.val) 128#32) 1#32)
      (IntOp.divsi ArithUnit.host (BitVec.ofNat 32 e.val) 128#32) = BitVec.ofNat 32 (e.val / 128) := by
  decide +kernel

theorem bit_one : (FloatOps.uitofp (F := Ideal) FTy.f32 1#1 : EReal) = ((1 : ℝ) : EReal) := by
  show ((((1#1 : BitVec 1).toNat : ℕ) : ℝ) : EReal) = _
  simp

theorem bit_zero : (FloatOps.uitofp (F := Ideal) FTy.f32 0#1 : EReal) = ((0 : ℝ) : EReal) := by
  show ((((0#1 : BitVec 1).toNat : ℕ) : ℝ) : EReal) = _
  simp

theorem bd_at (l : Fin 128) (e : Fin 256) : V m c main_v80 (ix2 l e) = (((if l.val / 64 = e.val / 128 then 1 else 0) : ℝ) : EReal) := by
  unfold V
  after_reads_at
  simp only [id]
  refine Eq.trans (congrArg₂ (fun a b => (FloatOps.uitofp (F := Ideal) FTy.f32 (IntOp.cmpi CmpIPredicate.eq a b) : EReal)) (lane_word l) (column_word e)) ?_
  have hl : l.val / 64 = 0 ∨ l.val / 64 = 1 := by omega
  have he : e.val / 128 = 0 ∨ e.val / 128 = 1 := by omega
  rcases hl with hl | hl <;> rcases he with he | he <;> rw [hl, he]
  · exact bit_one.trans (by rw [if_pos rfl])
  · exact bit_zero.trans (by rw [if_neg (by decide)])
  · exact bit_zero.trans (by rw [if_neg (by decide)])
  · exact bit_one.trans (by rw [if_pos rfl])

end Cert.Ret
-- ==== Proof.Ret.Rope.lean ====
/- The retention kernel's rotation tables, read at an index. -/
module

public import proofs.«01_k».proof.Proof.Ret.Reference
public import proofs.«01_k».proof.Proof.Gen.Kernel10Ideal.Frame
public import Idealize.ShloMosaic.Lib.StableHlo.ReadAt
public import Idealize.ShloMosaic.Lib.Claim
public import Idealize.ShloMosaic.Lib.Pointwise

@[expose] public section

set_option maxRecDepth 16384
set_option maxHeartbeats 1000000

noncomputable section

open Idealize.ShloMosaic Idealize.ShloMosaic.TcCoe Idealize.SL.Sem
open Idealize.ShloMosaic.Pipeline (Dat)

namespace Cert.Ret
open Cert.Kernel10Ideal Cert.Kernel10Ideal.Gen

variable (m : (ℓ : Loc nD τ sig) → Buf (Elt Ideal) ℓ) (c : Dev nD)

open Cert.Reference10Ideal.Read

theorem cos_at (s : Fin 8192) (l : Fin 128) : V m c main_v15 (ix2 s l) = ((cosR s.val (l.val % 32) : ℝ) : EReal) := by
  refine Eq.trans ?_ (cos_real s ⟨l.val % 32, by omega⟩)
  have e0 : val_main_call0_v0 (F := Ideal) ix0 = (0 : EReal) := c0
  have e1 : val_main_call0_v1 (F := Ideal) ix0 = (1 : EReal) := c1
  have e2 : val_main_call0_cst_1 (F := Ideal) ix0 = (1 : EReal) := c1
  have e3 : val_main_call0_cst_0 (F := Ideal) ix0 = Ideal.ofBits .f32 0x41F80000#32 := rfl
  have e4 : val_main_cst_2 (F := Ideal) ix0 = (1 : EReal) := c1
  have e5 : val_main_cst_1 (F := Ideal) ix0 = Ideal.ofBits .f32 0x461C4000#32 := rfl
  unfold V
  after_reads_at
  pointwise [val_main_v18, val_main_v17, val_main_v16, val_main_v15, val_main_v14, val_main_v13, val_main_v12, val_main_v11, val_main_v10, val_main_v9, val_main_v8, val_main_v7,
    val_main_v5, val_main_call0_v15, val_main_call0_v14, val_main_call0_v13, val_main_call0_v12, val_main_call0_v11, val_main_call0_v10,
    val_main_call0_v9, val_main_call0_v8, val_main_call0_v7, val_main_call0_v6, val_main_call0_v5, val_main_call0_v4, val_main_call0_v3, val_main_call0_v16]
  rw [e0, e1, e2, e3, e4, e5]
  by_cases hl : l.val % 32 < 31
  · rw [dif_pos hl, dif_pos hl]
    after_reads_at
    show Ideal.cos (_ * Ideal.div 1 (Ideal.pow _ (Ideal.ofBits .f32 0x00000000#32 * _ + Ideal.ofBits .f32 0x3F800000#32 * _))) = _
    rw [c0, c1, EReal.coe_zero, EReal.coe_one, one_mul]
  · rw [dif_neg hl, dif_neg hl]
    after_reads_at
    show Ideal.cos (_ * Ideal.div 1 (Ideal.pow _ (Ideal.ofBits .f32 0x3F800000#32))) = _
    rw [c1, EReal.coe_one]

theorem sin_at (s : Fin 8192) (l : Fin 128) : V m c main_v22 (ix2 s l)
    = (((if l.val % 64 < 32 then -(sinR s.val (l.val % 32)) else sinR s.val (l.val % 32)) : ℝ) : EReal) := by
  have e0 : val_main_call0_v0 (F := Ideal) ix0 = (0 : EReal) := c0
  have e1 : val_main_call0_v1 (F := Ideal) ix0 = (1 : EReal) := c1
  have e2 : val_main_call0_cst_1 (F := Ideal) ix0 = (1 : EReal) := c1
  have e3 : val_main_call0_cst_0 (F := Ideal) ix0 = Ideal.ofBits .f32 0x41F80000#32 := rfl
  have e4 : val_main_cst_2 (F := Ideal) ix0 = (1 : EReal) := c1
  have e5 : val_main_cst_1 (F := Ideal) ix0 = Ideal.ofBits .f32 0x461C4000#32 := rfl
  have hs := sin_real s ⟨l.val % 32, by omega⟩
  pointwise [val_main_v20, val_main_v19, val_main_v17, val_main_v16, val_main_v15, val_main_v14, val_main_v13, val_main_v12, val_main_v11, val_main_v10, val_main_v9, val_main_v8, val_main_v7,
    val_main_v5, val_main_call0_v15, val_main_call0_v14, val_main_call0_v13, val_main_call0_v12, val_main_call0_v11, val_main_call0_v10,
    val_main_call0_v9, val_main_call0_v8, val_main_call0_v7, val_main_call0_v6, val_main_call0_v5, val_main_call0_v4, val_main_call0_v3, val_main_call0_v16] at hs
  rw [e0, e1, e2, e3, e4, e5] at hs
  unfold V
  after_reads_at
  by_cases h64 : l.val % 64 < 32
  · have e : (⟨l.val % 64, h64⟩ : Fin 32) = ⟨l.val % 32, by omega⟩ := Fin.ext (by dsimp only; omega)
    rw [dif_pos h64, if_pos h64, e, EReal.coe_neg, ← hs]
    after_reads_at
    by_cases hl : l.val % 32 < 31
    · rw [dif_pos hl, dif_pos hl]
      after_reads_at
      show -Ideal.sin (_ * Ideal.div 1 (Ideal.pow _ (Ideal.ofBits .f32 0x00000000#32 * _ + Ideal.ofBits .f32 0x3F800000#32 * _))) = _
      rw [c0, c1, EReal.coe_zero, EReal.coe_one, one_mul]
    · rw [dif_neg hl, dif_neg hl]
      after_reads_at
      show -Ideal.sin (_ * Ideal.div 1 (Ideal.pow _ (Ideal.ofBits .f32 0x3F800000#32))) = _
      rw [c1, EReal.coe_one]
  · have e : (⟨l.val % 64 - 32, by omega⟩ : Fin 32) = ⟨l.val % 32, by omega⟩ := Fin.ext (by dsimp only; omega)
    rw [dif_neg h64, if_neg h64, e, ← hs]
    after_reads_at
    by_cases hl : l.val % 32 < 31
    · rw [dif_pos hl, dif_pos hl]
      after_reads_at
      show Ideal.sin (_ * Ideal.div 1 (Ideal.pow _ (Ideal.ofBits .f32 0x00000000#32 * _ + Ideal.ofBits .f32 0x3F800000#32 * _))) = _
      rw [c0, c1, EReal.coe_zero, EReal.coe_one, one_mul]
    · rw [dif_neg hl, dif_neg hl]
      after_reads_at
      show Ideal.sin (_ * Ideal.div 1 (Ideal.pow _ (Ideal.ofBits .f32 0x3F800000#32))) = _
      rw [c1, EReal.coe_one]

end Cert.Ret
-- ==== Proof.Ret.Blocks.lean ====
/- The blocks of the retention's windows, read at an index. -/
module

public import proofs.«01_k».proof.Proof.Gen.Kernel10Ideal.Value
public import Idealize.ShloMosaic.Lib.Pipeline.ValueKit
public import Idealize.ShloMosaic.Lib.Claim
public import Idealize.ShloMosaic.Lib.Pointwise

@[expose] public section

set_option maxRecDepth 16384
set_option maxHeartbeats 1000000

noncomputable section

open Idealize.ShloMosaic Idealize.ShloMosaic.TcCoe Idealize.SL.Sem
open Idealize.ShloMosaic.Pipeline (Dat)

namespace Cert.Ret
open Cert.Kernel10Ideal Cert.Kernel10Ideal.Gen

/-- The block of each window at a grid point. -/
theorem idx : ∀ t : Fin cfg0.N, win0_0.index t = ![t.val / 32, t.val % 32, 0] ∧ win0_1.index t = ![t.val / 32, t.val % 32, 1] ∧
    win0_2.index t = ![t.val / 32, t.val % 32, 1] ∧ win0_3.index t = ![t.val / 32, t.val % 32, 2] ∧ win0_4.index t = ![t.val % 32, 0] ∧
    win0_5.index t = ![t.val % 32, 0] ∧ win0_6.index t = ![0, 0, 0] ∧ win0_7.index t = ![0, 0] ∧ win0_8.index t = ![0, 0] ∧ win0_9.index t = ![0, 0, 0] ∧
    win0_10.index t = ![0, 0] ∧ win0_11.index t = ![t.val / 32, t.val % 32, 0] :=
  (by decide +kernel : ∀ t : Fin grid0.N, _)

theorem lt64 (t : Fin cfg0.N) : t.val < 64 := lt_of_lt_of_eq t.isLt N_0

/-- A point's batch. -/
def bat (t : Fin cfg0.N) : Fin 2 := ⟨t.val / 32, by have := lt64 t; omega⟩

/-- The position of a row of a point's block. -/
def pos (t : Fin cfg0.N) (r : Fin 256) : Fin 8192 := ⟨256 * (t.val % 32) + r.val, by omega⟩

variable (m : (ℓ : Loc nD τ sig) → Buf (Elt Ideal) ℓ) (c : Dev nD) (t : Fin cfg0.N)

theorem blk0 (r : Fin 256) (l : Fin 512) : iblk m c 0 t (ix3 0 r l) = m ((c : Thread nD τ).loc main_arg0) (ix3 (bat t) (pos t r) ⟨l.val, by omega⟩) := by
  refine Eq.trans ?_ (congrFun (V_main_arg0 m c) _)
  blk_point [iblk, bat, pos, idx t]

theorem blk1 (r : Fin 256) (l : Fin 512) : iblk m c 1 t (ix3 0 r l) = m ((c : Thread nD τ).loc main_arg0) (ix3 (bat t) (pos t r) ⟨512 + l.val, by omega⟩) := by
  refine Eq.trans ?_ (congrFun (V_main_arg0 m c) _)
  blk_point [iblk, bat, pos, idx t]

theorem blk2 (r : Fin 256) (l : Fin 1024) : iblk m c 2 t (ix3 0 r l) = m ((c : Thread nD τ).loc main_arg0) (ix3 (bat t) (pos t r) ⟨1024 + l.val, by omega⟩) := by
  refine Eq.trans ?_ (congrFun (V_main_arg0 m c) _)
  blk_point [iblk, bat, pos, idx t]

theorem blk3 (r : Fin 256) (l : Fin 1024) : iblk m c 3 t (ix3 0 r l) = m ((c : Thread nD τ).loc main_arg0) (ix3 (bat t) (pos t r) ⟨2048 + l.val, by omega⟩) := by
  refine Eq.trans ?_ (congrFun (V_main_arg0 m c) _)
  blk_point [iblk, bat, pos, idx t]

theorem blk4 (r : Fin 256) (l : Fin 128) : iblk m c 4 t (ix2 r l) = V m c main_v15 (ix2 (pos t r) l) := by
  blk_point [iblk, pos, idx t]

theorem blk5 (r : Fin 256) (l : Fin 128) : iblk m c 5 t (ix2 r l) = V m c main_v22 (ix2 (pos t r) l) := by
  blk_point [iblk, pos, idx t]

theorem blk6 (h : Fin 8) (i j : Fin 256) : iblk m c 6 t (ix3 h i j) = V m c main_v82 (ix3 h i j) := by
  blk_point [iblk, idx t]

theorem blk7 (r : Fin 256) (l : Fin 512) : iblk m c 7 t (ix2 r l) = V m c main_v85 (ix2 r l) := by
  blk_point [iblk, idx t]

theorem blk8 (r : Fin 256) (l : Fin 512) : iblk m c 8 t (ix2 r l) = V m c main_v90 (ix2 r l) := by
  blk_point [iblk, idx t]

theorem blk9 (p : Fin 4) (l : Fin 128) (e : Fin 256) : iblk m c 9 t (ix3 p l e) = V m c main_v70 (ix3 p l e) := by
  blk_point [iblk, idx t]

theorem blk10 (l : Fin 128) (e : Fin 256) : iblk m c 10 t (ix2 l e) = V m c main_v80 (ix2 l e) := by
  blk_point [iblk, idx t]

theorem emb11 (r : Fin 256) (l : Fin 1024) : (((cfg0.win 11).blk t).view.emb (ix3 0 r l)) = (ix3 (bat t) (pos t r) l : S2x8192x1024.Idx) := by
  blk_ext [bat, pos, idx t]

end Cert.Ret
-- ==== Proof.Ret.Value.lean ====
/- The retention's claim: from finite arguments the kernel's result over the reals is the reference's. -/
module

public import proofs.«01_k».proof.Proof.Ret.State
public import proofs.«01_k».proof.Proof.Ret.OutA
public import proofs.«01_k».proof.Proof.Ret.OutB
public import proofs.«01_k».proof.Proof.Ret.Real
public import proofs.«01_k».proof.Proof.Ret.Tables
public import proofs.«01_k».proof.Proof.Ret.Rope
public import proofs.«01_k».proof.Proof.Ret.Blocks
public import proofs.«01_k».proof.Proof.Gen.Pre_finite10
public import proofs.«01_k».proof.Proof.Gen.Reference10Ideal.Run
public import proofs.«01_k».proof.Defs
public import Idealize.ShloMosaic.Lib.Pipeline.ValueKit
public import Idealize.ShloMosaic.Lib.Claim
public import Idealize.ShloMosaic.Lib.Quiescent
public import Idealize.ShloMosaic.Lib.Pointwise

@[expose] public section

set_option maxRecDepth 16384
set_option maxHeartbeats 1000000

noncomputable section

open Idealize.ShloMosaic Idealize.ShloMosaic.TcCoe Idealize.SL.Sem
open Idealize.ShloMosaic.Pipeline (Dat)

namespace Cert.Ret
open Cert.Kernel10Ideal Cert.Kernel10Ideal.Gen
open Cert.FoxValue (AllReal rd rd_eq real_of_lt lt_of_bit)

/-- The precondition says that every element is a real. -/
theorem real_of_pre [Cert.Pre_finite10.Facts] (x0 : FVec Ideal Cert.Pre_finite10.S2x8192x5120 .bf16)
    (h : Cert.Pre_finite10.fn (F := Ideal) x0 = (fun _ => 1#1)) : AllReal x0 := by
  refine fun i => real_of_lt _ ?_
  have e := congrFun h i
  pointwise [Cert.Pre_finite10.fn] at e
  exact lt_of_bit e

variable (m : (ℓ : Loc nD τ sig) → Buf (Elt Ideal) ℓ) (c : Dev nD) (hz : AllReal (m ((c : Thread nD τ).loc main_arg0)))
include hz

theorem rot0 (t : Fin cfg0.N) (r : Fin 256) (p : Fin 4) (l : Fin 128) : rot (iblk m c 0 t) (iblk m c 4 t) (iblk m c 5 t) r p l
    = ((ro (m ((c : Thread nD τ).loc main_arg0)) (bat t) 0 (256 * (t.val % 32) + r.val) (p.val * 128 + l.val) : ℝ) : EReal) := by
  refine rot_real _ (bat t) 0 (t.val % 32) _ _ _ (fun r c' => ?_) (fun r l => ?_) (fun r l => ?_) r p l
  · rw [blk0, rd_eq hz, Nat.zero_add]; rfl
  · rw [blk4, cos_at]; rfl
  · rw [blk5, sin_at]; rfl

theorem rot1 (t : Fin cfg0.N) (r : Fin 256) (p : Fin 4) (l : Fin 128) : rot (iblk m c 1 t) (iblk m c 4 t) (iblk m c 5 t) r p l
    = ((ro (m ((c : Thread nD τ).loc main_arg0)) (bat t) 512 (256 * (t.val % 32) + r.val) (p.val * 128 + l.val) : ℝ) : EReal) := by
  refine rot_real _ (bat t) 512 (t.val % 32) _ _ _ (fun r c' => ?_) (fun r l => ?_) (fun r l => ?_) r p l
  · rw [blk1, rd_eq hz]; rfl
  · rw [blk4, cos_at]; rfl
  · rw [blk5, sin_at]; rfl

theorem val2 (t : Fin cfg0.N) (j : Fin 256) (e : Fin 1024) : iblk m c 2 t (ix3 0 j e)
    = ((rd (m ((c : Thread nD τ).loc main_arg0)) (bat t) (256 * (t.val % 32) + j.val) (1024 + e.val) : ℝ) : EReal) := by
  rw [blk2, rd_eq hz]; rfl

/-- The state that a point leaves, from the state before it. -/
theorem step_at (t : Fin cfg0.N) (S : Fin 4 → Fin 128 → Fin 256 → EReal)
    (hS : ∀ (p : Fin 4) (l : Fin 128) (e : Fin 256), S p l e = ((stV (m ((c : Thread nD τ).loc main_arg0)) (bat t) (t.val % 32) p.val l.val e.val : ℝ) : EReal))
    (p : Fin 4) (l : Fin 128) (e : Fin 256) :
    stepS (iblk m c 1 t) (iblk m c 2 t) (iblk m c 4 t) (iblk m c 5 t) (iblk m c 8 t) (iblk m c 9 t) (iblk m c 10 t) S p l e
      = ((stV (m ((c : Thread nD τ).loc main_arg0)) (bat t) (t.val % 32 + 1) p.val l.val e.val : ℝ) : EReal) := by
  refine step_real _ (bat t) (t.val % 32) _ _ _ _ _ _ _ S (rot1 m c hz t) (val2 m c hz t) hS (fun j c' => ?_) (fun p l e => ?_) (fun l e => ?_) p l e
  · rw [blk8, kw_at]
  · rw [blk9, cd_at]
  · rw [blk10, bd_at]

theorem state_at : ∀ (n : ℕ) (t : Fin cfg0.N) (ht : t.val % 32 = n) (p : Fin 4) (l : Fin 128) (e : Fin 256), (outsAt0 m c t.val t.isLt).2 (ix3 p l e)
    = ((stV (m ((c : Thread nD τ).loc main_arg0)) (bat t) (n + 1) p.val l.val e.val : ℝ) : EReal) := by
  intro n
  induction n with
  | zero =>
    intro t ht p l e
    rw [stepA m c t ht, step_at m c hz t _ (fun p l e => ?_), ht]
    rw [ht, stV_zero]
    rfl
  | succ n ih =>
    intro t ht p l e
    rw [stepB m c t (by omega), step_at m c hz t _ (fun p l e => ?_), ht]
    rw [ih ⟨t.val - 1, Nat.lt_of_le_of_lt (Nat.sub_le _ _) t.isLt⟩ (by dsimp only; omega) p l e, ht]
    have hb : bat ⟨t.val - 1, Nat.lt_of_le_of_lt (Nat.sub_le _ _) t.isLt⟩ = bat t := Fin.ext (by simp only [bat]; omega)
    rw [hb]

/-- A point's rows before the norm, from the state before it, are the reference's. -/
theorem row_point (t : Fin cfg0.N) (S : Fin 4 → Fin 128 → Fin 256 → EReal)
    (hS : ∀ (p : Fin 4) (l : Fin 128) (e : Fin 256), S p l e = ((stV (m ((c : Thread nD τ).loc main_arg0)) (bat t) (t.val % 32) p.val l.val e.val : ℝ) : EReal))
    (h : Fin 8) (r : Fin 256) : row (iblk m c 0 t) (iblk m c 1 t) (iblk m c 2 t) (iblk m c 4 t) (iblk m c 5 t) (iblk m c 6 t) (iblk m c 7 t) S h r
      = fun e => Cert.Reference10Ideal.Read.val_main_v99 (F := Ideal) (m ((c : Thread nD τ).loc main_arg0)) (ix4 (bat t) h (pos t r) e) := by
  funext e
  rw [y_at _ hz]
  refine row_at _ (bat t) (t.val % 32) _ _ _ _ _ _ _ S (rot1 m c hz t) (val2 m c hz t) hS (Nat.mod_lt _ (by decide)) (rot0 m c hz t) (fun h i j => ?_) (fun r c' => ?_) h r e
  · rw [blk6, dec_at]
  · rw [blk7, qw_at]

/-- What the kernel leaves at an element of a point's block. -/
theorem out_point (t : Fin cfg0.N) (r : Fin 256) (h : Fin 8) (e : Fin 128) : (outsAt0 m c t.val t.isLt).1 (ix3 0 r ⟨h.val * 128 + e.val, by omega⟩)
    = Cert.Reference10Ideal.Read.val_main_v122 (F := Ideal) (m ((c : Thread nD τ).loc main_arg0)) (ix3 (bat t) (pos t r) ⟨h.val * 128 + e.val, by omega⟩) := by
  rw [out_at]
  by_cases ht : t.val % 32 = 0
  · rw [outA m c t ht, row_point m c hz t _ (fun p l e => by rw [ht, stV_zero]; rfl), blk3]
  · rw [outB m c t ht, row_point m c hz t _ (fun p l e => ?_), blk3]
    have e1 : (t.val - 1) % 32 + 1 = t.val % 32 := by omega
    have hb : bat ⟨t.val - 1, Nat.lt_of_le_of_lt (Nat.sub_le _ _) t.isLt⟩ = bat t := Fin.ext (by simp only [bat]; omega)
    refine (state_at m c hz _ ⟨t.val - 1, Nat.lt_of_le_of_lt (Nat.sub_le _ _) t.isLt⟩ rfl p l e).trans ?_
    change ((stV _ (bat ⟨t.val - 1, _⟩) ((t.val - 1) % 32 + 1) _ _ _ : ℝ) : EReal) = _
    rw [hb, e1]

/-- The kernel's result is the reference's function of the arguments. -/
theorem final : (dats m 0 c).arrAt 11 (cfgs 0).N
    = Cert.Reference10Ideal.Read.val_main_v122 (F := Ideal) (m ((c : Thread nD τ).loc main_arg0)) := by
  refine (dats m 0 c).arrAt_eq_of_covers 11 _ (by decide +kernel) fun t _ y => ?_
  blk_simp
  rw [after0_11]
  idx_vars y
  obtain rfl : y0 = 0 := Subsingleton.elim _ _
  have h2 : y2.val < 1024 := y2.isLt
  have ey : (⟨y2.val / 128 * 128 + y2.val % 128, by omega⟩ : Fin 1024) = y2 := Fin.ext (by dsimp only; omega)
  have h := out_point m c hz t y1 ⟨y2.val / 128, by omega⟩ ⟨y2.val % 128, by omega⟩
  dsimp only at h
  rw [ey] at h
  exact h.trans (congrArg (Cert.Reference10Ideal.Read.val_main_v122 (F := Ideal) (m ((c : Thread nD τ).loc main_arg0))) (emb11 t y1 y2)).symm

end Cert.Ret

set_option maxRecDepth 100000 in
theorem Cert.Ret.algebraic : Cert.algebraic_Kernel10Ideal_Reference10Ideal_pre_finite10 := by
  pair_intro
  · run_from Cert.Kernel10Ideal.Gen.run_main m g
  · run_from Cert.Reference10Ideal.Value.run m' g'
    have h := Cert.Ret.real_of_pre _ (hpre c)
    refine Eq.trans ?_ (Cert.Ret.final m c h).symm
    rw [← hagree c]
    exact Cert.Reference10Ideal.Read.val_main_v122_eq (F := Ideal) _

theorem Cert.Ret.frame_r : Cert.quiescent_Reference10Ideal := by
  intro m ρ _
  exact (θ_run Cert.Reference10Ideal.defs _ _).mono (fun r h => ⟨fun c => (h c).2,
      sem_eq_zero_of_no_sems (by decide) r.2⟩) (Cert.Reference10Ideal.Value.run (F := Ideal) m ρ)

theorem Cert.Ret.frame_r_finite : Cert.quiescent_Reference10Ideal_pre_finite10 := by
  intro m ρ _
  exact (θ_run Cert.Reference10Ideal.defs _ _).mono (fun r h => ⟨fun c => (h c).2,
      sem_eq_zero_of_no_sems (by decide) r.2⟩) (Cert.Reference10Ideal.Value.run (F := Ideal) m ρ)

end
-- ==== Proof.lean ====
module

public import proofs.«01_k».proof.Defs
public import proofs.«01_k».proof.Proof.Gen.Kernel
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Launch
public import proofs.«01_k».proof.Proof.Gen.Kernel10.Points
public import proofs.«01_k».proof.Proof.Gen.Kernel10.Frame
public import proofs.«01_k».proof.Proof.Gen.Kernel10.Skeleton
public import proofs.«01_k».proof.Proof.Gen.Kernel10Ideal
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Skeleton
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Pre_finite10
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel4Ideal.Value
public import proofs.«01_k».proof.Proof.Gen.Reference4Ideal.Run
public import proofs.«01_k».proof.Proof.Gen.Kernel5Ideal.Value
public import proofs.«01_k».proof.Proof.Gen.Reference5Ideal.Run
public import proofs.«01_k».proof.Proof.Gen.Kernel6Ideal.Value
public import proofs.«01_k».proof.Proof.Gen.Reference6Ideal.Run
public import proofs.«01_k».proof.Proof.Fox.Frame
public import proofs.«01_k».proof.Proof.Fox.FrameIdeal
public import proofs.«01_k».proof.Proof.Fox.Value
public import proofs.«01_k».proof.Proof.Ff1
public import proofs.«01_k».proof.Proof.Ff2
public import proofs.«01_k».proof.Proof.InLo
public import proofs.«01_k».proof.Proof.InHi
public import proofs.«01_k».proof.Proof.Out
public import proofs.«01_k».proof.Proof.Gating
public import proofs.«01_k».proof.Proof.RowsMid
public import proofs.«01_k».proof.Proof.RowsLast
public import proofs.«01_k».proof.Proof.Ret.Value
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Pre_finite.Gen.facts, Cert.Pre_finite10.Gen.facts,
  fun m ρ _ => Cert.Fox.K.frame m ρ, fun m ρ _ => Cert.FoxIdeal.K.frame m ρ, fun m ρ _ => Cert.FoxIdeal.K.frame m ρ, Cert.FoxValue.frame_r, Cert.FoxValue.frame_r_finite,
  fun m ρ _ => Cert.Kernel2.Gen.frame m ρ, fun m ρ _ => Cert.Kernel2Ideal.Gen.frame m ρ, Cert.Ff1.frame_r,
  fun m ρ _ => Cert.Kernel3.Gen.frame m ρ, fun m ρ _ => Cert.Kernel3Ideal.Gen.frame m ρ, Cert.Ff2.frame_r,
  fun m ρ _ => Cert.Kernel4.Gen.frame m ρ, fun m ρ _ => Cert.Kernel4Ideal.Gen.frame m ρ, Cert.InLo.frame_r,
  fun m ρ _ => Cert.Kernel5.Gen.frame m ρ, fun m ρ _ => Cert.Kernel5Ideal.Gen.frame m ρ, Cert.InHi.frame_r,
  fun m ρ _ => Cert.Kernel6.Gen.frame m ρ, fun m ρ _ => Cert.Kernel6Ideal.Gen.frame m ρ, Cert.Out.frame_r,
  fun m ρ _ => Cert.Kernel7.Gen.frame m ρ, fun m ρ _ => Cert.Kernel7Ideal.Gen.frame m ρ, Cert.Gating.frame_r,
  fun m ρ _ => Cert.Kernel8.Gen.frame m ρ, fun m ρ _ => Cert.Kernel8Ideal.Gen.frame m ρ, Cert.RowsMid.frame_r,
  fun m ρ _ => Cert.Kernel9.Gen.frame m ρ, fun m ρ _ => Cert.Kernel9Ideal.Gen.frame m ρ, Cert.RowsLast.frame_r,
  fun m ρ _ => Cert.Kernel10.Gen.frame m ρ, fun m ρ _ => Cert.Kernel10Ideal.Gen.frame m ρ, fun m ρ _ => Cert.Kernel10Ideal.Gen.frame m ρ, Cert.Ret.frame_r, Cert.Ret.frame_r_finite,
  trivial, Cert.FoxValue.algebraic,
  trivial, Cert.Ff1.algebraic,
  trivial, Cert.Ff2.algebraic,
  trivial, Cert.InLo.algebraic,
  trivial, Cert.InHi.algebraic,
  trivial, Cert.Out.algebraic,
  trivial, Cert.Gating.algebraic,
  trivial, Cert.RowsMid.algebraic,
  trivial, Cert.RowsLast.algebraic,
  trivial, Cert.Ret.algebraic⟩

end Cert.Proof

end
